-- ==== Defs.lean ====
def Pre_Retrieve [hPre_rows_in_range : Cert.Pre_rows_in_range.Facts] (m : (ℓ : Loc Cert.Retrieve.nD Cert.Retrieve.τ Cert.Retrieve.sig) → Buf (Elt Bits) ℓ) : Prop :=
  ∀ c : Dev Cert.Retrieve.nD,
    (Cert.Pre_rows_in_range.fn (F := Bits) (m ((c.tc : Thread Cert.Retrieve.nD Cert.Retrieve.τ).loc Cert.Retrieve.main_arg0)) (m ((c.tc : Thread Cert.Retrieve.nD Cert.Retrieve.τ).loc Cert.Retrieve.main_arg1)) (m ((c.tc : Thread Cert.Retrieve.nD Cert.Retrieve.τ).loc Cert.Retrieve.main_arg2))) = (fun _ => 1#1)

def Pre_RetrieveIdeal [hPre_rows_in_range : Cert.Pre_rows_in_range.Facts] (m : (ℓ : Loc Cert.RetrieveIdeal.nD Cert.RetrieveIdeal.τ Cert.RetrieveIdeal.sig) → Buf (Elt Ideal) ℓ) : Prop :=
  ∀ c : Dev Cert.RetrieveIdeal.nD,
    (Cert.Pre_rows_in_range.fn (F := Ideal) (m ((c.tc : Thread Cert.RetrieveIdeal.nD Cert.RetrieveIdeal.τ).loc Cert.RetrieveIdeal.main_arg0)) (m ((c.tc : Thread Cert.RetrieveIdeal.nD Cert.RetrieveIdeal.τ).loc Cert.RetrieveIdeal.main_arg1)) (m ((c.tc : Thread Cert.RetrieveIdeal.nD Cert.RetrieveIdeal.τ).loc Cert.RetrieveIdeal.main_arg2))) = (fun _ => 1#1)

def Pre_RetrieveReferenceIdeal (m : (ℓ : Loc Cert.RetrieveReferenceIdeal.nD Cert.RetrieveReferenceIdeal.τ Cert.RetrieveReferenceIdeal.sig) → Buf (Elt Ideal) ℓ) : Prop :=
  True

def Pre_RetrieveReferenceIdeal_rows_in_range [hPre_rows_in_range : Cert.Pre_rows_in_range.Facts] (m : (ℓ : Loc Cert.RetrieveReferenceIdeal.nD Cert.RetrieveReferenceIdeal.τ Cert.RetrieveReferenceIdeal.sig) → Buf (Elt Ideal) ℓ) : Prop :=
  ∀ c : Dev Cert.RetrieveReferenceIdeal.nD,
    (Cert.Pre_rows_in_range.fn (F := Ideal) (m ((c.tc : Thread Cert.RetrieveReferenceIdeal.nD Cert.RetrieveReferenceIdeal.τ).loc Cert.RetrieveReferenceIdeal.main_arg0)) (m ((c.tc : Thread Cert.RetrieveReferenceIdeal.nD Cert.RetrieveReferenceIdeal.τ).loc Cert.RetrieveReferenceIdeal.main_arg1)) (m ((c.tc : Thread Cert.RetrieveReferenceIdeal.nD Cert.RetrieveReferenceIdeal.τ).loc Cert.RetrieveReferenceIdeal.main_arg2))) = (fun _ => 1#1)

def Pre_Chunks [hPre_chunks_in_range : Cert.Pre_chunks_in_range.Facts] (m : (ℓ : Loc Cert.Chunks.nD Cert.Chunks.τ Cert.Chunks.sig) → Buf (Elt Bits) ℓ) : Prop :=
  ∀ c : Dev Cert.Chunks.nD,
    (Cert.Pre_chunks_in_range.fn (F := Bits) (m ((c.tc : Thread Cert.Chunks.nD Cert.Chunks.τ).loc Cert.Chunks.main_arg0)) (m ((c.tc : Thread Cert.Chunks.nD Cert.Chunks.τ).loc Cert.Chunks.main_arg1))) = (fun _ => 1#1)

def Pre_ChunksIdeal [hPre_chunks_in_range : Cert.Pre_chunks_in_range.Facts] (m : (ℓ : Loc Cert.ChunksIdeal.nD Cert.ChunksIdeal.τ Cert.ChunksIdeal.sig) → Buf (Elt Ideal) ℓ) : Prop :=
  ∀ c : Dev Cert.ChunksIdeal.nD,
    (Cert.Pre_chunks_in_range.fn (F := Ideal) (m ((c.tc : Thread Cert.ChunksIdeal.nD Cert.ChunksIdeal.τ).loc Cert.ChunksIdeal.main_arg0)) (m ((c.tc : Thread Cert.ChunksIdeal.nD Cert.ChunksIdeal.τ).loc Cert.ChunksIdeal.main_arg1))) = (fun _ => 1#1)

def Pre_ChunksReferenceIdeal (m : (ℓ : Loc Cert.ChunksReferenceIdeal.nD Cert.ChunksReferenceIdeal.τ Cert.ChunksReferenceIdeal.sig) → Buf (Elt Ideal) ℓ) : Prop :=
  True

def Pre_ChunksReferenceIdeal_chunks_in_range [hPre_chunks_in_range : Cert.Pre_chunks_in_range.Facts] (m : (ℓ : Loc Cert.ChunksReferenceIdeal.nD Cert.ChunksReferenceIdeal.τ Cert.ChunksReferenceIdeal.sig) → Buf (Elt Ideal) ℓ) : Prop :=
  ∀ c : Dev Cert.ChunksReferenceIdeal.nD,
    (Cert.Pre_chunks_in_range.fn (F := Ideal) (m ((c.tc : Thread Cert.ChunksReferenceIdeal.nD Cert.ChunksReferenceIdeal.τ).loc Cert.ChunksReferenceIdeal.main_arg0)) (m ((c.tc : Thread Cert.ChunksReferenceIdeal.nD Cert.ChunksReferenceIdeal.τ).loc Cert.ChunksReferenceIdeal.main_arg1))) = (fun _ => 1#1)

def Pre_Normalize (m : (ℓ : Loc Cert.Normalize.nD Cert.Normalize.τ Cert.Normalize.sig) → Buf (Elt Bits) ℓ) : Prop :=
  True

def Pre_NormalizeIdeal (m : (ℓ : Loc Cert.NormalizeIdeal.nD Cert.NormalizeIdeal.τ Cert.NormalizeIdeal.sig) → Buf (Elt Ideal) ℓ) : Prop :=
  True

def Pre_NormalizeReferenceIdeal (m : (ℓ : Loc Cert.NormalizeReferenceIdeal.nD Cert.NormalizeReferenceIdeal.τ Cert.NormalizeReferenceIdeal.sig) → Buf (Elt Ideal) ℓ) : Prop :=
  True

def Pre_Similarity (m : (ℓ : Loc Cert.Similarity.nD Cert.Similarity.τ Cert.Similarity.sig) → Buf (Elt Bits) ℓ) : Prop :=
  True

def Pre_SimilarityIdeal (m : (ℓ : Loc Cert.SimilarityIdeal.nD Cert.SimilarityIdeal.τ Cert.SimilarityIdeal.sig) → Buf (Elt Ideal) ℓ) : Prop :=
  True

def Pre_SimilarityReferenceIdeal (m : (ℓ : Loc Cert.SimilarityReferenceIdeal.nD Cert.SimilarityReferenceIdeal.τ Cert.SimilarityReferenceIdeal.sig) → Buf (Elt Ideal) ℓ) : Prop :=
  True

def Pre_Select (m : (ℓ : Loc Cert.Select.nD Cert.Select.τ Cert.Select.sig) → Buf (Elt Bits) ℓ) : Prop :=
  True

def Pre_SelectIdeal (m : (ℓ : Loc Cert.SelectIdeal.nD Cert.SelectIdeal.τ Cert.SelectIdeal.sig) → Buf (Elt Ideal) ℓ) : Prop :=
  True

def Pre_SelectIdeal_maxima_above_mask [hPre_maxima_above_mask : Cert.Pre_maxima_above_mask.Facts] (m : (ℓ : Loc Cert.SelectIdeal.nD Cert.SelectIdeal.τ Cert.SelectIdeal.sig) → Buf (Elt Ideal) ℓ) : Prop :=
  ∀ c : Dev Cert.SelectIdeal.nD,
    (Cert.Pre_maxima_above_mask.fn (F := Ideal) (m ((c.tc : Thread Cert.SelectIdeal.nD Cert.SelectIdeal.τ).loc Cert.SelectIdeal.main_arg0))) = (fun _ => 1#1)

def Pre_SelectReferenceIdeal (m : (ℓ : Loc Cert.SelectReferenceIdeal.nD Cert.SelectReferenceIdeal.τ Cert.SelectReferenceIdeal.sig) → Buf (Elt Ideal) ℓ) : Prop :=
  True

def Pre_SelectReferenceIdeal_maxima_above_mask [hPre_maxima_above_mask : Cert.Pre_maxima_above_mask.Facts] (m : (ℓ : Loc Cert.SelectReferenceIdeal.nD Cert.SelectReferenceIdeal.τ Cert.SelectReferenceIdeal.sig) → Buf (Elt Ideal) ℓ) : Prop :=
  ∀ c : Dev Cert.SelectReferenceIdeal.nD,
    (Cert.Pre_maxima_above_mask.fn (F := Ideal) (m ((c.tc : Thread Cert.SelectReferenceIdeal.nD Cert.SelectReferenceIdeal.τ).loc Cert.SelectReferenceIdeal.main_arg0))) = (fun _ => 1#1)

def Pre_Candidates (m : (ℓ : Loc Cert.Candidates.nD Cert.Candidates.τ Cert.Candidates.sig) → Buf (Elt Bits) ℓ) : Prop :=
  True

def Pre_CandidatesIdeal (m : (ℓ : Loc Cert.CandidatesIdeal.nD Cert.CandidatesIdeal.τ Cert.CandidatesIdeal.sig) → Buf (Elt Ideal) ℓ) : Prop :=
  True

def Pre_CandidatesIdeal_candidates_apart [hPre_candidates_apart : Cert.Pre_candidates_apart.Facts] (m : (ℓ : Loc Cert.CandidatesIdeal.nD Cert.CandidatesIdeal.τ Cert.CandidatesIdeal.sig) → Buf (Elt Ideal) ℓ) : Prop :=
  ∀ c : Dev Cert.CandidatesIdeal.nD,
    (Cert.Pre_candidates_apart.fn (F := Ideal) (m ((c.tc : Thread Cert.CandidatesIdeal.nD Cert.CandidatesIdeal.τ).loc Cert.CandidatesIdeal.main_arg0)) (m ((c.tc : Thread Cert.CandidatesIdeal.nD Cert.CandidatesIdeal.τ).loc Cert.CandidatesIdeal.main_arg1))) = (fun _ => 1#1)

def Pre_CandidatesReferenceIdeal (m : (ℓ : Loc Cert.CandidatesReferenceIdeal.nD Cert.CandidatesReferenceIdeal.τ Cert.CandidatesReferenceIdeal.sig) → Buf (Elt Ideal) ℓ) : Prop :=
  True

def Pre_CandidatesReferenceIdeal_candidates_apart [hPre_candidates_apart : Cert.Pre_candidates_apart.Facts] (m : (ℓ : Loc Cert.CandidatesReferenceIdeal.nD Cert.CandidatesReferenceIdeal.τ Cert.CandidatesReferenceIdeal.sig) → Buf (Elt Ideal) ℓ) : Prop :=
  ∀ c : Dev Cert.CandidatesReferenceIdeal.nD,
    (Cert.Pre_candidates_apart.fn (F := Ideal) (m ((c.tc : Thread Cert.CandidatesReferenceIdeal.nD Cert.CandidatesReferenceIdeal.τ).loc Cert.CandidatesReferenceIdeal.main_arg0)) (m ((c.tc : Thread Cert.CandidatesReferenceIdeal.nD Cert.CandidatesReferenceIdeal.τ).loc Cert.CandidatesReferenceIdeal.main_arg1))) = (fun _ => 1#1)

def quiescent_Retrieve [hRetrieve : Cert.Retrieve.Facts] [hPre_rows_in_range : Cert.Pre_rows_in_range.Facts] : Prop :=
  ∀ (m : (ℓ : Loc Cert.Retrieve.nD Cert.Retrieve.τ Cert.Retrieve.sig) → Buf (Elt Bits) ℓ) (g : Dev Cert.Retrieve.nD → PrngReg), Pre_Retrieve m →
    θ_run (Cert.Retrieve.defs (F := Bits)) (Cert.Retrieve.threads (F := Bits)) ⟨m, fun _ => 0, g⟩ (fun r => (∀ c : Dev Cert.Retrieve.nD,
      r.2.mem ((c.tc : Thread Cert.Retrieve.nD Cert.Retrieve.τ).loc Cert.Retrieve.main_arg0) = m ((c.tc : Thread Cert.Retrieve.nD Cert.Retrieve.τ).loc Cert.Retrieve.main_arg0)
      ∧ r.2.mem ((c.tc : Thread Cert.Retrieve.nD Cert.Retrieve.τ).loc Cert.Retrieve.main_arg1) = m ((c.tc : Thread Cert.Retrieve.nD Cert.Retrieve.τ).loc Cert.Retrieve.main_arg1)
      ∧ r.2.mem ((c.tc : Thread Cert.Retrieve.nD Cert.Retrieve.τ).loc Cert.Retrieve.main_arg2) = m ((c.tc : Thread Cert.Retrieve.nD Cert.Retrieve.τ).loc Cert.Retrieve.main_arg2))
      ∧ r.2.sem = fun _ => 0)

def quiescent_RetrieveIdeal [hRetrieveIdeal : Cert.RetrieveIdeal.Facts] [hPre_rows_in_range : Cert.Pre_rows_in_range.Facts] : Prop :=
  ∀ (m : (ℓ : Loc Cert.RetrieveIdeal.nD Cert.RetrieveIdeal.τ Cert.RetrieveIdeal.sig) → Buf (Elt Ideal) ℓ) (g : Dev Cert.RetrieveIdeal.nD → PrngReg), Pre_RetrieveIdeal m →
    θ_run (Cert.RetrieveIdeal.defs (F := Ideal)) (Cert.RetrieveIdeal.threads (F := Ideal)) ⟨m, fun _ => 0, g⟩ (fun r => (∀ c : Dev Cert.RetrieveIdeal.nD,
      r.2.mem ((c.tc : Thread Cert.RetrieveIdeal.nD Cert.RetrieveIdeal.τ).loc Cert.RetrieveIdeal.main_arg0) = m ((c.tc : Thread Cert.RetrieveIdeal.nD Cert.RetrieveIdeal.τ).loc Cert.RetrieveIdeal.main_arg0)
      ∧ r.2.mem ((c.tc : Thread Cert.RetrieveIdeal.nD Cert.RetrieveIdeal.τ).loc Cert.RetrieveIdeal.main_arg1) = m ((c.tc : Thread Cert.RetrieveIdeal.nD Cert.RetrieveIdeal.τ).loc Cert.RetrieveIdeal.main_arg1)
      ∧ r.2.mem ((c.tc : Thread Cert.RetrieveIdeal.nD Cert.RetrieveIdeal.τ).loc Cert.RetrieveIdeal.main_arg2) = m ((c.tc : Thread Cert.RetrieveIdeal.nD Cert.RetrieveIdeal.τ).loc Cert.RetrieveIdeal.main_arg2))
      ∧ r.2.sem = fun _ => 0)

def quiescent_RetrieveReferenceIdeal [hRetrieveReferenceIdeal : Cert.RetrieveReferenceIdeal.Facts] : Prop :=
  ∀ (m : (ℓ : Loc Cert.RetrieveReferenceIdeal.nD Cert.RetrieveReferenceIdeal.τ Cert.RetrieveReferenceIdeal.sig) → Buf (Elt Ideal) ℓ) (g : Dev Cert.RetrieveReferenceIdeal.nD → PrngReg), Pre_RetrieveReferenceIdeal m →
    θ_run (Cert.RetrieveReferenceIdeal.defs (F := Ideal)) (onTc (τ := Cert.RetrieveReferenceIdeal.τ) (Cert.RetrieveReferenceIdeal.main (F := Ideal))) ⟨m, fun _ => 0, g⟩ (fun r => (∀ c : Dev Cert.RetrieveReferenceIdeal.nD,
      r.2.mem ((c.tc : Thread Cert.RetrieveReferenceIdeal.nD Cert.RetrieveReferenceIdeal.τ).loc Cert.RetrieveReferenceIdeal.main_arg0) = m ((c.tc : Thread Cert.RetrieveReferenceIdeal.nD Cert.RetrieveReferenceIdeal.τ).loc Cert.RetrieveReferenceIdeal.main_arg0)
      ∧ r.2.mem ((c.tc : Thread Cert.RetrieveReferenceIdeal.nD Cert.RetrieveReferenceIdeal.τ).loc Cert.RetrieveReferenceIdeal.main_arg1) = m ((c.tc : Thread Cert.RetrieveReferenceIdeal.nD Cert.RetrieveReferenceIdeal.τ).loc Cert.RetrieveReferenceIdeal.main_arg1)
      ∧ r.2.mem ((c.tc : Thread Cert.RetrieveReferenceIdeal.nD Cert.RetrieveReferenceIdeal.τ).loc Cert.RetrieveReferenceIdeal.main_arg2) = m ((c.tc : Thread Cert.RetrieveReferenceIdeal.nD Cert.RetrieveReferenceIdeal.τ).loc Cert.RetrieveReferenceIdeal.main_arg2))
      ∧ r.2.sem = fun _ => 0)

def quiescent_RetrieveReferenceIdeal_pre_rows_in_range [hRetrieveReferenceIdeal : Cert.RetrieveReferenceIdeal.Facts] [hPre_rows_in_range : Cert.Pre_rows_in_range.Facts] : Prop :=
  ∀ (m : (ℓ : Loc Cert.RetrieveReferenceIdeal.nD Cert.RetrieveReferenceIdeal.τ Cert.RetrieveReferenceIdeal.sig) → Buf (Elt Ideal) ℓ) (g : Dev Cert.RetrieveReferenceIdeal.nD → PrngReg), Pre_RetrieveReferenceIdeal_rows_in_range m →
    θ_run (Cert.RetrieveReferenceIdeal.defs (F := Ideal)) (onTc (τ := Cert.RetrieveReferenceIdeal.τ) (Cert.RetrieveReferenceIdeal.main (F := Ideal))) ⟨m, fun _ => 0, g⟩ (fun r => (∀ c : Dev Cert.RetrieveReferenceIdeal.nD,
      r.2.mem ((c.tc : Thread Cert.RetrieveReferenceIdeal.nD Cert.RetrieveReferenceIdeal.τ).loc Cert.RetrieveReferenceIdeal.main_arg0) = m ((c.tc : Thread Cert.RetrieveReferenceIdeal.nD Cert.RetrieveReferenceIdeal.τ).loc Cert.RetrieveReferenceIdeal.main_arg0)
      ∧ r.2.mem ((c.tc : Thread Cert.RetrieveReferenceIdeal.nD Cert.RetrieveReferenceIdeal.τ).loc Cert.RetrieveReferenceIdeal.main_arg1) = m ((c.tc : Thread Cert.RetrieveReferenceIdeal.nD Cert.RetrieveReferenceIdeal.τ).loc Cert.RetrieveReferenceIdeal.main_arg1)
      ∧ r.2.mem ((c.tc : Thread Cert.RetrieveReferenceIdeal.nD Cert.RetrieveReferenceIdeal.τ).loc Cert.RetrieveReferenceIdeal.main_arg2) = m ((c.tc : Thread Cert.RetrieveReferenceIdeal.nD Cert.RetrieveReferenceIdeal.τ).loc Cert.RetrieveReferenceIdeal.main_arg2))
      ∧ r.2.sem = fun _ => 0)

def quiescent_Chunks [hChunks : Cert.Chunks.Facts] [hPre_chunks_in_range : Cert.Pre_chunks_in_range.Facts] : Prop :=
  ∀ (m : (ℓ : Loc Cert.Chunks.nD Cert.Chunks.τ Cert.Chunks.sig) → Buf (Elt Bits) ℓ) (g : Dev Cert.Chunks.nD → PrngReg), Pre_Chunks m →
    θ_run (Cert.Chunks.defs (F := Bits)) (Cert.Chunks.threads (F := Bits)) ⟨m, fun _ => 0, g⟩ (fun r => (∀ c : Dev Cert.Chunks.nD,
      r.2.mem ((c.tc : Thread Cert.Chunks.nD Cert.Chunks.τ).loc Cert.Chunks.main_arg0) = m ((c.tc : Thread Cert.Chunks.nD Cert.Chunks.τ).loc Cert.Chunks.main_arg0)
      ∧ r.2.mem ((c.tc : Thread Cert.Chunks.nD Cert.Chunks.τ).loc Cert.Chunks.main_arg1) = m ((c.tc : Thread Cert.Chunks.nD Cert.Chunks.τ).loc Cert.Chunks.main_arg1))
      ∧ r.2.sem = fun _ => 0)

def quiescent_ChunksIdeal [hChunksIdeal : Cert.ChunksIdeal.Facts] [hPre_chunks_in_range : Cert.Pre_chunks_in_range.Facts] : Prop :=
  ∀ (m : (ℓ : Loc Cert.ChunksIdeal.nD Cert.ChunksIdeal.τ Cert.ChunksIdeal.sig) → Buf (Elt Ideal) ℓ) (g : Dev Cert.ChunksIdeal.nD → PrngReg), Pre_ChunksIdeal m →
    θ_run (Cert.ChunksIdeal.defs (F := Ideal)) (Cert.ChunksIdeal.threads (F := Ideal)) ⟨m, fun _ => 0, g⟩ (fun r => (∀ c : Dev Cert.ChunksIdeal.nD,
      r.2.mem ((c.tc : Thread Cert.ChunksIdeal.nD Cert.ChunksIdeal.τ).loc Cert.ChunksIdeal.main_arg0) = m ((c.tc : Thread Cert.ChunksIdeal.nD Cert.ChunksIdeal.τ).loc Cert.ChunksIdeal.main_arg0)
      ∧ r.2.mem ((c.tc : Thread Cert.ChunksIdeal.nD Cert.ChunksIdeal.τ).loc Cert.ChunksIdeal.main_arg1) = m ((c.tc : Thread Cert.ChunksIdeal.nD Cert.ChunksIdeal.τ).loc Cert.ChunksIdeal.main_arg1))
      ∧ r.2.sem = fun _ => 0)

def quiescent_ChunksReferenceIdeal [hChunksReferenceIdeal : Cert.ChunksReferenceIdeal.Facts] : Prop :=
  ∀ (m : (ℓ : Loc Cert.ChunksReferenceIdeal.nD Cert.ChunksReferenceIdeal.τ Cert.ChunksReferenceIdeal.sig) → Buf (Elt Ideal) ℓ) (g : Dev Cert.ChunksReferenceIdeal.nD → PrngReg), Pre_ChunksReferenceIdeal m →
    θ_run (Cert.ChunksReferenceIdeal.defs (F := Ideal)) (onTc (τ := Cert.ChunksReferenceIdeal.τ) (Cert.ChunksReferenceIdeal.main (F := Ideal))) ⟨m, fun _ => 0, g⟩ (fun r => (∀ c : Dev Cert.ChunksReferenceIdeal.nD,
      r.2.mem ((c.tc : Thread Cert.ChunksReferenceIdeal.nD Cert.ChunksReferenceIdeal.τ).loc Cert.ChunksReferenceIdeal.main_arg0) = m ((c.tc : Thread Cert.ChunksReferenceIdeal.nD Cert.ChunksReferenceIdeal.τ).loc Cert.ChunksReferenceIdeal.main_arg0)
      ∧ r.2.mem ((c.tc : Thread Cert.ChunksReferenceIdeal.nD Cert.ChunksReferenceIdeal.τ).loc Cert.ChunksReferenceIdeal.main_arg1) = m ((c.tc : Thread Cert.ChunksReferenceIdeal.nD Cert.ChunksReferenceIdeal.τ).loc Cert.ChunksReferenceIdeal.main_arg1))
      ∧ r.2.sem = fun _ => 0)

def quiescent_ChunksReferenceIdeal_pre_chunks_in_range [hChunksReferenceIdeal : Cert.ChunksReferenceIdeal.Facts] [hPre_chunks_in_range : Cert.Pre_chunks_in_range.Facts] : Prop :=
  ∀ (m : (ℓ : Loc Cert.ChunksReferenceIdeal.nD Cert.ChunksReferenceIdeal.τ Cert.ChunksReferenceIdeal.sig) → Buf (Elt Ideal) ℓ) (g : Dev Cert.ChunksReferenceIdeal.nD → PrngReg), Pre_ChunksReferenceIdeal_chunks_in_range m →
    θ_run (Cert.ChunksReferenceIdeal.defs (F := Ideal)) (onTc (τ := Cert.ChunksReferenceIdeal.τ) (Cert.ChunksReferenceIdeal.main (F := Ideal))) ⟨m, fun _ => 0, g⟩ (fun r => (∀ c : Dev Cert.ChunksReferenceIdeal.nD,
      r.2.mem ((c.tc : Thread Cert.ChunksReferenceIdeal.nD Cert.ChunksReferenceIdeal.τ).loc Cert.ChunksReferenceIdeal.main_arg0) = m ((c.tc : Thread Cert.ChunksReferenceIdeal.nD Cert.ChunksReferenceIdeal.τ).loc Cert.ChunksReferenceIdeal.main_arg0)
      ∧ r.2.mem ((c.tc : Thread Cert.ChunksReferenceIdeal.nD Cert.ChunksReferenceIdeal.τ).loc Cert.ChunksReferenceIdeal.main_arg1) = m ((c.tc : Thread Cert.ChunksReferenceIdeal.nD Cert.ChunksReferenceIdeal.τ).loc Cert.ChunksReferenceIdeal.main_arg1))
      ∧ r.2.sem = fun _ => 0)

def quiescent_Normalize [hNormalize : Cert.Normalize.Facts] : Prop :=
  ∀ (m : (ℓ : Loc Cert.Normalize.nD Cert.Normalize.τ Cert.Normalize.sig) → Buf (Elt Bits) ℓ) (g : Dev Cert.Normalize.nD → PrngReg), Pre_Normalize m →
    θ_run (Cert.Normalize.defs (F := Bits)) (onTc (τ := Cert.Normalize.τ) (Cert.Normalize.main (F := Bits))) ⟨m, fun _ => 0, g⟩ (fun r => (∀ c : Dev Cert.Normalize.nD,
      r.2.mem ((c.tc : Thread Cert.Normalize.nD Cert.Normalize.τ).loc Cert.Normalize.main_arg0) = m ((c.tc : Thread Cert.Normalize.nD Cert.Normalize.τ).loc Cert.Normalize.main_arg0))
      ∧ r.2.sem = fun _ => 0)

def quiescent_NormalizeIdeal [hNormalizeIdeal : Cert.NormalizeIdeal.Facts] : Prop :=
  ∀ (m : (ℓ : Loc Cert.NormalizeIdeal.nD Cert.NormalizeIdeal.τ Cert.NormalizeIdeal.sig) → Buf (Elt Ideal) ℓ) (g : Dev Cert.NormalizeIdeal.nD → PrngReg), Pre_NormalizeIdeal m →
    θ_run (Cert.NormalizeIdeal.defs (F := Ideal)) (onTc (τ := Cert.NormalizeIdeal.τ) (Cert.NormalizeIdeal.main (F := Ideal))) ⟨m, fun _ => 0, g⟩ (fun r => (∀ c : Dev Cert.NormalizeIdeal.nD,
      r.2.mem ((c.tc : Thread Cert.NormalizeIdeal.nD Cert.NormalizeIdeal.τ).loc Cert.NormalizeIdeal.main_arg0) = m ((c.tc : Thread Cert.NormalizeIdeal.nD Cert.NormalizeIdeal.τ).loc Cert.NormalizeIdeal.main_arg0))
      ∧ r.2.sem = fun _ => 0)

def quiescent_NormalizeReferenceIdeal [hNormalizeReferenceIdeal : Cert.NormalizeReferenceIdeal.Facts] : Prop :=
  ∀ (m : (ℓ : Loc Cert.NormalizeReferenceIdeal.nD Cert.NormalizeReferenceIdeal.τ Cert.NormalizeReferenceIdeal.sig) → Buf (Elt Ideal) ℓ) (g : Dev Cert.NormalizeReferenceIdeal.nD → PrngReg), Pre_NormalizeReferenceIdeal m →
    θ_run (Cert.NormalizeReferenceIdeal.defs (F := Ideal)) (onTc (τ := Cert.NormalizeReferenceIdeal.τ) (Cert.NormalizeReferenceIdeal.main (F := Ideal))) ⟨m, fun _ => 0, g⟩ (fun r => (∀ c : Dev Cert.NormalizeReferenceIdeal.nD,
      r.2.mem ((c.tc : Thread Cert.NormalizeReferenceIdeal.nD Cert.NormalizeReferenceIdeal.τ).loc Cert.NormalizeReferenceIdeal.main_arg0) = m ((c.tc : Thread Cert.NormalizeReferenceIdeal.nD Cert.NormalizeReferenceIdeal.τ).loc Cert.NormalizeReferenceIdeal.main_arg0))
      ∧ r.2.sem = fun _ => 0)

def quiescent_Similarity [hSimilarity : Cert.Similarity.Facts] : Prop :=
  ∀ (m : (ℓ : Loc Cert.Similarity.nD Cert.Similarity.τ Cert.Similarity.sig) → Buf (Elt Bits) ℓ) (g : Dev Cert.Similarity.nD → PrngReg), Pre_Similarity m →
    θ_run (Cert.Similarity.defs (F := Bits)) (onTc (τ := Cert.Similarity.τ) (Cert.Similarity.main (F := Bits))) ⟨m, fun _ => 0, g⟩ (fun r => (∀ c : Dev Cert.Similarity.nD,
      r.2.mem ((c.tc : Thread Cert.Similarity.nD Cert.Similarity.τ).loc Cert.Similarity.main_arg0) = m ((c.tc : Thread Cert.Similarity.nD Cert.Similarity.τ).loc Cert.Similarity.main_arg0)
      ∧ r.2.mem ((c.tc : Thread Cert.Similarity.nD Cert.Similarity.τ).loc Cert.Similarity.main_arg1) = m ((c.tc : Thread Cert.Similarity.nD Cert.Similarity.τ).loc Cert.Similarity.main_arg1))
      ∧ r.2.sem = fun _ => 0)

def quiescent_SimilarityIdeal [hSimilarityIdeal : Cert.SimilarityIdeal.Facts] : Prop :=
  ∀ (m : (ℓ : Loc Cert.SimilarityIdeal.nD Cert.SimilarityIdeal.τ Cert.SimilarityIdeal.sig) → Buf (Elt Ideal) ℓ) (g : Dev Cert.SimilarityIdeal.nD → PrngReg), Pre_SimilarityIdeal m →
    θ_run (Cert.SimilarityIdeal.defs (F := Ideal)) (onTc (τ := Cert.SimilarityIdeal.τ) (Cert.SimilarityIdeal.main (F := Ideal))) ⟨m, fun _ => 0, g⟩ (fun r => (∀ c : Dev Cert.SimilarityIdeal.nD,
      r.2.mem ((c.tc : Thread Cert.SimilarityIdeal.nD Cert.SimilarityIdeal.τ).loc Cert.SimilarityIdeal.main_arg0) = m ((c.tc : Thread Cert.SimilarityIdeal.nD Cert.SimilarityIdeal.τ).loc Cert.SimilarityIdeal.main_arg0)
      ∧ r.2.mem ((c.tc : Thread Cert.SimilarityIdeal.nD Cert.SimilarityIdeal.τ).loc Cert.SimilarityIdeal.main_arg1) = m ((c.tc : Thread Cert.SimilarityIdeal.nD Cert.SimilarityIdeal.τ).loc Cert.SimilarityIdeal.main_arg1))
      ∧ r.2.sem = fun _ => 0)

def quiescent_SimilarityReferenceIdeal [hSimilarityReferenceIdeal : Cert.SimilarityReferenceIdeal.Facts] : Prop :=
  ∀ (m : (ℓ : Loc Cert.SimilarityReferenceIdeal.nD Cert.SimilarityReferenceIdeal.τ Cert.SimilarityReferenceIdeal.sig) → Buf (Elt Ideal) ℓ) (g : Dev Cert.SimilarityReferenceIdeal.nD → PrngReg), Pre_SimilarityReferenceIdeal m →
    θ_run (Cert.SimilarityReferenceIdeal.defs (F := Ideal)) (onTc (τ := Cert.SimilarityReferenceIdeal.τ) (Cert.SimilarityReferenceIdeal.main (F := Ideal))) ⟨m, fun _ => 0, g⟩ (fun r => (∀ c : Dev Cert.SimilarityReferenceIdeal.nD,
      r.2.mem ((c.tc : Thread Cert.SimilarityReferenceIdeal.nD Cert.SimilarityReferenceIdeal.τ).loc Cert.SimilarityReferenceIdeal.main_arg0) = m ((c.tc : Thread Cert.SimilarityReferenceIdeal.nD Cert.SimilarityReferenceIdeal.τ).loc Cert.SimilarityReferenceIdeal.main_arg0)
      ∧ r.2.mem ((c.tc : Thread Cert.SimilarityReferenceIdeal.nD Cert.SimilarityReferenceIdeal.τ).loc Cert.SimilarityReferenceIdeal.main_arg1) = m ((c.tc : Thread Cert.SimilarityReferenceIdeal.nD Cert.SimilarityReferenceIdeal.τ).loc Cert.SimilarityReferenceIdeal.main_arg1))
      ∧ r.2.sem = fun _ => 0)

def quiescent_Select [hSelect : Cert.Select.Facts] : Prop :=
  ∀ (m : (ℓ : Loc Cert.Select.nD Cert.Select.τ Cert.Select.sig) → Buf (Elt Bits) ℓ) (g : Dev Cert.Select.nD → PrngReg), Pre_Select m →
    θ_run (Cert.Select.defs (F := Bits)) (onTc (τ := Cert.Select.τ) (Cert.Select.main (F := Bits))) ⟨m, fun _ => 0, g⟩ (fun r => (∀ c : Dev Cert.Select.nD,
      r.2.mem ((c.tc : Thread Cert.Select.nD Cert.Select.τ).loc Cert.Select.main_arg0) = m ((c.tc : Thread Cert.Select.nD Cert.Select.τ).loc Cert.Select.main_arg0))
      ∧ r.2.sem = fun _ => 0)

def quiescent_SelectIdeal [hSelectIdeal : Cert.SelectIdeal.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal m →
    θ_run (Cert.SelectIdeal.defs (F := Ideal)) (onTc (τ := Cert.SelectIdeal.τ) (Cert.SelectIdeal.main (F := Ideal))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0))
      ∧ r.2.sem = fun _ => 0)

def quiescent_SelectIdeal_pre_maxima_above_mask [hSelectIdeal : Cert.SelectIdeal.Facts] [hPre_maxima_above_mask : Cert.Pre_maxima_above_mask.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal_maxima_above_mask m →
    θ_run (Cert.SelectIdeal.defs (F := Ideal)) (onTc (τ := Cert.SelectIdeal.τ) (Cert.SelectIdeal.main (F := Ideal))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0))
      ∧ r.2.sem = fun _ => 0)

def quiescent_SelectReferenceIdeal [hSelectReferenceIdeal : Cert.SelectReferenceIdeal.Facts] : Prop :=
  ∀ (m : (ℓ : Loc Cert.SelectReferenceIdeal.nD Cert.SelectReferenceIdeal.τ Cert.SelectReferenceIdeal.sig) → Buf (Elt Ideal) ℓ) (g : Dev Cert.SelectReferenceIdeal.nD → PrngReg), Pre_SelectReferenceIdeal m →
    θ_run (Cert.SelectReferenceIdeal.defs (F := Ideal)) (onTc (τ := Cert.SelectReferenceIdeal.τ) (Cert.SelectReferenceIdeal.main (F := Ideal))) ⟨m, fun _ => 0, g⟩ (fun r => (∀ c : Dev Cert.SelectReferenceIdeal.nD,
      r.2.mem ((c.tc : Thread Cert.SelectReferenceIdeal.nD Cert.SelectReferenceIdeal.τ).loc Cert.SelectReferenceIdeal.main_arg0) = m ((c.tc : Thread Cert.SelectReferenceIdeal.nD Cert.SelectReferenceIdeal.τ).loc Cert.SelectReferenceIdeal.main_arg0))
      ∧ r.2.sem = fun _ => 0)

def quiescent_SelectReferenceIdeal_pre_maxima_above_mask [hSelectReferenceIdeal : Cert.SelectReferenceIdeal.Facts] [hPre_maxima_above_mask : Cert.Pre_maxima_above_mask.Facts] : Prop :=
  ∀ (m : (ℓ : Loc Cert.SelectReferenceIdeal.nD Cert.SelectReferenceIdeal.τ Cert.SelectReferenceIdeal.sig) → Buf (Elt Ideal) ℓ) (g : Dev Cert.SelectReferenceIdeal.nD → PrngReg), Pre_SelectReferenceIdeal_maxima_above_mask m →
    θ_run (Cert.SelectReferenceIdeal.defs (F := Ideal)) (onTc (τ := Cert.SelectReferenceIdeal.τ) (Cert.SelectReferenceIdeal.main (F := Ideal))) ⟨m, fun _ => 0, g⟩ (fun r => (∀ c : Dev Cert.SelectReferenceIdeal.nD,
      r.2.mem ((c.tc : Thread Cert.SelectReferenceIdeal.nD Cert.SelectReferenceIdeal.τ).loc Cert.SelectReferenceIdeal.main_arg0) = m ((c.tc : Thread Cert.SelectReferenceIdeal.nD Cert.SelectReferenceIdeal.τ).loc Cert.SelectReferenceIdeal.main_arg0))
      ∧ r.2.sem = fun _ => 0)

def quiescent_Candidates [hCandidates : Cert.Candidates.Facts] : Prop :=
  ∀ (m : (ℓ : Loc Cert.Candidates.nD Cert.Candidates.τ Cert.Candidates.sig) → Buf (Elt Bits) ℓ) (g : Dev Cert.Candidates.nD → PrngReg), Pre_Candidates m →
    θ_run (Cert.Candidates.defs (F := Bits)) (onTc (τ := Cert.Candidates.τ) (Cert.Candidates.main (F := Bits))) ⟨m, fun _ => 0, g⟩ (fun r => (∀ c : Dev Cert.Candidates.nD,
      r.2.mem ((c.tc : Thread Cert.Candidates.nD Cert.Candidates.τ).loc Cert.Candidates.main_arg0) = m ((c.tc : Thread Cert.Candidates.nD Cert.Candidates.τ).loc Cert.Candidates.main_arg0)
      ∧ r.2.mem ((c.tc : Thread Cert.Candidates.nD Cert.Candidates.τ).loc Cert.Candidates.main_arg1) = m ((c.tc : Thread Cert.Candidates.nD Cert.Candidates.τ).loc Cert.Candidates.main_arg1))
      ∧ r.2.sem = fun _ => 0)

def quiescent_CandidatesIdeal [hCandidatesIdeal : Cert.CandidatesIdeal.Facts] : Prop :=
  ∀ (m : (ℓ : Loc Cert.CandidatesIdeal.nD Cert.CandidatesIdeal.τ Cert.CandidatesIdeal.sig) → Buf (Elt Ideal) ℓ) (g : Dev Cert.CandidatesIdeal.nD → PrngReg), Pre_CandidatesIdeal m →
    θ_run (Cert.CandidatesIdeal.defs (F := Ideal)) (onTc (τ := Cert.CandidatesIdeal.τ) (Cert.CandidatesIdeal.main (F := Ideal))) ⟨m, fun _ => 0, g⟩ (fun r => (∀ c : Dev Cert.CandidatesIdeal.nD,
      r.2.mem ((c.tc : Thread Cert.CandidatesIdeal.nD Cert.CandidatesIdeal.τ).loc Cert.CandidatesIdeal.main_arg0) = m ((c.tc : Thread Cert.CandidatesIdeal.nD Cert.CandidatesIdeal.τ).loc Cert.CandidatesIdeal.main_arg0)
      ∧ r.2.mem ((c.tc : Thread Cert.CandidatesIdeal.nD Cert.CandidatesIdeal.τ).loc Cert.CandidatesIdeal.main_arg1) = m ((c.tc : Thread Cert.CandidatesIdeal.nD Cert.CandidatesIdeal.τ).loc Cert.CandidatesIdeal.main_arg1))
      ∧ r.2.sem = fun _ => 0)

def quiescent_CandidatesIdeal_pre_candidates_apart [hCandidatesIdeal : Cert.CandidatesIdeal.Facts] [hPre_candidates_apart : Cert.Pre_candidates_apart.Facts] : Prop :=
  ∀ (m : (ℓ : Loc Cert.CandidatesIdeal.nD Cert.CandidatesIdeal.τ Cert.CandidatesIdeal.sig) → Buf (Elt Ideal) ℓ) (g : Dev Cert.CandidatesIdeal.nD → PrngReg), Pre_CandidatesIdeal_candidates_apart m →
    θ_run (Cert.CandidatesIdeal.defs (F := Ideal)) (onTc (τ := Cert.CandidatesIdeal.τ) (Cert.CandidatesIdeal.main (F := Ideal))) ⟨m, fun _ => 0, g⟩ (fun r => (∀ c : Dev Cert.CandidatesIdeal.nD,
      r.2.mem ((c.tc : Thread Cert.CandidatesIdeal.nD Cert.CandidatesIdeal.τ).loc Cert.CandidatesIdeal.main_arg0) = m ((c.tc : Thread Cert.CandidatesIdeal.nD Cert.CandidatesIdeal.τ).loc Cert.CandidatesIdeal.main_arg0)
      ∧ r.2.mem ((c.tc : Thread Cert.CandidatesIdeal.nD Cert.CandidatesIdeal.τ).loc Cert.CandidatesIdeal.main_arg1) = m ((c.tc : Thread Cert.CandidatesIdeal.nD Cert.CandidatesIdeal.τ).loc Cert.CandidatesIdeal.main_arg1))
      ∧ r.2.sem = fun _ => 0)

def quiescent_CandidatesReferenceIdeal [hCandidatesReferenceIdeal : Cert.CandidatesReferenceIdeal.Facts] : Prop :=
  ∀ (m : (ℓ : Loc Cert.CandidatesReferenceIdeal.nD Cert.CandidatesReferenceIdeal.τ Cert.CandidatesReferenceIdeal.sig) → Buf (Elt Ideal) ℓ) (g : Dev Cert.CandidatesReferenceIdeal.nD → PrngReg), Pre_CandidatesReferenceIdeal m →
    θ_run (Cert.CandidatesReferenceIdeal.defs (F := Ideal)) (onTc (τ := Cert.CandidatesReferenceIdeal.τ) (Cert.CandidatesReferenceIdeal.main (F := Ideal))) ⟨m, fun _ => 0, g⟩ (fun r => (∀ c : Dev Cert.CandidatesReferenceIdeal.nD,
      r.2.mem ((c.tc : Thread Cert.CandidatesReferenceIdeal.nD Cert.CandidatesReferenceIdeal.τ).loc Cert.CandidatesReferenceIdeal.main_arg0) = m ((c.tc : Thread Cert.CandidatesReferenceIdeal.nD Cert.CandidatesReferenceIdeal.τ).loc Cert.CandidatesReferenceIdeal.main_arg0)
      ∧ r.2.mem ((c.tc : Thread Cert.CandidatesReferenceIdeal.nD Cert.CandidatesReferenceIdeal.τ).loc Cert.CandidatesReferenceIdeal.main_arg1) = m ((c.tc : Thread Cert.CandidatesReferenceIdeal.nD Cert.CandidatesReferenceIdeal.τ).loc Cert.CandidatesReferenceIdeal.main_arg1))
      ∧ r.2.sem = fun _ => 0)

def quiescent_CandidatesReferenceIdeal_pre_candidates_apart [hCandidatesReferenceIdeal : Cert.CandidatesReferenceIdeal.Facts] [hPre_candidates_apart : Cert.Pre_candidates_apart.Facts] : Prop :=
  ∀ (m : (ℓ : Loc Cert.CandidatesReferenceIdeal.nD Cert.CandidatesReferenceIdeal.τ Cert.CandidatesReferenceIdeal.sig) → Buf (Elt Ideal) ℓ) (g : Dev Cert.CandidatesReferenceIdeal.nD → PrngReg), Pre_CandidatesReferenceIdeal_candidates_apart m →
    θ_run (Cert.CandidatesReferenceIdeal.defs (F := Ideal)) (onTc (τ := Cert.CandidatesReferenceIdeal.τ) (Cert.CandidatesReferenceIdeal.main (F := Ideal))) ⟨m, fun _ => 0, g⟩ (fun r => (∀ c : Dev Cert.CandidatesReferenceIdeal.nD,
      r.2.mem ((c.tc : Thread Cert.CandidatesReferenceIdeal.nD Cert.CandidatesReferenceIdeal.τ).loc Cert.CandidatesReferenceIdeal.main_arg0) = m ((c.tc : Thread Cert.CandidatesReferenceIdeal.nD Cert.CandidatesReferenceIdeal.τ).loc Cert.CandidatesReferenceIdeal.main_arg0)
      ∧ r.2.mem ((c.tc : Thread Cert.CandidatesReferenceIdeal.nD Cert.CandidatesReferenceIdeal.τ).loc Cert.CandidatesReferenceIdeal.main_arg1) = m ((c.tc : Thread Cert.CandidatesReferenceIdeal.nD Cert.CandidatesReferenceIdeal.τ).loc Cert.CandidatesReferenceIdeal.main_arg1))
      ∧ r.2.sem = fun _ => 0)

def preserves_Retrieve_RetrieveIdeal : Prop :=
  True

def algebraic_RetrieveIdeal_RetrieveReferenceIdeal [hRetrieveIdeal : Cert.RetrieveIdeal.Facts] [hRetrieveReferenceIdeal : Cert.RetrieveReferenceIdeal.Facts] [hPre_rows_in_range : Cert.Pre_rows_in_range.Facts] : Prop :=
  ∀ (m : (ℓ : Loc Cert.RetrieveIdeal.nD Cert.RetrieveIdeal.τ Cert.RetrieveIdeal.sig) → Buf (Elt Ideal) ℓ) (g : Dev Cert.RetrieveIdeal.nD → PrngReg)
    (m' : (ℓ : Loc Cert.RetrieveReferenceIdeal.nD Cert.RetrieveReferenceIdeal.τ Cert.RetrieveReferenceIdeal.sig) → Buf (Elt Ideal) ℓ) (g' : Dev Cert.RetrieveReferenceIdeal.nD → PrngReg), Pre_RetrieveIdeal m →
    (∀ c : Dev Cert.RetrieveIdeal.nD,
      m' ((c.tc : Thread Cert.RetrieveReferenceIdeal.nD Cert.RetrieveReferenceIdeal.τ).loc Cert.RetrieveReferenceIdeal.main_arg0) = m ((c.tc : Thread Cert.RetrieveIdeal.nD Cert.RetrieveIdeal.τ).loc Cert.RetrieveIdeal.main_arg0)
      ∧ m' ((c.tc : Thread Cert.RetrieveReferenceIdeal.nD Cert.RetrieveReferenceIdeal.τ).loc Cert.RetrieveReferenceIdeal.main_arg1) = m ((c.tc : Thread Cert.RetrieveIdeal.nD Cert.RetrieveIdeal.τ).loc Cert.RetrieveIdeal.main_arg1)
      ∧ m' ((c.tc : Thread Cert.RetrieveReferenceIdeal.nD Cert.RetrieveReferenceIdeal.τ).loc Cert.RetrieveReferenceIdeal.main_arg2) = m ((c.tc : Thread Cert.RetrieveIdeal.nD Cert.RetrieveIdeal.τ).loc Cert.RetrieveIdeal.main_arg2)) →
    ∃ (v0 : (c : Dev Cert.RetrieveIdeal.nD) → Buf (Elt Ideal) ((c.tc : Thread Cert.RetrieveIdeal.nD Cert.RetrieveIdeal.τ).loc Cert.RetrieveIdeal.main_v4)),
      θ_run (Cert.RetrieveIdeal.defs (F := Ideal)) (Cert.RetrieveIdeal.threads (F := Ideal)) ⟨m, fun _ => 0, g⟩ (fun r => ∀ c : Dev Cert.RetrieveIdeal.nD,
          r.2.mem ((c.tc : Thread Cert.RetrieveIdeal.nD Cert.RetrieveIdeal.τ).loc Cert.RetrieveIdeal.main_v4) = v0 c
          ∧ r.2.mem ((c.tc : Thread Cert.RetrieveIdeal.nD Cert.RetrieveIdeal.τ).loc Cert.RetrieveIdeal.main_arg0) = m ((c.tc : Thread Cert.RetrieveIdeal.nD Cert.RetrieveIdeal.τ).loc Cert.RetrieveIdeal.main_arg0)
          ∧ r.2.mem ((c.tc : Thread Cert.RetrieveIdeal.nD Cert.RetrieveIdeal.τ).loc Cert.RetrieveIdeal.main_arg1) = m ((c.tc : Thread Cert.RetrieveIdeal.nD Cert.RetrieveIdeal.τ).loc Cert.RetrieveIdeal.main_arg1)
          ∧ r.2.mem ((c.tc : Thread Cert.RetrieveIdeal.nD Cert.RetrieveIdeal.τ).loc Cert.RetrieveIdeal.main_arg2) = m ((c.tc : Thread Cert.RetrieveIdeal.nD Cert.RetrieveIdeal.τ).loc Cert.RetrieveIdeal.main_arg2))
      ∧ θ_run (Cert.RetrieveReferenceIdeal.defs (F := Ideal)) (onTc (τ := Cert.RetrieveReferenceIdeal.τ) (Cert.RetrieveReferenceIdeal.main (F := Ideal))) ⟨m', fun _ => 0, g'⟩ (fun r => ∀ c : Dev Cert.RetrieveReferenceIdeal.nD,
          r.2.mem ((c.tc : Thread Cert.RetrieveReferenceIdeal.nD Cert.RetrieveReferenceIdeal.τ).loc Cert.RetrieveReferenceIdeal.main_v4) = v0 c
          ∧ r.2.mem ((c.tc : Thread Cert.RetrieveReferenceIdeal.nD Cert.RetrieveReferenceIdeal.τ).loc Cert.RetrieveReferenceIdeal.main_arg0) = m' ((c.tc : Thread Cert.RetrieveReferenceIdeal.nD Cert.RetrieveReferenceIdeal.τ).loc Cert.RetrieveReferenceIdeal.main_arg0)
          ∧ r.2.mem ((c.tc : Thread Cert.RetrieveReferenceIdeal.nD Cert.RetrieveReferenceIdeal.τ).loc Cert.RetrieveReferenceIdeal.main_arg1) = m' ((c.tc : Thread Cert.RetrieveReferenceIdeal.nD Cert.RetrieveReferenceIdeal.τ).loc Cert.RetrieveReferenceIdeal.main_arg1)
          ∧ r.2.mem ((c.tc : Thread Cert.RetrieveReferenceIdeal.nD Cert.RetrieveReferenceIdeal.τ).loc Cert.RetrieveReferenceIdeal.main_arg2) = m' ((c.tc : Thread Cert.RetrieveReferenceIdeal.nD Cert.RetrieveReferenceIdeal.τ).loc Cert.RetrieveReferenceIdeal.main_arg2))

def preserves_Chunks_ChunksIdeal : Prop :=
  True

def algebraic_ChunksIdeal_ChunksReferenceIdeal [hChunksIdeal : Cert.ChunksIdeal.Facts] [hChunksReferenceIdeal : Cert.ChunksReferenceIdeal.Facts] [hPre_chunks_in_range : Cert.Pre_chunks_in_range.Facts] : Prop :=
  ∀ (m : (ℓ : Loc Cert.ChunksIdeal.nD Cert.ChunksIdeal.τ Cert.ChunksIdeal.sig) → Buf (Elt Ideal) ℓ) (g : Dev Cert.ChunksIdeal.nD → PrngReg)
    (m' : (ℓ : Loc Cert.ChunksReferenceIdeal.nD Cert.ChunksReferenceIdeal.τ Cert.ChunksReferenceIdeal.sig) → Buf (Elt Ideal) ℓ) (g' : Dev Cert.ChunksReferenceIdeal.nD → PrngReg), Pre_ChunksIdeal m →
    (∀ c : Dev Cert.ChunksIdeal.nD,
      m' ((c.tc : Thread Cert.ChunksReferenceIdeal.nD Cert.ChunksReferenceIdeal.τ).loc Cert.ChunksReferenceIdeal.main_arg0) = m ((c.tc : Thread Cert.ChunksIdeal.nD Cert.ChunksIdeal.τ).loc Cert.ChunksIdeal.main_arg0)
      ∧ m' ((c.tc : Thread Cert.ChunksReferenceIdeal.nD Cert.ChunksReferenceIdeal.τ).loc Cert.ChunksReferenceIdeal.main_arg1) = m ((c.tc : Thread Cert.ChunksIdeal.nD Cert.ChunksIdeal.τ).loc Cert.ChunksIdeal.main_arg1)) →
    ∃ (v0 : (c : Dev Cert.ChunksIdeal.nD) → Buf (Elt Ideal) ((c.tc : Thread Cert.ChunksIdeal.nD Cert.ChunksIdeal.τ).loc Cert.ChunksIdeal.main_v2)),
      θ_run (Cert.ChunksIdeal.defs (F := Ideal)) (Cert.ChunksIdeal.threads (F := Ideal)) ⟨m, fun _ => 0, g⟩ (fun r => ∀ c : Dev Cert.ChunksIdeal.nD,
          r.2.mem ((c.tc : Thread Cert.ChunksIdeal.nD Cert.ChunksIdeal.τ).loc Cert.ChunksIdeal.main_v2) = v0 c
          ∧ r.2.mem ((c.tc : Thread Cert.ChunksIdeal.nD Cert.ChunksIdeal.τ).loc Cert.ChunksIdeal.main_arg0) = m ((c.tc : Thread Cert.ChunksIdeal.nD Cert.ChunksIdeal.τ).loc Cert.ChunksIdeal.main_arg0)
          ∧ r.2.mem ((c.tc : Thread Cert.ChunksIdeal.nD Cert.ChunksIdeal.τ).loc Cert.ChunksIdeal.main_arg1) = m ((c.tc : Thread Cert.ChunksIdeal.nD Cert.ChunksIdeal.τ).loc Cert.ChunksIdeal.main_arg1))
      ∧ θ_run (Cert.ChunksReferenceIdeal.defs (F := Ideal)) (onTc (τ := Cert.ChunksReferenceIdeal.τ) (Cert.ChunksReferenceIdeal.main (F := Ideal))) ⟨m', fun _ => 0, g'⟩ (fun r => ∀ c : Dev Cert.ChunksReferenceIdeal.nD,
          r.2.mem ((c.tc : Thread Cert.ChunksReferenceIdeal.nD Cert.ChunksReferenceIdeal.τ).loc Cert.ChunksReferenceIdeal.main_v2) = v0 c
          ∧ r.2.mem ((c.tc : Thread Cert.ChunksReferenceIdeal.nD Cert.ChunksReferenceIdeal.τ).loc Cert.ChunksReferenceIdeal.main_arg0) = m' ((c.tc : Thread Cert.ChunksReferenceIdeal.nD Cert.ChunksReferenceIdeal.τ).loc Cert.ChunksReferenceIdeal.main_arg0)
          ∧ r.2.mem ((c.tc : Thread Cert.ChunksReferenceIdeal.nD Cert.ChunksReferenceIdeal.τ).loc Cert.ChunksReferenceIdeal.main_arg1) = m' ((c.tc : Thread Cert.ChunksReferenceIdeal.nD Cert.ChunksReferenceIdeal.τ).loc Cert.ChunksReferenceIdeal.main_arg1))

def preserves_Normalize_NormalizeIdeal : Prop :=
  True

def algebraic_NormalizeIdeal_NormalizeReferenceIdeal [hNormalizeIdeal : Cert.NormalizeIdeal.Facts] [hNormalizeReferenceIdeal : Cert.NormalizeReferenceIdeal.Facts] : Prop :=
  ∀ (m : (ℓ : Loc Cert.NormalizeIdeal.nD Cert.NormalizeIdeal.τ Cert.NormalizeIdeal.sig) → Buf (Elt Ideal) ℓ) (g : Dev Cert.NormalizeIdeal.nD → PrngReg)
    (m' : (ℓ : Loc Cert.NormalizeReferenceIdeal.nD Cert.NormalizeReferenceIdeal.τ Cert.NormalizeReferenceIdeal.sig) → Buf (Elt Ideal) ℓ) (g' : Dev Cert.NormalizeReferenceIdeal.nD → PrngReg), Pre_NormalizeIdeal m →
    (∀ c : Dev Cert.NormalizeIdeal.nD,
      m' ((c.tc : Thread Cert.NormalizeReferenceIdeal.nD Cert.NormalizeReferenceIdeal.τ).loc Cert.NormalizeReferenceIdeal.main_arg0) = m ((c.tc : Thread Cert.NormalizeIdeal.nD Cert.NormalizeIdeal.τ).loc Cert.NormalizeIdeal.main_arg0)) →
    ∃ (v0 : (c : Dev Cert.NormalizeIdeal.nD) → Buf (Elt Ideal) ((c.tc : Thread Cert.NormalizeIdeal.nD Cert.NormalizeIdeal.τ).loc Cert.NormalizeIdeal.main_v0)),
      θ_run (Cert.NormalizeIdeal.defs (F := Ideal)) (onTc (τ := Cert.NormalizeIdeal.τ) (Cert.NormalizeIdeal.main (F := Ideal))) ⟨m, fun _ => 0, g⟩ (fun r => ∀ c : Dev Cert.NormalizeIdeal.nD,
          r.2.mem ((c.tc : Thread Cert.NormalizeIdeal.nD Cert.NormalizeIdeal.τ).loc Cert.NormalizeIdeal.main_v0) = v0 c
          ∧ r.2.mem ((c.tc : Thread Cert.NormalizeIdeal.nD Cert.NormalizeIdeal.τ).loc Cert.NormalizeIdeal.main_arg0) = m ((c.tc : Thread Cert.NormalizeIdeal.nD Cert.NormalizeIdeal.τ).loc Cert.NormalizeIdeal.main_arg0))
      ∧ θ_run (Cert.NormalizeReferenceIdeal.defs (F := Ideal)) (onTc (τ := Cert.NormalizeReferenceIdeal.τ) (Cert.NormalizeReferenceIdeal.main (F := Ideal))) ⟨m', fun _ => 0, g'⟩ (fun r => ∀ c : Dev Cert.NormalizeReferenceIdeal.nD,
          r.2.mem ((c.tc : Thread Cert.NormalizeReferenceIdeal.nD Cert.NormalizeReferenceIdeal.τ).loc Cert.NormalizeReferenceIdeal.main_v4) = v0 c
          ∧ r.2.mem ((c.tc : Thread Cert.NormalizeReferenceIdeal.nD Cert.NormalizeReferenceIdeal.τ).loc Cert.NormalizeReferenceIdeal.main_arg0) = m' ((c.tc : Thread Cert.NormalizeReferenceIdeal.nD Cert.NormalizeReferenceIdeal.τ).loc Cert.NormalizeReferenceIdeal.main_arg0))

def preserves_Similarity_SimilarityIdeal : Prop :=
  True

def algebraic_SimilarityIdeal_SimilarityReferenceIdeal [hSimilarityIdeal : Cert.SimilarityIdeal.Facts] [hSimilarityReferenceIdeal : Cert.SimilarityReferenceIdeal.Facts] : Prop :=
  ∀ (m : (ℓ : Loc Cert.SimilarityIdeal.nD Cert.SimilarityIdeal.τ Cert.SimilarityIdeal.sig) → Buf (Elt Ideal) ℓ) (g : Dev Cert.SimilarityIdeal.nD → PrngReg)
    (m' : (ℓ : Loc Cert.SimilarityReferenceIdeal.nD Cert.SimilarityReferenceIdeal.τ Cert.SimilarityReferenceIdeal.sig) → Buf (Elt Ideal) ℓ) (g' : Dev Cert.SimilarityReferenceIdeal.nD → PrngReg), Pre_SimilarityIdeal m →
    (∀ c : Dev Cert.SimilarityIdeal.nD,
      m' ((c.tc : Thread Cert.SimilarityReferenceIdeal.nD Cert.SimilarityReferenceIdeal.τ).loc Cert.SimilarityReferenceIdeal.main_arg0) = m ((c.tc : Thread Cert.SimilarityIdeal.nD Cert.SimilarityIdeal.τ).loc Cert.SimilarityIdeal.main_arg0)
      ∧ m' ((c.tc : Thread Cert.SimilarityReferenceIdeal.nD Cert.SimilarityReferenceIdeal.τ).loc Cert.SimilarityReferenceIdeal.main_arg1) = m ((c.tc : Thread Cert.SimilarityIdeal.nD Cert.SimilarityIdeal.τ).loc Cert.SimilarityIdeal.main_arg1)) →
    ∃ (v0 : (c : Dev Cert.SimilarityIdeal.nD) → Buf (Elt Ideal) ((c.tc : Thread Cert.SimilarityIdeal.nD Cert.SimilarityIdeal.τ).loc Cert.SimilarityIdeal.main_v1_0)) (v1 : (c : Dev Cert.SimilarityIdeal.nD) → Buf (Elt Ideal) ((c.tc : Thread Cert.SimilarityIdeal.nD Cert.SimilarityIdeal.τ).loc Cert.SimilarityIdeal.main_v1_1)),
      θ_run (Cert.SimilarityIdeal.defs (F := Ideal)) (onTc (τ := Cert.SimilarityIdeal.τ) (Cert.SimilarityIdeal.main (F := Ideal))) ⟨m, fun _ => 0, g⟩ (fun r => ∀ c : Dev Cert.SimilarityIdeal.nD,
          r.2.mem ((c.tc : Thread Cert.SimilarityIdeal.nD Cert.SimilarityIdeal.τ).loc Cert.SimilarityIdeal.main_v1_0) = v0 c
          ∧ r.2.mem ((c.tc : Thread Cert.SimilarityIdeal.nD Cert.SimilarityIdeal.τ).loc Cert.SimilarityIdeal.main_v1_1) = v1 c
          ∧ r.2.mem ((c.tc : Thread Cert.SimilarityIdeal.nD Cert.SimilarityIdeal.τ).loc Cert.SimilarityIdeal.main_arg0) = m ((c.tc : Thread Cert.SimilarityIdeal.nD Cert.SimilarityIdeal.τ).loc Cert.SimilarityIdeal.main_arg0)
          ∧ r.2.mem ((c.tc : Thread Cert.SimilarityIdeal.nD Cert.SimilarityIdeal.τ).loc Cert.SimilarityIdeal.main_arg1) = m ((c.tc : Thread Cert.SimilarityIdeal.nD Cert.SimilarityIdeal.τ).loc Cert.SimilarityIdeal.main_arg1))
      ∧ θ_run (Cert.SimilarityReferenceIdeal.defs (F := Ideal)) (onTc (τ := Cert.SimilarityReferenceIdeal.τ) (Cert.SimilarityReferenceIdeal.main (F := Ideal))) ⟨m', fun _ => 0, g'⟩ (fun r => ∀ c : Dev Cert.SimilarityReferenceIdeal.nD,
          r.2.mem ((c.tc : Thread Cert.SimilarityReferenceIdeal.nD Cert.SimilarityReferenceIdeal.τ).loc Cert.SimilarityReferenceIdeal.main_v7) = v0 c
          ∧ r.2.mem ((c.tc : Thread Cert.SimilarityReferenceIdeal.nD Cert.SimilarityReferenceIdeal.τ).loc Cert.SimilarityReferenceIdeal.main_v10) = v1 c
          ∧ r.2.mem ((c.tc : Thread Cert.SimilarityReferenceIdeal.nD Cert.SimilarityReferenceIdeal.τ).loc Cert.SimilarityReferenceIdeal.main_arg0) = m' ((c.tc : Thread Cert.SimilarityReferenceIdeal.nD Cert.SimilarityReferenceIdeal.τ).loc Cert.SimilarityReferenceIdeal.main_arg0)
          ∧ r.2.mem ((c.tc : Thread Cert.SimilarityReferenceIdeal.nD Cert.SimilarityReferenceIdeal.τ).loc Cert.SimilarityReferenceIdeal.main_arg1) = m' ((c.tc : Thread Cert.SimilarityReferenceIdeal.nD Cert.SimilarityReferenceIdeal.τ).loc Cert.SimilarityReferenceIdeal.main_arg1))

def preserves_Select_SelectIdeal : Prop :=
  True

def algebraic_SelectIdeal_SelectReferenceIdeal_pre_maxima_above_mask [hSelectIdeal : Cert.SelectIdeal.Facts] [hSelectReferenceIdeal : Cert.SelectReferenceIdeal.Facts] [hPre_maxima_above_mask : Cert.Pre_maxima_above_mask.Facts] : Prop :=
  ∀ (m : (ℓ : Loc Cert.SelectIdeal.nD Cert.SelectIdeal.τ Cert.SelectIdeal.sig) → Buf (Elt Ideal) ℓ) (g : Dev Cert.SelectIdeal.nD → PrngReg)
    (m' : (ℓ : Loc Cert.SelectReferenceIdeal.nD Cert.SelectReferenceIdeal.τ Cert.SelectReferenceIdeal.sig) → Buf (Elt Ideal) ℓ) (g' : Dev Cert.SelectReferenceIdeal.nD → PrngReg), Pre_SelectIdeal_maxima_above_mask m →
    (∀ c : Dev Cert.SelectIdeal.nD,
      m' ((c.tc : Thread Cert.SelectReferenceIdeal.nD Cert.SelectReferenceIdeal.τ).loc Cert.SelectReferenceIdeal.main_arg0) = m ((c.tc : Thread Cert.SelectIdeal.nD Cert.SelectIdeal.τ).loc Cert.SelectIdeal.main_arg0)) →
    ∃ (v0 : (c : Dev Cert.SelectIdeal.nD) → Buf (Elt Ideal) ((c.tc : Thread Cert.SelectIdeal.nD Cert.SelectIdeal.τ).loc Cert.SelectIdeal.main_v0_0)) (v1 : (c : Dev Cert.SelectIdeal.nD) → Buf (Elt Ideal) ((c.tc : Thread Cert.SelectIdeal.nD Cert.SelectIdeal.τ).loc Cert.SelectIdeal.main_v0_1)),
      θ_run (Cert.SelectIdeal.defs (F := Ideal)) (onTc (τ := Cert.SelectIdeal.τ) (Cert.SelectIdeal.main (F := Ideal))) ⟨m, fun _ => 0, g⟩ (fun r => ∀ c : Dev Cert.SelectIdeal.nD,
          r.2.mem ((c.tc : Thread Cert.SelectIdeal.nD Cert.SelectIdeal.τ).loc Cert.SelectIdeal.main_v0_0) = v0 c
          ∧ r.2.mem ((c.tc : Thread Cert.SelectIdeal.nD Cert.SelectIdeal.τ).loc Cert.SelectIdeal.main_v0_1) = v1 c
          ∧ r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0))
      ∧ θ_run (Cert.SelectReferenceIdeal.defs (F := Ideal)) (onTc (τ := Cert.SelectReferenceIdeal.τ) (Cert.SelectReferenceIdeal.main (F := Ideal))) ⟨m', fun _ => 0, g'⟩ (fun r => ∀ c : Dev Cert.SelectReferenceIdeal.nD,
          r.2.mem ((c.tc : Thread Cert.SelectReferenceIdeal.nD Cert.SelectReferenceIdeal.τ).loc Cert.SelectReferenceIdeal.main_v5) = v0 c
          ∧ r.2.mem ((c.tc : Thread Cert.SelectReferenceIdeal.nD Cert.SelectReferenceIdeal.τ).loc Cert.SelectReferenceIdeal.main_indices) = v1 c
          ∧ r.2.mem ((c.tc : Thread Cert.SelectReferenceIdeal.nD Cert.SelectReferenceIdeal.τ).loc Cert.SelectReferenceIdeal.main_arg0) = m' ((c.tc : Thread Cert.SelectReferenceIdeal.nD Cert.SelectReferenceIdeal.τ).loc Cert.SelectReferenceIdeal.main_arg0))

def preserves_Candidates_CandidatesIdeal : Prop :=
  True

def algebraic_CandidatesIdeal_CandidatesReferenceIdeal_pre_candidates_apart [hCandidatesIdeal : Cert.CandidatesIdeal.Facts] [hCandidatesReferenceIdeal : Cert.CandidatesReferenceIdeal.Facts] [hPre_candidates_apart : Cert.Pre_candidates_apart.Facts] : Prop :=
  ∀ (m : (ℓ : Loc Cert.CandidatesIdeal.nD Cert.CandidatesIdeal.τ Cert.CandidatesIdeal.sig) → Buf (Elt Ideal) ℓ) (g : Dev Cert.CandidatesIdeal.nD → PrngReg)
    (m' : (ℓ : Loc Cert.CandidatesReferenceIdeal.nD Cert.CandidatesReferenceIdeal.τ Cert.CandidatesReferenceIdeal.sig) → Buf (Elt Ideal) ℓ) (g' : Dev Cert.CandidatesReferenceIdeal.nD → PrngReg), Pre_CandidatesIdeal_candidates_apart m →
    (∀ c : Dev Cert.CandidatesIdeal.nD,
      m' ((c.tc : Thread Cert.CandidatesReferenceIdeal.nD Cert.CandidatesReferenceIdeal.τ).loc Cert.CandidatesReferenceIdeal.main_arg0) = m ((c.tc : Thread Cert.CandidatesIdeal.nD Cert.CandidatesIdeal.τ).loc Cert.CandidatesIdeal.main_arg0)
      ∧ m' ((c.tc : Thread Cert.CandidatesReferenceIdeal.nD Cert.CandidatesReferenceIdeal.τ).loc Cert.CandidatesReferenceIdeal.main_arg1) = m ((c.tc : Thread Cert.CandidatesIdeal.nD Cert.CandidatesIdeal.τ).loc Cert.CandidatesIdeal.main_arg1)) →
    ∃ (v0 : (c : Dev Cert.CandidatesIdeal.nD) → Buf (Elt Ideal) ((c.tc : Thread Cert.CandidatesIdeal.nD Cert.CandidatesIdeal.τ).loc Cert.CandidatesIdeal.main_v0_0)) (v1 : (c : Dev Cert.CandidatesIdeal.nD) → Buf (Elt Ideal) ((c.tc : Thread Cert.CandidatesIdeal.nD Cert.CandidatesIdeal.τ).loc Cert.CandidatesIdeal.main_v0_1)),
      θ_run (Cert.CandidatesIdeal.defs (F := Ideal)) (onTc (τ := Cert.CandidatesIdeal.τ) (Cert.CandidatesIdeal.main (F := Ideal))) ⟨m, fun _ => 0, g⟩ (fun r => ∀ c : Dev Cert.CandidatesIdeal.nD,
          r.2.mem ((c.tc : Thread Cert.CandidatesIdeal.nD Cert.CandidatesIdeal.τ).loc Cert.CandidatesIdeal.main_v0_0) = v0 c
          ∧ r.2.mem ((c.tc : Thread Cert.CandidatesIdeal.nD Cert.CandidatesIdeal.τ).loc Cert.CandidatesIdeal.main_v0_1) = v1 c
          ∧ r.2.mem ((c.tc : Thread Cert.CandidatesIdeal.nD Cert.CandidatesIdeal.τ).loc Cert.CandidatesIdeal.main_arg0) = m ((c.tc : Thread Cert.CandidatesIdeal.nD Cert.CandidatesIdeal.τ).loc Cert.CandidatesIdeal.main_arg0)
          ∧ r.2.mem ((c.tc : Thread Cert.CandidatesIdeal.nD Cert.CandidatesIdeal.τ).loc Cert.CandidatesIdeal.main_arg1) = m ((c.tc : Thread Cert.CandidatesIdeal.nD Cert.CandidatesIdeal.τ).loc Cert.CandidatesIdeal.main_arg1))
      ∧ θ_run (Cert.CandidatesReferenceIdeal.defs (F := Ideal)) (onTc (τ := Cert.CandidatesReferenceIdeal.τ) (Cert.CandidatesReferenceIdeal.main (F := Ideal))) ⟨m', fun _ => 0, g'⟩ (fun r => ∀ c : Dev Cert.CandidatesReferenceIdeal.nD,
          r.2.mem ((c.tc : Thread Cert.CandidatesReferenceIdeal.nD Cert.CandidatesReferenceIdeal.τ).loc Cert.CandidatesReferenceIdeal.main_v23) = v0 c
          ∧ r.2.mem ((c.tc : Thread Cert.CandidatesReferenceIdeal.nD Cert.CandidatesReferenceIdeal.τ).loc Cert.CandidatesReferenceIdeal.main_v24) = v1 c
          ∧ r.2.mem ((c.tc : Thread Cert.CandidatesReferenceIdeal.nD Cert.CandidatesReferenceIdeal.τ).loc Cert.CandidatesReferenceIdeal.main_arg0) = m' ((c.tc : Thread Cert.CandidatesReferenceIdeal.nD Cert.CandidatesReferenceIdeal.τ).loc Cert.CandidatesReferenceIdeal.main_arg0)
          ∧ r.2.mem ((c.tc : Thread Cert.CandidatesReferenceIdeal.nD Cert.CandidatesReferenceIdeal.τ).loc Cert.CandidatesReferenceIdeal.main_arg1) = m' ((c.tc : Thread Cert.CandidatesReferenceIdeal.nD Cert.CandidatesReferenceIdeal.τ).loc Cert.CandidatesReferenceIdeal.main_arg1))

def Claim : Prop :=
  ∃ (hRetrieve : Cert.Retrieve.Facts) (hRetrieveIdeal : Cert.RetrieveIdeal.Facts) (hRetrieveReferenceIdeal : Cert.RetrieveReferenceIdeal.Facts) (hChunks : Cert.Chunks.Facts) (hChunksIdeal : Cert.ChunksIdeal.Facts) (hChunksReferenceIdeal : Cert.ChunksReferenceIdeal.Facts) (hNormalize : Cert.Normalize.Facts) (hNormalizeIdeal : Cert.NormalizeIdeal.Facts) (hNormalizeReferenceIdeal : Cert.NormalizeReferenceIdeal.Facts) (hSimilarity : Cert.Similarity.Facts) (hSimilarityIdeal : Cert.SimilarityIdeal.Facts) (hSimilarityReferenceIdeal : Cert.SimilarityReferenceIdeal.Facts) (hSelect : Cert.Select.Facts) (hSelectIdeal : Cert.SelectIdeal.Facts) (hSelectReferenceIdeal : Cert.SelectReferenceIdeal.Facts) (hCandidates : Cert.Candidates.Facts) (hCandidatesIdeal : Cert.CandidatesIdeal.Facts) (hCandidatesReferenceIdeal : Cert.CandidatesReferenceIdeal.Facts) (hPre_rows_in_range : Cert.Pre_rows_in_range.Facts) (hPre_chunks_in_range : Cert.Pre_chunks_in_range.Facts) (hPre_maxima_above_mask : Cert.Pre_maxima_above_mask.Facts) (hPre_candidates_apart : Cert.Pre_candidates_apart.Facts),
    quiescent_Retrieve (hRetrieve := hRetrieve) (hPre_rows_in_range := hPre_rows_in_range)
    ∧ quiescent_RetrieveIdeal (hRetrieveIdeal := hRetrieveIdeal) (hPre_rows_in_range := hPre_rows_in_range)
    ∧ quiescent_RetrieveReferenceIdeal (hRetrieveReferenceIdeal := hRetrieveReferenceIdeal)
    ∧ quiescent_RetrieveReferenceIdeal_pre_rows_in_range (hRetrieveReferenceIdeal := hRetrieveReferenceIdeal) (hPre_rows_in_range := hPre_rows_in_range)
    ∧ quiescent_Chunks (hChunks := hChunks) (hPre_chunks_in_range := hPre_chunks_in_range)
    ∧ quiescent_ChunksIdeal (hChunksIdeal := hChunksIdeal) (hPre_chunks_in_range := hPre_chunks_in_range)
    ∧ quiescent_ChunksReferenceIdeal (hChunksReferenceIdeal := hChunksReferenceIdeal)
    ∧ quiescent_ChunksReferenceIdeal_pre_chunks_in_range (hChunksReferenceIdeal := hChunksReferenceIdeal) (hPre_chunks_in_range := hPre_chunks_in_range)
    ∧ quiescent_Normalize (hNormalize := hNormalize)
    ∧ quiescent_NormalizeIdeal (hNormalizeIdeal := hNormalizeIdeal)
    ∧ quiescent_NormalizeReferenceIdeal (hNormalizeReferenceIdeal := hNormalizeReferenceIdeal)
    ∧ quiescent_Similarity (hSimilarity := hSimilarity)
    ∧ quiescent_SimilarityIdeal (hSimilarityIdeal := hSimilarityIdeal)
    ∧ quiescent_SimilarityReferenceIdeal (hSimilarityReferenceIdeal := hSimilarityReferenceIdeal)
    ∧ quiescent_Select (hSelect := hSelect)
    ∧ quiescent_SelectIdeal (hSelectIdeal := hSelectIdeal)
    ∧ quiescent_SelectIdeal_pre_maxima_above_mask (hSelectIdeal := hSelectIdeal) (hPre_maxima_above_mask := hPre_maxima_above_mask)
    ∧ quiescent_SelectReferenceIdeal (hSelectReferenceIdeal := hSelectReferenceIdeal)
    ∧ quiescent_SelectReferenceIdeal_pre_maxima_above_mask (hSelectReferenceIdeal := hSelectReferenceIdeal) (hPre_maxima_above_mask := hPre_maxima_above_mask)
    ∧ quiescent_Candidates (hCandidates := hCandidates)
    ∧ quiescent_CandidatesIdeal (hCandidatesIdeal := hCandidatesIdeal)
    ∧ quiescent_CandidatesIdeal_pre_candidates_apart (hCandidatesIdeal := hCandidatesIdeal) (hPre_candidates_apart := hPre_candidates_apart)
    ∧ quiescent_CandidatesReferenceIdeal (hCandidatesReferenceIdeal := hCandidatesReferenceIdeal)
    ∧ quiescent_CandidatesReferenceIdeal_pre_candidates_apart (hCandidatesReferenceIdeal := hCandidatesReferenceIdeal) (hPre_candidates_apart := hPre_candidates_apart)
    ∧ preserves_Retrieve_RetrieveIdeal
    ∧ algebraic_RetrieveIdeal_RetrieveReferenceIdeal (hRetrieveIdeal := hRetrieveIdeal) (hRetrieveReferenceIdeal := hRetrieveReferenceIdeal) (hPre_rows_in_range := hPre_rows_in_range)
    ∧ preserves_Chunks_ChunksIdeal
    ∧ algebraic_ChunksIdeal_ChunksReferenceIdeal (hChunksIdeal := hChunksIdeal) (hChunksReferenceIdeal := hChunksReferenceIdeal) (hPre_chunks_in_range := hPre_chunks_in_range)
    ∧ preserves_Normalize_NormalizeIdeal
    ∧ algebraic_NormalizeIdeal_NormalizeReferenceIdeal (hNormalizeIdeal := hNormalizeIdeal) (hNormalizeReferenceIdeal := hNormalizeReferenceIdeal)
    ∧ preserves_Similarity_SimilarityIdeal
    ∧ algebraic_SimilarityIdeal_SimilarityReferenceIdeal (hSimilarityIdeal := hSimilarityIdeal) (hSimilarityReferenceIdeal := hSimilarityReferenceIdeal)
    ∧ preserves_Select_SelectIdeal
    ∧ algebraic_SelectIdeal_SelectReferenceIdeal_pre_maxima_above_mask (hSelectIdeal := hSelectIdeal) (hSelectReferenceIdeal := hSelectReferenceIdeal) (hPre_maxima_above_mask := hPre_maxima_above_mask)
    ∧ preserves_Candidates_CandidatesIdeal
    ∧ algebraic_CandidatesIdeal_CandidatesReferenceIdeal_pre_candidates_apart (hCandidatesIdeal := hCandidatesIdeal) (hCandidatesReferenceIdeal := hCandidatesReferenceIdeal) (hPre_candidates_apart := hPre_candidates_apart)
-- ==== Pre_candidates_apart.lean ====
abbrev S4096x4096 : Shape := ⟨2, ![4096, 4096]⟩
abbrev S4096x32 : Shape := ⟨2, ![4096, 32]⟩
abbrev S32 : Shape := ⟨1, ![32]⟩
abbrev S4096x32x1 : Shape := ⟨3, ![4096, 32, 1]⟩
abbrev S4096x1x32 : Shape := ⟨3, ![4096, 1, 32]⟩
abbrev S4096x32x32 : Shape := ⟨3, ![4096, 32, 32]⟩
abbrev S32x1 : Shape := ⟨2, ![32, 1]⟩
abbrev S1x32 : Shape := ⟨2, ![1, 32]⟩
abbrev S32x32 : Shape := ⟨2, ![32, 32]⟩
abbrev S1x32x32 : Shape := ⟨3, ![1, 32, 32]⟩
abbrev S_ : Shape := ⟨0, ![]⟩

class Facts : Prop where
  bcast_S4096x32_S4096x32x1_0_1 : S4096x32.BroadcastsInDim S4096x32x1 (![0, 1] : Fin 2 → Fin S4096x32x1.rank)
  bcast_S4096x32_S4096x1x32_0_2 : S4096x32.BroadcastsInDim S4096x1x32 (![0, 2] : Fin 2 → Fin S4096x1x32.rank)
  bcast_S4096x32x1_S4096x32x32_0_1_2 : S4096x32x1.BroadcastsInDim S4096x32x32 (![0, 1, 2] : Fin 3 → Fin S4096x32x32.rank)
  bcast_S4096x1x32_S4096x32x32_0_1_2 : S4096x1x32.BroadcastsInDim S4096x32x32 (![0, 1, 2] : Fin 3 → Fin S4096x32x32.rank)
  bcast_S32_S32x1_0 : S32.BroadcastsInDim S32x1 (![0] : Fin 1 → Fin S32x1.rank)
  bcast_S32_S1x32_1 : S32.BroadcastsInDim S1x32 (![1] : Fin 1 → Fin S1x32.rank)
  bcast_S32x1_S32x32_0_1 : S32x1.BroadcastsInDim S32x32 (![0, 1] : Fin 2 → Fin S32x32.rank)
  bcast_S1x32_S32x32_0_1 : S1x32.BroadcastsInDim S32x32 (![0, 1] : Fin 2 → Fin S32x32.rank)
  bcast_S32x32_S1x32x32_1_2 : S32x32.BroadcastsInDim S1x32x32 (![1, 2] : Fin 2 → Fin S1x32x32.rank)
  bcast_S1x32x32_S4096x32x32_0_1_2 : S1x32x32.BroadcastsInDim S4096x32x32 (![0, 1, 2] : Fin 3 → Fin S4096x32x32.rank)
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x32 : S_.BroadcastsInDim S4096x32 (![] : Fin 0 → Fin S4096x32.rank)
  reducesTo_S4096x32_S_d0_1 : S4096x32.ReducesTo [0, 1] S_
  reducesTo_S4096x32x32_S_d0_1_2 : S4096x32x32.ReducesTo [0, 1, 2] S_

variable [Facts]

def fn_part1 {F : FTy → Type} [FloatOps F] (main_arg1 : IVec S4096x32 32) (main_v13 : IVec S4096x32x32 1) (main_v16 : IVec S_ 1) (main_v18 : IVec S4096x32 1) (main_v19 : IVec S4096x32 32) : IVec S_ 1 :=
  let main_v20 : IVec S4096x32 1 := cmpi .slt main_arg1 main_v19
  let main_v21 : IVec S4096x32 1 := andi main_v18 main_v20
  let main_c_2 : IVec S_ 1 := constantI S_ 1 1#1
  let main_v22 : IVec S_ 1 := (fun x v => Host.reduce IntOp.andi x v reducesTo_S4096x32_S_d0_1 h_S_) main_v21 main_c_2
  let main_v23 : IVec S_ 1 := andi main_v16 main_v22
  let main_c_3 : IVec S_ 1 := constantI S_ 1 1#1
  let main_v24 : IVec S_ 1 := (fun x v => Host.reduce IntOp.andi x v reducesTo_S4096x32x32_S_d0_1_2 h_S_) main_v13 main_c_3
  let main_v25 : IVec S_ 1 := andi main_v23 main_v24
  main_v25

def fn {F : FTy → Type} [FloatOps F] (main_arg0 : FVec F S4096x4096 .f32) (main_arg1 : IVec S4096x32 32) : IVec S_ 1 :=
  let main_v0 : IVec S32 32 := iotaInDim S32 32 0
  let main_v1 : IVec S4096x32x1 32 := broadcastInDim S4096x32x1 ![0, 1] bcast_S4096x32_S4096x32x1_0_1 main_arg1
  let main_v2 : IVec S4096x1x32 32 := broadcastInDim S4096x1x32 ![0, 2] bcast_S4096x32_S4096x1x32_0_2 main_arg1
  let main_v3 : IVec S4096x32x32 32 := broadcastInDim S4096x32x32 ![0, 1, 2] bcast_S4096x32x1_S4096x32x32_0_1_2 main_v1
  let main_v4 : IVec S4096x32x32 32 := broadcastInDim S4096x32x32 ![0, 1, 2] bcast_S4096x1x32_S4096x32x32_0_1_2 main_v2
  let main_v5 : IVec S4096x32x32 1 := cmpi .ne main_v3 main_v4
  let main_v6 : IVec S32x1 32 := broadcastInDim S32x1 ![0] bcast_S32_S32x1_0 main_v0
  let main_v7 : IVec S1x32 32 := broadcastInDim S1x32 ![1] bcast_S32_S1x32_1 main_v0
  let main_v8 : IVec S32x32 32 := broadcastInDim S32x32 ![0, 1] bcast_S32x1_S32x32_0_1 main_v6
  let main_v9 : IVec S32x32 32 := broadcastInDim S32x32 ![0, 1] bcast_S1x32_S32x32_0_1 main_v7
  let main_v10 : IVec S32x32 1 := cmpi .eq main_v8 main_v9
  let main_v11 : IVec S1x32x32 1 := broadcastInDim S1x32x32 ![1, 2] bcast_S32x32_S1x32x32_1_2 main_v10
  let main_v12 : IVec S4096x32x32 1 := broadcastInDim S4096x32x32 ![0, 1, 2] bcast_S1x32x32_S4096x32x32_0_1_2 main_v11
  let main_v13 : IVec S4096x32x32 1 := ori main_v5 main_v12
  let main_cst : FVec F S_ .f32 := constant S_ .f32 0xFF61B1E6#32
  let main_v14 : FVec F S4096x4096 .f32 := broadcastInDim S4096x4096 ![] bcast_S_S4096x4096 main_cst
  let main_v15 : IVec S4096x4096 1 := cmpf .ogt main_arg0 main_v14
  let main_c : IVec S_ 1 := constantI S_ 1 1#1
  let main_v16 : IVec S_ 1 := (fun x v => Host.reduce IntOp.andi x v reducesTo_S4096x4096_S_d0_1 h_S_) main_v15 main_c
  let main_c_0 : IVec S_ 32 := constantI S_ 32 0#32
  let main_v17 : IVec S4096x32 32 := broadcastInDim S4096x32 ![] bcast_S_S4096x32 main_c_0
  let main_v18 : IVec S4096x32 1 := cmpi .sge main_arg1 main_v17
  let main_c_1 : IVec S_ 32 := constantI S_ 32 784#32
  let main_v19 : IVec S4096x32 32 := broadcastInDim S4096x32 ![] bcast_S_S4096x32 main_c_1
  fn_part1 (F := F) main_arg1 main_v13 main_v16 main_v18 main_v19
-- ==== Pre_chunks_in_range.lean ====
abbrev S4096x100352 : Shape := ⟨2, ![4096, 100352]⟩
abbrev S4096x32 : Shape := ⟨2, ![4096, 32]⟩
abbrev S_ : Shape := ⟨0, ![]⟩

class Facts : Prop where
  bcast_S_S4096x32 : S_.BroadcastsInDim S4096x32 (![] : Fin 0 → Fin S4096x32.rank)
  reducesTo_S4096x32_S_d0_1 : S4096x32.ReducesTo [0, 1] S_
  h_S_ : 0 < S_.numel

variable [Facts]

def fn {F : FTy → Type} [FloatOps F] (main_arg0 : FVec F S4096x100352 .f32) (main_arg1 : IVec S4096x32 32) : IVec S_ 1 :=
  let main_c : IVec S_ 32 := constantI S_ 32 0#32
  let main_v0 : IVec S4096x32 32 := broadcastInDim S4096x32 ![] bcast_S_S4096x32 main_c
  let main_v1 : IVec S4096x32 1 := cmpi .sge main_arg1 main_v0
  let main_c_0 : IVec S_ 32 := constantI S_ 32 3211264#32
  let main_v2 : IVec S4096x32 32 := broadcastInDim S4096x32 ![] bcast_S_S4096x32 main_c_0
  let main_v3 : IVec S4096x32 1 := cmpi .slt main_arg1 main_v2
  let main_v4 : IVec S4096x32 1 := andi main_v1 main_v3
  let main_c_1 : IVec S_ 1 := constantI S_ 1 1#1
  let main_v5 : IVec S_ 1 := (fun x v => Host.reduce IntOp.andi x v reducesTo_S4096x32_S_d0_1 h_S_) main_v4 main_c_1
  main_v5
-- ==== Pre_maxima_above_mask.lean ====
abbrev S4096x784 : Shape := ⟨2, ![4096, 784]⟩
abbrev S_ : Shape := ⟨0, ![]⟩

class Facts : Prop where
  bcast_S_S4096x784 : S_.BroadcastsInDim S4096x784 (![] : Fin 0 → Fin S4096x784.rank)
  reducesTo_S4096x784_S_d0_1 : S4096x784.ReducesTo [0, 1] S_
  h_S_ : 0 < S_.numel

variable [Facts]

def fn {F : FTy → Type} [FloatOps F] (main_arg0 : FVec F S4096x784 .f32) : IVec S_ 1 :=
  let main_cst : FVec F S_ .f32 := constant S_ .f32 0xFF61B1E6#32
  let main_v0 : FVec F S4096x784 .f32 := broadcastInDim S4096x784 ![] bcast_S_S4096x784 main_cst
  let main_v1 : IVec S4096x784 1 := cmpf .ogt main_arg0 main_v0
  let main_c : IVec S_ 1 := constantI S_ 1 1#1
  let main_v2 : IVec S_ 1 := (fun x v => Host.reduce IntOp.andi x v reducesTo_S4096x784_S_d0_1 h_S_) main_v1 main_c
  main_v2
-- ==== Pre_rows_in_range.lean ====
abbrev S100000x256 : Shape := ⟨2, ![100000, 256]⟩
abbrev S4096x32 : Shape := ⟨2, ![4096, 32]⟩
abbrev S_ : Shape := ⟨0, ![]⟩

class Facts : Prop where
  bcast_S_S4096x32 : S_.BroadcastsInDim S4096x32 (![] : Fin 0 → Fin S4096x32.rank)
  reducesTo_S4096x32_S_d0_1 : S4096x32.ReducesTo [0, 1] S_
  h_S_ : 0 < S_.numel

variable [Facts]

def fn {F : FTy → Type} [FloatOps F] (main_arg0 : FVec F S100000x256 .f32) (main_arg1 : IVec S4096x32 32) (main_arg2 : FVec F S4096x32 .f32) : IVec S_ 1 :=
  let main_c : IVec S_ 32 := constantI S_ 32 0#32
  let main_v0 : IVec S4096x32 32 := broadcastInDim S4096x32 ![] bcast_S_S4096x32 main_c
  let main_v1 : IVec S4096x32 1 := cmpi .sge main_arg1 main_v0
  let main_c_0 : IVec S_ 32 := constantI S_ 32 100000#32
  let main_v2 : IVec S4096x32 32 := broadcastInDim S4096x32 ![] bcast_S_S4096x32 main_c_0
  let main_v3 : IVec S4096x32 1 := cmpi .slt main_arg1 main_v2
  let main_v4 : IVec S4096x32 1 := andi main_v1 main_v3
  let main_c_1 : IVec S_ 1 := constantI S_ 1 1#1
  let main_v5 : IVec S_ 1 := (fun x v => Host.reduce IntOp.andi x v reducesTo_S4096x32_S_d0_1 h_S_) main_v4 main_c_1
  main_v5
-- ==== Retrieve.lean ====
abbrev S100000x256 : Shape := ⟨2, ![100000, 256]⟩
abbrev S4096x32 : Shape := ⟨2, ![4096, 32]⟩
abbrev S100000x2x128 : Shape := ⟨3, ![100000, 2, 128]⟩
abbrev S131072 : Shape := ⟨1, ![131072]⟩
abbrev S131072x2x128 : Shape := ⟨3, ![131072, 2, 128]⟩
abbrev S128 : Shape := ⟨1, ![128]⟩
abbrev S128x2x128 : Shape := ⟨3, ![128, 2, 128]⟩
abbrev S_ : Shape := ⟨0, ![]⟩
abbrev S4096x32x256 : Shape := ⟨3, ![4096, 32, 256]⟩
abbrev S4096x256 : Shape := ⟨2, ![4096, 256]⟩
abbrev S128x32x256 : Shape := ⟨3, ![128, 32, 256]⟩
abbrev S128x32 : Shape := ⟨2, ![128, 32]⟩
abbrev S128x256 : Shape := ⟨2, ![128, 256]⟩
abbrev S128x1x256 : Shape := ⟨3, ![128, 1, 256]⟩
abbrev S128x1 : Shape := ⟨2, ![128, 1]⟩

abbrev nBuf : Table → Nat
  | .hbm => 8
  | .local .tc .vmem => 6
  | .local .scVector .vmem => 2
  | _ => 0

abbrev bufTy : (tb : Table) → Fin (nBuf tb) → BufTy
  | .hbm, ⟨0, _⟩ => ⟨S100000x256, .f32⟩
  | .hbm, ⟨1, _⟩ => ⟨S4096x32, .i32⟩
  | .hbm, ⟨2, _⟩ => ⟨S4096x32, .f32⟩
  | .hbm, ⟨3, _⟩ => ⟨S100000x2x128, .f32⟩
  | .hbm, ⟨4, _⟩ => ⟨S131072, .i32⟩
  | .hbm, ⟨5, _⟩ => ⟨S131072x2x128, .f32⟩
  | .hbm, ⟨6, _⟩ => ⟨S4096x32x256, .f32⟩
  | .hbm, ⟨7, _⟩ => ⟨S4096x256, .f32⟩
  | .local .tc .vmem, ⟨0, _⟩ => ⟨S128x32x256, .f32⟩
  | .local .tc .vmem, ⟨1, _⟩ => ⟨S128x32x256, .f32⟩
  | .local .tc .vmem, ⟨2, _⟩ => ⟨S128x32, .f32⟩
  | .local .tc .vmem, ⟨3, _⟩ => ⟨S128x32, .f32⟩
  | .local .tc .vmem, ⟨4, _⟩ => ⟨S128x256, .f32⟩
  | .local .tc .vmem, ⟨5, _⟩ => ⟨S128x256, .f32⟩
  | .local .scVector .vmem, ⟨0, _⟩ => ⟨S128, .i32⟩
  | .local .scVector .vmem, ⟨1, _⟩ => ⟨S128x2x128, .f32⟩
  | _, _ => ⟨S100000x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v0_scv : Ref sig .scVector := ⟨.hbm, 3, rfl⟩
abbrev main_v1_scv : Ref sig .scVector := ⟨.hbm, 4, rfl⟩
abbrev main_v2_scv : Ref sig .scVector := ⟨.hbm, 5, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c32_i32 : BitVec 32 := 32#32
  let v3 : BitVec 32 := Scalar.addi c0_i32_0 c32_i32
  let c1_i32 : BitVec 32 := 1#32
  ⟨c0_i32_0, v3, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c0_i32_0 : BitVec 32 := 0#32
  let c1_i32 : BitVec 32 := 1#32
  let arg8 : BitVec 32 := Scf.iv c0_i32_0 c1_i32 k0_t1
  let c128_i32 : BitVec 32 := 128#32
  let v5 : BitVec 32 := Scalar.muli arg8 c128_i32
  let v6 : BitVec 32 := Scalar.addi v2 v5
  ![v6.toNat]
def k0_off2 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c0_i32_0 : BitVec 32 := 0#32
  let c1_i32 : BitVec 32 := 1#32
  let arg8 : BitVec 32 := Scf.iv c0_i32_0 c1_i32 k0_t1
  let c128_i32 : BitVec 32 := 128#32
  let v5 : BitVec 32 := Scalar.muli arg8 c128_i32
  let v6 : BitVec 32 := Scalar.addi v2 v5
  let c0_i32_9_r1 : BitVec 32 := 0#32
  let c0_i32_10_r1 : BitVec 32 := 0#32
  ![v6.toNat, 0, 0]
abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x32x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== RetrieveReferenceIdeal.lean ====
abbrev S100000x256 : Shape := ⟨2, ![100000, 256]⟩
abbrev S4096x32 : Shape := ⟨2, ![4096, 32]⟩
abbrev S_ : Shape := ⟨0, ![]⟩
abbrev S4096x32x1 : Shape := ⟨3, ![4096, 32, 1]⟩
abbrev S1 : Shape := ⟨1, ![1]⟩
abbrev S1x1x1 : Shape := ⟨3, ![1, 1, 1]⟩
abbrev S4096x32x256 : Shape := ⟨3, ![4096, 32, 256]⟩
abbrev S4096x256 : Shape := ⟨2, ![4096, 256]⟩

abbrev nBuf : Space → Nat
  | .hbm => 31
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S4096x32, .i32⟩
  | .hbm, ⟨2, _⟩ => ⟨S4096x32, .f32⟩
  | .hbm, ⟨3, _⟩ => ⟨S_, .i32⟩
  | .hbm, ⟨4, _⟩ => ⟨S4096x32, .i32⟩
  | .hbm, ⟨5, _⟩ => ⟨S4096x32, .i1⟩
  | .hbm, ⟨6, _⟩ => ⟨S_, .i32⟩
  | .hbm, ⟨7, _⟩ => ⟨S4096x32, .i32⟩
  | .hbm, ⟨8, _⟩ => ⟨S4096x32, .i32⟩
  | .hbm, ⟨9, _⟩ => ⟨S4096x32, .i32⟩
  | .hbm, ⟨10, _⟩ => ⟨S4096x32x1, .i32⟩
  | .hbm, ⟨11, _⟩ => ⟨S1, .i32⟩
  | .hbm, ⟨12, _⟩ => ⟨S_, .i32⟩
  | .hbm, ⟨13, _⟩ => ⟨S4096x32x1, .i32⟩
  | .hbm, ⟨14, _⟩ => ⟨S4096x32x1, .i1⟩
  | .hbm, ⟨15, _⟩ => ⟨S1x1x1, .i32⟩
  | .hbm, ⟨16, _⟩ => ⟨S4096x32x1, .i32⟩
  | .hbm, ⟨17, _⟩ => ⟨S4096x32x1, .i1⟩
  | .hbm, ⟨18, _⟩ => ⟨S4096x32x1, .i1⟩
  | .hbm, ⟨19, _⟩ => ⟨S_, .i1⟩
  | .hbm, ⟨20, _⟩ => ⟨S4096x32, .i1⟩
  | .hbm, ⟨21, _⟩ => ⟨S4096x32x256, .f32⟩
  | .hbm, ⟨22, _⟩ => ⟨S4096x32x256, .i1⟩
  | .hbm, ⟨23, _⟩ => ⟨S_, .f32⟩
  | .hbm, ⟨24, _⟩ => ⟨S4096x32x256, .f32⟩
  | .hbm, ⟨25, _⟩ => ⟨S4096x32x256, .f32⟩
  | .hbm, ⟨26, _⟩ => ⟨S4096x32x1, .f32⟩
  | .hbm, ⟨27, _⟩ => ⟨S4096x32x256, .f32⟩
  | .hbm, ⟨28, _⟩ => ⟨S4096x32x256, .f32⟩
  | .hbm, ⟨29, _⟩ => ⟨S_, .f32⟩
  | .hbm, ⟨30, _⟩ => ⟨S4096x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_cst : Ref sig .tc := ⟨.hbm, 29, rfl⟩
abbrev main_v4 : Ref sig .tc := ⟨.hbm, 30, rfl⟩

abbrev nD : Nat := 1
abbrev τ : Topo := Topo.v7x

variable {F : FTy → Type} [FloatOps F]
-- ==== Chunks.lean ====
abbrev S4096x100352 : Shape := ⟨2, ![4096, 100352]⟩
abbrev S4096x32 : Shape := ⟨2, ![4096, 32]⟩
abbrev S3211264x128 : Shape := ⟨2, ![3211264, 128]⟩
abbrev S131072 : Shape := ⟨1, ![131072]⟩
abbrev S131072x128 : Shape := ⟨2, ![131072, 128]⟩
abbrev S128 : Shape := ⟨1, ![128]⟩
abbrev S128x128 : Shape := ⟨2, ![128, 128]⟩
abbrev S_ : Shape := ⟨0, ![]⟩

abbrev nBuf : Table → Nat
  | .hbm => 5
  | .local .scVector .vmem => 2
  | _ => 0

abbrev bufTy : (tb : Table) → Fin (nBuf tb) → BufTy
  | .hbm, ⟨0, _⟩ => ⟨S4096x100352, .f32⟩
  | .hbm, ⟨1, _⟩ => ⟨S4096x32, .i32⟩
  | .hbm, ⟨2, _⟩ => ⟨S3211264x128, .f32⟩
  | .hbm, ⟨3, _⟩ => ⟨S131072, .i32⟩
  | .hbm, ⟨4, _⟩ => ⟨S131072x128, .f32⟩
  | .local .scVector .vmem, ⟨0, _⟩ => ⟨S128, .i32⟩
  | .local .scVector .vmem, ⟨1, _⟩ => ⟨S128x128, .f32⟩
  | _, _ => ⟨S4096x100352, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c32_i32 : BitVec 32 := 32#32
  let v3 : BitVec 32 := Scalar.addi c0_i32_0 c32_i32
  let c1_i32 : BitVec 32 := 1#32
  ⟨c0_i32_0, v3, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c0_i32_0 : BitVec 32 := 0#32
  let c1_i32 : BitVec 32 := 1#32
  let arg8 : BitVec 32 := Scf.iv c0_i32_0 c1_i32 k0_t1
  let c128_i32 : BitVec 32 := 128#32
  let v5 : BitVec 32 := Scalar.muli arg8 c128_i32
  let v6 : BitVec 32 := Scalar.addi v2 v5
  ![v6.toNat]
def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c0_i32_0 : BitVec 32 := 0#32
  let c1_i32 : BitVec 32 := 1#32
  let arg8 : BitVec 32 := Scf.iv c0_i32_0 c1_i32 k0_t1
  let c128_i32 : BitVec 32 := 128#32
  let v5 : BitVec 32 := Scalar.muli arg8 c128_i32
  let v6 : BitVec 32 := Scalar.addi v2 v5
  let c0_i32_7_r1 : BitVec 32 := 0#32
  ![v6.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ChunksReferenceIdeal.lean ====
abbrev S4096x100352 : Shape := ⟨2, ![4096, 100352]⟩
abbrev S4096x32 : Shape := ⟨2, ![4096, 32]⟩
abbrev S3211264x128 : Shape := ⟨2, ![3211264, 128]⟩
abbrev S131072 : Shape := ⟨1, ![131072]⟩
abbrev S_ : Shape := ⟨0, ![]⟩
abbrev S131072x1 : Shape := ⟨2, ![131072, 1]⟩
abbrev S1 : Shape := ⟨1, ![1]⟩
abbrev S1x1 : Shape := ⟨2, ![1, 1]⟩
abbrev S131072x128 : Shape := ⟨2, ![131072, 128]⟩

abbrev nBuf : Space → Nat
  | .hbm => 27
  | .vmem => 0
  | .smem => 0
  | _ => 0

abbrev bufTy : (tb : Table) → Fin (tcTables nBuf tb) → BufTy
  | .hbm, ⟨0, _⟩ => ⟨S4096x100352, .f32⟩
  | .hbm, ⟨1, _⟩ => ⟨S4096x32, .i32⟩
  | .hbm, ⟨2, _⟩ => ⟨S3211264x128, .f32⟩
  | .hbm, ⟨3, _⟩ => ⟨S131072, .i32⟩
  | .hbm, ⟨4, _⟩ => ⟨S_, .i32⟩
  | .hbm, ⟨5, _⟩ => ⟨S131072, .i32⟩
  | .hbm, ⟨6, _⟩ => ⟨S131072, .i1⟩
  | .hbm, ⟨7, _⟩ => ⟨S_, .i32⟩
  | .hbm, ⟨8, _⟩ => ⟨S131072, .i32⟩
  | .hbm, ⟨9, _⟩ => ⟨S131072, .i32⟩
  | .hbm, ⟨10, _⟩ => ⟨S131072, .i32⟩
  | .hbm, ⟨11, _⟩ => ⟨S131072x1, .i32⟩
  | .hbm, ⟨12, _⟩ => ⟨S1, .i32⟩
  | .hbm, ⟨13, _⟩ => ⟨S_, .i32⟩
  | .hbm, ⟨14, _⟩ => ⟨S131072x1, .i32⟩
  | .hbm, ⟨15, _⟩ => ⟨S131072x1, .i1⟩
  | .hbm, ⟨16, _⟩ => ⟨S1x1, .i32⟩
  | .hbm, ⟨17, _⟩ => ⟨S131072x1, .i32⟩
  | .hbm, ⟨18, _⟩ => ⟨S131072x1, .i1⟩
  | .hbm, ⟨19, _⟩ => ⟨S131072x1, .i1⟩
  | .hbm, ⟨20, _⟩ => ⟨S_, .i1⟩
  | .hbm, ⟨21, _⟩ => ⟨S131072, .i1⟩
  | .hbm, ⟨22, _⟩ => ⟨S131072x128, .f32⟩
  | .hbm, ⟨23, _⟩ => ⟨S131072x128, .i1⟩
  | .hbm, ⟨24, _⟩ => ⟨S_, .f32⟩
  | .hbm, ⟨25, _⟩ => ⟨S131072x128, .f32⟩
  | .hbm, ⟨26, _⟩ => ⟨S131072x128, .f32⟩
  | _, _ => ⟨S4096x100352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v2 : Ref sig .tc := ⟨.hbm, 26, rfl⟩

abbrev nD : Nat := 1
abbrev τ : Topo := Topo.v7x

variable {F : FTy → Type} [FloatOps F]
-- ==== Normalize.lean ====
abbrev S4096x256 : Shape := ⟨2, ![4096, 256]⟩
abbrev S512x256 : Shape := ⟨2, ![512, 256]⟩
abbrev S512 : Shape := ⟨1, ![512]⟩
abbrev S512x1 : Shape := ⟨2, ![512, 1]⟩

abbrev nBuf : Space → Nat
  | .hbm => 2
  | .vmem => 4
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== NormalizeReferenceIdeal.lean ====
abbrev S4096x256 : Shape := ⟨2, ![4096, 256]⟩
abbrev S_ : Shape := ⟨0, ![]⟩
abbrev S4096 : Shape := ⟨1, ![4096]⟩
abbrev S4096x1 : Shape := ⟨2, ![4096, 1]⟩

abbrev nBuf : Space → Nat
  | .hbm => 11
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S_, .f32⟩
  | .hbm, ⟨3, _⟩ => ⟨S4096, .f32⟩
  | .hbm, ⟨4, _⟩ => ⟨S4096x1, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S4096x256, .f32⟩
  | .hbm, ⟨10, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩

abbrev nD : Nat := 1
abbrev τ : Topo := Topo.v7x

variable {F : FTy → Type} [FloatOps F]
-- ==== Similarity.lean ====
abbrev S4096x256 : Shape := ⟨2, ![4096, 256]⟩
abbrev S100000x256 : Shape := ⟨2, ![100000, 256]⟩
abbrev S_ : Shape := ⟨0, ![]⟩
abbrev S100352x256 : Shape := ⟨2, ![100352, 256]⟩
abbrev S4096x100352 : Shape := ⟨2, ![4096, 100352]⟩
abbrev S49x4096x16 : Shape := ⟨3, ![49, 4096, 16]⟩
abbrev S256x256 : Shape := ⟨2, ![256, 256]⟩
abbrev S2048x256 : Shape := ⟨2, ![2048, 256]⟩
abbrev S256x2048 : Shape := ⟨2, ![256, 2048]⟩
abbrev S1x256x16 : Shape := ⟨3, ![1, 256, 16]⟩
abbrev S2048 : Shape := ⟨1, ![2048]⟩
abbrev S2048x1 : Shape := ⟨2, ![2048, 1]⟩
abbrev S256x16x128 : Shape := ⟨3, ![256, 16, 128]⟩
abbrev S256x16 : Shape := ⟨2, ![256, 16]⟩

abbrev nBuf : Space → Nat
  | .hbm => 7
  | .vmem => 9
  | .smem => 0
  | _ => 0

abbrev bufTy : (tb : Table) → Fin (tcTables nBuf tb) → BufTy
  | .hbm, ⟨0, _⟩ => ⟨S4096x256, .f32⟩
  | .hbm, ⟨1, _⟩ => ⟨S100000x256, .f32⟩
  | .hbm, ⟨2, _⟩ => ⟨S_, .i32⟩
  | .hbm, ⟨3, _⟩ => ⟨S_, .f32⟩
  | .hbm, ⟨4, _⟩ => ⟨S100352x256, .f32⟩
  | .hbm, ⟨5, _⟩ => ⟨S4096x100352, .f32⟩
  | .hbm, ⟨6, _⟩ => ⟨S49x4096x16, .f32⟩
  | .local _ .vmem, ⟨0, _⟩ => ⟨S256x256, .f32⟩
  | .local _ .vmem, ⟨1, _⟩ => ⟨S256x256, .f32⟩
  | .local _ .vmem, ⟨2, _⟩ => ⟨S2048x256, .f32⟩
  | .local _ .vmem, ⟨3, _⟩ => ⟨S2048x256, .f32⟩
  | .local _ .vmem, ⟨4, _⟩ => ⟨S256x2048, .f32⟩
  | .local _ .vmem, ⟨5, _⟩ => ⟨S256x2048, .f32⟩
  | .local _ .vmem, ⟨6, _⟩ => ⟨S1x256x16, .f32⟩
  | .local _ .vmem, ⟨7, _⟩ => ⟨S1x256x16, .f32⟩
  | .local _ .vmem, ⟨8, _⟩ => ⟨S2048x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![49, 16], ![false, false]⟩

def k0_cond2 (i : grid0.Coords) : BitVec 1 :=
  let arg0 : BitVec 32 := BitVec.ofNat 32 (i 0).val
  let c48_i32 : BitVec 32 := 48#32
  let v6 : BitVec 1 := Scalar.cmpi .slt arg0 c48_i32
  let v7 : BitVec 32 := Scalar.extui v6
  let c0_i32_4 : BitVec 32 := 0#32
  let v8 : BitVec 1 := Scalar.cmpi .ne v7 c0_i32_4
  v8

def k0_cond3 (i : grid0.Coords) : BitVec 1 :=
  let arg0 : BitVec 32 := BitVec.ofNat 32 (i 0).val
  let c48_i32_5 : BitVec 32 := 48#32
  let v9 : BitVec 1 := Scalar.cmpi .sge arg0 c48_i32_5
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SimilarityReferenceIdeal.lean ====
abbrev S4096x256 : Shape := ⟨2, ![4096, 256]⟩
abbrev S100000x256 : Shape := ⟨2, ![100000, 256]⟩
abbrev S_ : Shape := ⟨0, ![]⟩
abbrev S100000 : Shape := ⟨1, ![100000]⟩
abbrev S100000x1 : Shape := ⟨2, ![100000, 1]⟩
abbrev S256x100000 : Shape := ⟨2, ![256, 100000]⟩
abbrev S4096x100000 : Shape := ⟨2, ![4096, 100000]⟩
abbrev S4096x100352 : Shape := ⟨2, ![4096, 100352]⟩
abbrev S4096x49x16x128 : Shape := ⟨4, ![4096, 49, 16, 128]⟩
abbrev S4096x49x16 : Shape := ⟨3, ![4096, 49, 16]⟩
abbrev S49x4096x16 : Shape := ⟨3, ![49, 4096, 16]⟩

abbrev nBuf : Space → Nat
  | .hbm => 21
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S100000x256, .f32⟩
  | .hbm, ⟨2, _⟩ => ⟨S100000x256, .f32⟩
  | .hbm, ⟨3, _⟩ => ⟨S_, .f32⟩
  | .hbm, ⟨4, _⟩ => ⟨S100000, .f32⟩
  | .hbm, ⟨5, _⟩ => ⟨S100000x1, .f32⟩
  | .hbm, ⟨6, _⟩ => ⟨S100000x1, .f32⟩
  | .hbm, ⟨7, _⟩ => ⟨S_, .f32⟩
  | .hbm, ⟨8, _⟩ => ⟨S100000x1, .f32⟩
  | .hbm, ⟨9, _⟩ => ⟨S100000x1, .f32⟩
  | .hbm, ⟨10, _⟩ => ⟨S100000x256, .f32⟩
  | .hbm, ⟨11, _⟩ => ⟨S100000x256, .f32⟩
  | .hbm, ⟨12, _⟩ => ⟨S256x100000, .f32⟩
  | .hbm, ⟨13, _⟩ => ⟨S4096x100000, .f32⟩
  | .hbm, ⟨14, _⟩ => ⟨S_, .f32⟩
  | .hbm, ⟨15, _⟩ => ⟨S_, .f32⟩
  | .hbm, ⟨16, _⟩ => ⟨S4096x100352, .f32⟩
  | .hbm, ⟨17, _⟩ => ⟨S4096x49x16x128, .f32⟩
  | .hbm, ⟨18, _⟩ => ⟨S_, .f32⟩
  | .hbm, ⟨19, _⟩ => ⟨S4096x49x16, .f32⟩
  | .hbm, ⟨20, _⟩ => ⟨S49x4096x16, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_call1_v0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩

abbrev nD : Nat := 1
abbrev τ : Topo := Topo.v7x

variable {F : FTy → Type} [FloatOps F]
-- ==== Select.lean ====
abbrev S4096x784 : Shape := ⟨2, ![4096, 784]⟩
abbrev S4096x32 : Shape := ⟨2, ![4096, 32]⟩
abbrev S512x784 : Shape := ⟨2, ![512, 784]⟩
abbrev S512x32 : Shape := ⟨2, ![512, 32]⟩
abbrev S512 : Shape := ⟨1, ![512]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S4096x784, .f32⟩
  | .hbm, ⟨1, _⟩ => ⟨S4096x32, .i32⟩
  | .hbm, ⟨2, _⟩ => ⟨S4096x32, .i32⟩
  | .local _ .vmem, ⟨0, _⟩ => ⟨S512x784, .f32⟩
  | .local _ .vmem, ⟨1, _⟩ => ⟨S512x784, .f32⟩
  | .local _ .vmem, ⟨2, _⟩ => ⟨S512x32, .i32⟩
  | .local _ .vmem, ⟨3, _⟩ => ⟨S512x32, .i32⟩
  | .local _ .vmem, ⟨4, _⟩ => ⟨S512x32, .i32⟩
  | .local _ .vmem, ⟨5, _⟩ => ⟨S512x32, .i32⟩
  | _, _ => ⟨S4096x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x32 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x32 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SelectReferenceIdeal.lean ====
abbrev S4096x784 : Shape := ⟨2, ![4096, 784]⟩
abbrev S4096x32 : Shape := ⟨2, ![4096, 32]⟩
abbrev S4096 : Shape := ⟨1, ![4096]⟩
abbrev S4096x1 : Shape := ⟨2, ![4096, 1]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x784, .f32⟩
  | .hbm, ⟨1, _⟩ => ⟨S4096x32, .f32⟩
  | .hbm, ⟨2, _⟩ => ⟨S4096x32, .i32⟩
  | .hbm, ⟨3, _⟩ => ⟨S4096, .i32⟩
  | .hbm, ⟨4, _⟩ => ⟨S4096x1, .i32⟩
  | .hbm, ⟨5, _⟩ => ⟨S_, .i32⟩
  | .hbm, ⟨6, _⟩ => ⟨S4096x1, .i32⟩
  | .hbm, ⟨7, _⟩ => ⟨S4096x1, .i32⟩
  | .hbm, ⟨8, _⟩ => ⟨S4096x32, .i32⟩
  | .hbm, ⟨9, _⟩ => ⟨S4096x32, .i32⟩
  | _, _ => ⟨S4096x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_values : Ref sig .tc := ⟨.hbm, 1, rfl⟩
abbrev main_indices : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Candidates.lean ====
abbrev S4096x4096 : Shape := ⟨2, ![4096, 4096]⟩
abbrev S4096x32 : Shape := ⟨2, ![4096, 32]⟩
abbrev S128x4096 : Shape := ⟨2, ![128, 4096]⟩
abbrev S128x32 : Shape := ⟨2, ![128, 32]⟩
abbrev S128x32x128 : Shape := ⟨3, ![128, 32, 128]⟩
abbrev S128x32x1 : Shape := ⟨3, ![128, 32, 1]⟩
abbrev S128 : Shape := ⟨1, ![128]⟩
abbrev S128x1 : Shape := ⟨2, ![128, 1]⟩

abbrev nBuf : Space → Nat
  | .hbm => 4
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x32, .i32⟩
  | .hbm, ⟨2, _⟩ => ⟨S4096x32, .f32⟩
  | .hbm, ⟨3, _⟩ => ⟨S4096x32, .i32⟩
  | .local _ .vmem, ⟨0, _⟩ => ⟨S128x4096, .f32⟩
  | .local _ .vmem, ⟨1, _⟩ => ⟨S128x4096, .f32⟩
  | .local _ .vmem, ⟨2, _⟩ => ⟨S128x32, .i32⟩
  | .local _ .vmem, ⟨3, _⟩ => ⟨S128x32, .i32⟩
  | .local _ .vmem, ⟨4, _⟩ => ⟨S128x32, .f32⟩
  | .local _ .vmem, ⟨5, _⟩ => ⟨S128x32, .f32⟩
  | .local _ .vmem, ⟨6, _⟩ => ⟨S128x32, .i32⟩
  | .local _ .vmem, ⟨7, _⟩ => ⟨S128x32, .i32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x32 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x32 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== CandidatesReferenceIdeal.lean ====
abbrev S4096x4096 : Shape := ⟨2, ![4096, 4096]⟩
abbrev S4096x32 : Shape := ⟨2, ![4096, 32]⟩
abbrev S4096x32x1 : Shape := ⟨3, ![4096, 32, 1]⟩
abbrev S_ : Shape := ⟨0, ![]⟩
abbrev S128 : Shape := ⟨1, ![128]⟩
abbrev S1x1x128 : Shape := ⟨3, ![1, 1, 128]⟩
abbrev S4096x32x128 : Shape := ⟨3, ![4096, 32, 128]⟩
abbrev S4096 : Shape := ⟨1, ![4096]⟩
abbrev S4096x1 : Shape := ⟨2, ![4096, 1]⟩

abbrev nBuf : Space → Nat
  | .hbm => 32
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x32, .i32⟩
  | .hbm, ⟨2, _⟩ => ⟨S4096x32x1, .i32⟩
  | .hbm, ⟨3, _⟩ => ⟨S_, .i32⟩
  | .hbm, ⟨4, _⟩ => ⟨S4096x32x1, .i32⟩
  | .hbm, ⟨5, _⟩ => ⟨S4096x32x1, .i32⟩
  | .hbm, ⟨6, _⟩ => ⟨S128, .i32⟩
  | .hbm, ⟨7, _⟩ => ⟨S1x1x128, .i32⟩
  | .hbm, ⟨8, _⟩ => ⟨S4096x32x128, .i32⟩
  | .hbm, ⟨9, _⟩ => ⟨S4096x32x128, .i32⟩
  | .hbm, ⟨10, _⟩ => ⟨S4096x32x128, .i32⟩
  | .hbm, ⟨11, _⟩ => ⟨S4096x4096, .i32⟩
  | .hbm, ⟨12, _⟩ => ⟨S4096x4096, .f32⟩
  | .hbm, ⟨13, _⟩ => ⟨S4096x4096, .f32⟩
  | .hbm, ⟨14, _⟩ => ⟨S4096x4096, .i32⟩
  | .hbm, ⟨15, _⟩ => ⟨S4096x32, .f32⟩
  | .hbm, ⟨16, _⟩ => ⟨S4096x32, .f32⟩
  | .hbm, ⟨17, _⟩ => ⟨S_, .f32⟩
  | .hbm, ⟨18, _⟩ => ⟨S4096, .f32⟩
  | .hbm, ⟨19, _⟩ => ⟨S_, .f32⟩
  | .hbm, ⟨20, _⟩ => ⟨S4096, .f32⟩
  | .hbm, ⟨21, _⟩ => ⟨S4096, .f32⟩
  | .hbm, ⟨22, _⟩ => ⟨S4096x1, .f32⟩
  | .hbm, ⟨23, _⟩ => ⟨S4096x32, .f32⟩
  | .hbm, ⟨24, _⟩ => ⟨S4096x32, .f32⟩
  | .hbm, ⟨25, _⟩ => ⟨S4096x32, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S4096x32, .f32⟩
  | .hbm, ⟨30, _⟩ => ⟨S4096x32, .f32⟩
  | .hbm, ⟨31, _⟩ => ⟨S4096x32, .i32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10_0 : Ref sig .tc := ⟨.hbm, 13, rfl⟩
abbrev main_v10_1 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Proof.Setup.lean ====
/-
  The retrieval program as the launch theorem sees it: its body table, the resource algebra its proof uses (the
  SparseCore handshakes' rounds, the TensorCore pipeline's rounds, the transfers' counters), the arrays, the cut of the
  gathered array into one block per trip of each vector subcore, and what a gather of rows leaves.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.RetrieveIdeal
public import proofs.«01_k».proof.Proof.Gen.RetrieveIdeal.Skeleton
public import proofs.«01_k».proof.Proof.Gen.RetrieveIdeal.Launch
public import proofs.«01_k».proof.Proof.Gen.RetrieveIdeal.Points

@[expose] public section

noncomputable section

namespace Cert.Proof.Tail

open Cert.RetrieveIdeal Cert.RetrieveIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The call's semaphores are those the launch asks for. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds, the left factor. -/
abbrev EH : Emb UH (MT nD τ sig (HIx 1) (Elt F) ℕ UU ℕ) := embL
/-- The pipeline's rounds, the middle factor. -/
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP; infer_instance

/-! ## The arrays -/

abbrev xLoc (d : Dev nD) : Loc nD τ sig := (SparseCore.T d).loc main_v0
abbrev iLoc (d : Dev nD) : Loc nD τ sig := (SparseCore.T d).loc main_v1
abbrev oLoc (d : Dev nD) : Loc nD τ sig := (SparseCore.T d).loc main_v2

/-! ## The gathered array's blocks -/

/-- Vector subcore `(c, s)` is worker `2 s + c`. -/
def wid (c : Fin 2) (s : Fin 16) : Fin 32 := ⟨2 * s.val + c.val, by omega⟩
/-- Trip `k` of worker `w` fills block `32 w + k`. -/
def blk (w : Fin 32) (k : Fin 32) : Fin 1024 := ⟨32 * w.val + k.val, by omega⟩

theorem odiv : 1024 ∣ S131072x2x128.size 0 := ⟨128, rfl⟩
abbrev oblk (b : Fin 1024) : Rect S131072x2x128 := Rect.part (s := S131072x2x128) (a₀ := 0) odiv b
/-- The elements of block `b`. -/
abbrev oSet (b : Fin 1024) : Finset S131072x2x128.Idx := (oblk b).set

/-- Workers are pairs of a core and a subcore. -/
def widEquiv : Fin 2 × Fin 16 ≃ Fin 32 where
  toFun p := wid p.1 p.2
  invFun w := (⟨w.val % 2, by omega⟩, ⟨w.val / 2, by omega⟩)
  left_inv p := by
    rcases p with ⟨c, s⟩
    refine Prod.ext (Fin.ext ?_) (Fin.ext ?_) <;> simp only [wid] <;> omega
  right_inv w := Fin.ext (by simp only [wid]; omega)

/-- Blocks are pairs of a worker and a trip. -/
def blkEquiv : Fin 32 × Fin 32 ≃ Fin 1024 where
  toFun p := blk p.1 p.2
  invFun b := (⟨b.val / 32, by omega⟩, ⟨b.val % 32, by omega⟩)
  left_inv p := by
    rcases p with ⟨w, k⟩
    refine Prod.ext (Fin.ext ?_) (Fin.ext ?_) <;> simp only [blk] <;> omega
  right_inv b := Fin.ext (by simp only [blk]; omega)

theorem oSet_disjoint : ∀ a ∈ (Finset.univ : Finset (Fin 1024)), ∀ b ∈ (Finset.univ : Finset (Fin 1024)), a ≠ b → Disjoint (oSet a) (oSet b) :=
  fun _ _ _ _ h => Rect.part_disjoint odiv h
theorem oSet_cover : (Finset.univ : Finset (Fin 1024)).biUnion oSet = Finset.univ := Rect.biUnion_part odiv

/-- The whole gathered array is its blocks at once. -/
theorem pts_blocks (d : Dev nD) (f : Buf (Elt F) (oLoc d)) :
    (oLoc d ↦{fullShare} f : sProp 𝕄)
      = bigSep Finset.univ fun c : Fin 2 => bigSep Finset.univ fun s : Fin 16 => bigSep Finset.univ fun k : Fin 32 =>
          oLoc d ↦[oSet (blk (wid c s) k)]{fullShare} f := by
  have h1 : (oLoc d ↦{fullShare} f : sProp 𝕄) = bigSep Finset.univ fun b : Fin 1024 => oLoc d ↦[oSet b]{fullShare} f := by
    rw [← pointsTo_biUnion Finset.univ (ℓ := oLoc d) oSet oSet_disjoint, oSet_cover]; try rfl
  rw [h1, bigSep_univ_equiv blkEquiv, bigSep_univ_prod (fun p : Fin 32 × Fin 32 => (oLoc d ↦[oSet (blkEquiv p)]{fullShare} f : sProp 𝕄)),
    bigSep_univ_equiv widEquiv, bigSep_univ_prod (fun p : Fin 2 × Fin 16 => bigSep Finset.univ fun k : Fin 32 => (oLoc d ↦[oSet (blkEquiv (widEquiv p, k))]{fullShare} f : sProp 𝕄))]
  rfl

/-! ## Shares of an array every worker reads -/

/-- Worker `w`'s share of an array every worker reads. -/
def wq (w : Fin 32) : PosShare TreeShare := pieceOf fullShare 32 (by decide) w

/-- A whole array is every worker's share of it at once. -/
theorem pts_workers {ℓ : Loc nD τ sig} (f : Buf (Elt F) ℓ) :
    (ℓ ↦{fullShare} f : sProp 𝕄)
      = bigSep Finset.univ fun c : Fin 2 => bigSep Finset.univ fun s : Fin 16 => ℓ ↦{wq (wid c s)} f := by
  rw [pointsTo_piecesOf Finset.univ f (o := 32) (by decide) fullShare,
    bigSep_univ_equiv widEquiv, bigSep_univ_prod (fun p : Fin 2 × Fin 16 => (ℓ ↦{pieceOf fullShare 32 (by decide) (widEquiv p)} f : sProp 𝕄))]
  rfl

/-! ## What the gather leaves -/

/-- The list's entry for the gathered array's row `y 0`. -/
def ent (y : S131072x2x128.Idx) : S131072.Idx := fun b => match b with | ⟨0, _⟩ => y 0

/-- Row `y 0` of the gathered array is the table's row that entry `y 0` of the list names (row 0, were the entry past
    the table's end). -/
def gath {e : EltTy} (x : S100000x2x128.Idx → Elt F e) (ix : S131072.Idx → Elt F .i32) : S131072x2x128.Idx → Elt F e :=
  fun y => x (fun a => match a with
    | ⟨0, _⟩ => if h : (ix (ent y)).toNat < 100000 then ⟨_, h⟩ else (⟨0, by decide⟩ : Fin 100000)
    | ⟨1, _⟩ => y 1
    | ⟨2, _⟩ => y 2)

/-- The gathered array at `y` is the table at `z`, where `z`'s row is the one the entry names and its other coordinates are
    `y`'s. -/
theorem gath_eq {e : EltTy} (x : S100000x2x128.Idx → Elt F e) (ix : S131072.Idx → Elt F .i32) (y : S131072x2x128.Idx) (z : S100000x2x128.Idx)
    (h0 : (z 0).val = (ix (ent y)).toNat) (h1 : (z 1).val = (y 1).val) (h2 : (z 2).val = (y 2).val) : gath x ix y = x z := by
  have hlt : (ix (ent y)).toNat < 100000 := h0 ▸ (z 0).isLt
  refine congrArg x (funext fun a => ?_)
  match a with
  | ⟨0, _⟩ => exact (dif_pos hlt).trans (Fin.ext h0.symm)
  | ⟨1, _⟩ => exact Fin.ext h1.symm
  | ⟨2, _⟩ => exact Fin.ext h2.symm

end Cert.Proof.Tail

end
-- ==== Proof.Trip.lean ====
/-
  One trip of the gather's loop on a vector subcore: 128 entries of the list are fetched, the rows they name are gathered
  and written out to the trip's block.
-/
module

public import proofs.«01_k».proof.Proof.Setup

@[expose] public section

noncomputable section

namespace Cert.Proof.Tail

open Cert.RetrieveIdeal Cert.RetrieveIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xV" => (Memref.whole main_v0_scv : Memref sig Kind.scVector Space.hbm S100000x2x128 EltTy.f32)
local notation "iV" => (Memref.whole main_v1_scv : Memref sig Kind.scVector Space.hbm S131072 EltTy.i32)
local notation "oV" => (Memref.whole main_v2_scv : Memref sig Kind.scVector Space.hbm S131072x2x128 EltTy.f32)
local notation "sV" => (Memref.whole cc0_scratch0 : Memref sig Kind.scVector Space.vmem S128 EltTy.i32)
local notation "rV" => (Memref.whole cc0_scratch1 : Memref sig Kind.scVector Space.vmem S128x2x128 EltTy.f32)

abbrev cV (L : grid0.Coords) : Fin τ.nSC := (L 0).castLE hcore0
abbrev jV (L : grid0.Coords) : Fin τ.nSub := (L 1).castLE hsub0
/-- The vector subcore at coordinates `L` of device `d`. -/
abbrev thr (d : Dev nD) (L : grid0.Coords) : Thread nD τ := V d (cV L) (jV L)

/-- The list's 128 entries that trip `k` fetches. -/
abbrev iK (L : grid0.Coords) (k : Fin k0_t1_loop.trips) : Memref sig .scVector .hbm S128 .i32 :=
  (iV).slice (Rect.unit (s := S131072) (k0_off1 L k) S128.size (k0_off1_inb L k)) (fun _ => rfl)
/-- The block that trip `k` fills. -/
abbrev oK (L : grid0.Coords) (k : Fin k0_t1_loop.trips) : Memref sig .scVector .hbm S128x2x128 .f32 :=
  (oV).slice (Rect.unit (s := S131072x2x128) (k0_off2 L k) S128x2x128.size (k0_off2_inb L k)) (fun _ => rfl)

variable (d : Dev nD) (L : grid0.Coords)
variable (tb : Buf (Elt F) (xLoc d)) (ix : Buf (Elt F) (iLoc d))

/-- What a subcore holds between trips beside the blocks: its shares of the table and of the list, its scratch at some
    contents, its semaphores at zero. -/
def bench (q : PosShare TreeShare) (O : CellTallies nD τ sig (HIx 1)) (W : Waits sig (HIx 1)) : sProp 𝕄 :=
  iprop(Transfers.MayWaits (thr d L) (none : HIx 1) O
    ∗ ((xV).view.loc (thr d L) ↦{q} tb)
    ∗ ((iV).view.loc (thr d L) ↦{q} ix)
    ∗ (∃ f, (sV).view.loc (thr d L) ↦{fullShare} f)
    ∗ (∃ f, (rV).view.loc (thr d L) ↦{fullShare} f)
    ∗ semVal (thr d L, SemLoc.dma cc0_scratch2.sem) 0
    ∗ semVal (thr d L, SemLoc.dma cc0_scoped0.sem) 0
    ∗ semVal (thr d L, SemLoc.dma cc0_scoped1.sem) 0
    ∗ ∃ W', ⌜∀ p ∈ W', p ∈ W ∨ p.2 = none⌝ ∗ owes (thr d L) O W')

variable [FloatOps F]

omit [FloatOps F] in
/-- The fetched entries are entries of the list: each in range where the list's are. -/
theorem fetched_lt (k : Fin k0_t1_loop.trips) (hix : ∀ j : S131072.Idx, (ix j).toNat < 100000) (g : (sV).view.ty.Contents (Elt F)) (x : S128.Idx) :
    ((sV).view.read (Elt F) (View.write (Elt F) (sV).view g ((iK L k).view.read (Elt F) ix) Finset.univ) x).toNat
      < S100000x2x128.size gathers_S100000x2x128_S128x2x128.axis := by
  rw [View.write_whole_univ]
  simp only [Memref.view_whole, View.read_whole]
  exact hix _

omit [FloatOps F] in
/-- What the trip gathers, at an element of its block, is what the whole gather leaves there. -/
theorem gathered_eq (k : Fin k0_t1_loop.trips) (hix : ∀ j : S131072.Idx, (ix j).toNat < 100000) (idx : S128.Idx → Elt F .i32)
    (hidx : ∀ x, idx x = ix ((iK L k).view.emb x)) (hn : S128.numel = 128) (h : ∀ x, (idx x).toNat < 100000) (x : S128x2x128.Idx) :
    SparseCore.gatherPayload gathers_S100000x2x128_S128x2x128
        (((xV).slice (Rect.unit (s := S100000x2x128) ![0, 0, 0] S100000x2x128.size inb_S100000x2x128_S100000x2x128_0_0_0) (fun _ => rfl)).view.read (Elt F) tb)
        (SparseCore.rows idx hn h) x
      = gath tb ix ((oK L k).view.emb x) := by
  have hrow : ∀ n : Fin S128.numel, ((iK L k).view.emb (S128.rowMajor.symm n) 0).val = (k0_off1 L k) 0 + n.val := by
    intro n
    have h0 : ((S128.rowMajor.symm n) 0).val = n.val := by
      rw [← Shape.rowMajor_val_one (d := ![128]), Equiv.apply_symm_apply]
    rw [← h0]
    show (k0_off1 L k) 0 + 1 * (S128.rowMajor.symm n 0).val = _
    rw [Nat.one_mul]
  have hcol : ((oK L k).view.emb x 0).val = (k0_off1 L k) 0 + (x 0).val := by
    show (k0_off2 L k) 0 + 1 * (x 0).val = _
    rw [k0_off1_eq, k0_off2_eq, Nat.one_mul]; rfl
  have hent : ∀ z : S131072.Idx, (z 0).val = (k0_off1 L k) 0 + (x 0).val → z = ent ((oK L k).view.emb x) := by
    intro z hz; funext b
    match b with
    | ⟨0, _⟩ => exact Fin.ext (hz.trans hcol.symm)
  refine (gath_eq tb ix ((oK L k).view.emb x) _ ?_ ?_ ?_).symm
  · show 0 + 1 * (gathers_S100000x2x128_S128x2x128.idx (SparseCore.rows idx hn h) x gathers_S100000x2x128_S128x2x128.axis).val = _
    rw [Shape.Gathers.idx_axis, Nat.zero_add, Nat.one_mul]
    show (idx (S128.rowMajor.symm ((x 0).cast hn.symm))).toNat = _
    rw [hidx, hent _ (hrow ((x 0).cast hn.symm))]
  · show 0 + 1 * (gathers_S100000x2x128_S128x2x128.idx (SparseCore.rows idx hn h) x 1).val = _
    rw [Shape.Gathers.idx_of_ne _ _ _ _ (by decide), Nat.zero_add, Nat.one_mul]
    show (x 1).val = (k0_off2 L k) 1 + 1 * (x 1).val
    rw [k0_off2_eq]; simp
  · show 0 + 1 * (gathers_S100000x2x128_S128x2x128.idx (SparseCore.rows idx hn h) x 2).val = _
    rw [Shape.Gathers.idx_of_ne _ _ _ _ (by decide), Nat.zero_add, Nat.one_mul]
    show (x 2).val = (k0_off2 L k) 2 + 1 * (x 2).val
    rw [k0_off2_eq]; simp

set_option maxHeartbeats 4000000 in
/-- One trip: from the block at any contents to the block at the gathered rows. -/
theorem trip (q : PosShare TreeShare) (O : CellTallies nD τ sig (HIx 1)) (W : Waits sig (HIx 1)) (k : Fin k0_t1_loop.trips) (c : BitVec 32)
    (hix : ∀ j : S131072.Idx, (ix j).toNat < 100000) (f : Buf (Elt F) (oLoc d)) :
    iprop(bench d L tb ix q O W ∗ ((oK L k).view.loc (thr d L) ↦[(oK L k).view.set]{fullShare} f))
      ⊢ wp frame (wpE (defs₀ (F := F)) 𝒱₀ (thr d L) none) Set.univ
          (k0_t1_body L xV (Memref.isWhole_whole _) iV (Memref.isWhole_whole _) oV (Memref.isWhole_whole _)
            sV (Memref.isWhole_whole _) rV (Memref.isWhole_whole _) cc0_scratch2 cc0_scoped0 cc0_scoped1 k c)
          fun _ => iprop(bench d L tb ix q O W
            ∗ ((oK L k).view.loc (thr d L) ↦[(oK L k).view.set]{fullShare} gath tb ix)) := by
  unfold bench k0_t1_body
  iintro ⟨⟨Hmw, Hx, Hi, ⟨%fs, Hs⟩, ⟨%fr, Hr⟩, HsemA, HsemB, HsemC, %W', %hW', HO⟩, Ho⟩
  sl_exec
  have hin : ∀ g x, ((sV).view.read (Elt F) (View.write (Elt F) (sV).view g (trip.sl.dma0 d L ix k) Finset.univ) x).toNat
      < S100000x2x128.size gathers_S100000x2x128_S128x2x128.axis := fetched_lt d L ix k hix
  sl_exec
  sl_step
  isplitr [Ho]
  · isplitl [Hmw]; · iexact Hmw
    isplitl [Hx]; · iexact Hx
    isplitl [Hi]; · iexact Hi
    isplitl [Hs]; · iexists _; iexact Hs
    isplitl [Hr]; · iexists _; iexact Hr
    isplitl [HsemA]; · iexact HsemA
    isplitl [HsemB]; · iexact HsemB
    isplitl [HsemC]; · iexact HsemC
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  iapply (Entails.of_eq (pointsTo_congr (fun i hi => ?_))) $$ Ho
  obtain ⟨x, -, rfl⟩ := Finset.mem_map.mp hi
  have e1 := congrFun (View.read_writes_whole (Val := Elt F) (oK L k).view f (trip.sl.dma0_1 d L tb ix k fs fr hin)) x
  rw [View.read_apply] at e1
  refine Eq.trans ?_ (e1.trans ?_)
  · rfl
  have e2 : trip.sl.dma0_1 d L tb ix k fs fr hin = trip.sl.gather0 d L tb ix k fs hin :=
    View.read_writes_whole (Val := Elt F) (rV).view fr _
  rw [e2]
  refine gathered_eq d L tb ix k hix _ ?_ _ _ x
  intro y
  rw [View.write_whole_univ]
  rfl

end Cert.Proof.Tail

end
-- ==== Proof.Tile.lean ====
/-
  A vector subcore's whole task: 32 trips over its 32 blocks, from the blocks at any contents to the blocks at the
  gathered rows; and the launch's obligation for it.
-/
module

public import proofs.«01_k».proof.Proof.Trip

@[expose] public section

noncomputable section

namespace Cert.Proof.Tail

open Cert.RetrieveIdeal Cert.RetrieveIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xV" => (Memref.whole main_v0_scv : Memref sig Kind.scVector Space.hbm S100000x2x128 EltTy.f32)
local notation "iV" => (Memref.whole main_v1_scv : Memref sig Kind.scVector Space.hbm S131072 EltTy.i32)
local notation "oV" => (Memref.whole main_v2_scv : Memref sig Kind.scVector Space.hbm S131072x2x128 EltTy.f32)
local notation "sV" => (Memref.whole cc0_scratch0 : Memref sig Kind.scVector Space.vmem S128 EltTy.i32)
local notation "rV" => (Memref.whole cc0_scratch1 : Memref sig Kind.scVector Space.vmem S128x2x128 EltTy.f32)

theorem bound_zero : grid0.bound 0 = 2 := rfl
theorem bound_one : grid0.bound 1 = 16 := rfl
theorem trips_eq : k0_t1_loop.trips = 32 := by decide
/-- The worker at coordinates `L`. -/
abbrev wL (L : grid0.Coords) : Fin 32 := wid (Fin.cast bound_zero (L 0)) (Fin.cast bound_one (L 1))
/-- The block that trip `k` at coordinates `L` fills. -/
abbrev bL (L : grid0.Coords) (k : Fin k0_t1_loop.trips) : Fin 1024 := blk (wL L) (Fin.cast trips_eq k)

theorem oRect_eq (L : grid0.Coords) (k : Fin k0_t1_loop.trips) :
    Rect.unit (s := S131072x2x128) (k0_off2 L k) S128x2x128.size (k0_off2_inb L k) = oblk (bL L k) := by
  unfold oblk Rect.part Rect.block
  congr 1 <;> funext a
  · rw [k0_off2_eq]
    match a with
    | 0 =>
      show 8192 * (L 1).val + 4096 * (L 0).val + 128 * k.val = (32 * (2 * (L 1).val + (L 0).val) + k.val) * 128
      omega
    | 1 => simp [Shape.partIx, Shape.partSize]
    | 2 => simp [Shape.partIx, Shape.partSize]
  · match a with
    | 0 => simp [Shape.partSize]
    | 1 => simp [Shape.partSize]
    | 2 => simp [Shape.partSize]

theorem set_oK (L : grid0.Coords) (k : Fin k0_t1_loop.trips) : (oK L k).view.set = oSet (bL L k) := by
  show ((View.whole (main_v2_scv : Ref sig .scVector)).slice _).set = _
  rw [View.set_slice, oRect_eq]; exact Finset.map_refl

variable (d : Dev nD) (L : grid0.Coords)

theorem pts_oK (k : Fin k0_t1_loop.trips) (f : Buf (Elt F) (oLoc d)) :
    ((oK L k).view.loc (thr d L) ↦[(oK L k).view.set]{fullShare} f : sProp 𝕄) = oLoc d ↦[oSet (bL L k)]{fullShare} f := by
  rw [set_oK]
theorem pts_xV (q : PosShare TreeShare) (f : Buf (Elt F) (xLoc d)) :
    ((xV).view.loc (thr d L) ↦{q} f : sProp 𝕄) = xLoc d ↦{q} f := rfl
theorem pts_iV (q : PosShare TreeShare) (f : Buf (Elt F) (iLoc d)) :
    ((iV).view.loc (thr d L) ↦{q} f : sProp 𝕄) = iLoc d ↦{q} f := rfl
theorem pts_sV (f : Buf (Elt F) ((thr d L).loc cc0_scratch0)) :
    ((sV).view.loc (thr d L) ↦{fullShare} f : sProp 𝕄) = (thr d L).loc cc0_scratch0 ↦{fullShare} f := rfl
theorem pts_rV (f : Buf (Elt F) ((thr d L).loc cc0_scratch1)) :
    ((rV).view.loc (thr d L) ↦{fullShare} f : sProp 𝕄) = (thr d L).loc cc0_scratch1 ↦{fullShare} f := rfl

abbrev cAcell (d : Dev nD) (c : Fin τ.nSC) (i : Fin τ.nSub) : GSem nD τ sig := (V d c i, .dma cc0_scratch2.sem)
abbrev cBcell (d : Dev nD) (c : Fin τ.nSC) (i : Fin τ.nSub) : GSem nD τ sig := (V d c i, .dma cc0_scoped0.sem)
abbrev cCcell (d : Dev nD) (c : Fin τ.nSC) (i : Fin τ.nSub) : GSem nD τ sig := (V d c i, .dma cc0_scoped1.sem)

/-- The task's three semaphores are among the subcore's own. -/
theorem ownSems0_V :
    (ownSems0 (thr d L) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scratch2.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped0.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

/-- The two scratch buffers are among the subcore's own: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

variable (tb : Buf (Elt F) (xLoc d)) (ix : Buf (Elt F) (iLoc d)) (o₀ : Buf (Elt F) (oLoc d))

/-- The blocks of a worker after `n` trips: the first `n` at the gathered rows, the others as they were. -/
def blocks (w : Fin 32) (n : ℕ) : sProp 𝕄 :=
  bigSep Finset.univ fun k : Fin 32 => oLoc d ↦[oSet (blk w k)]{fullShare} (if k.val < n then gath tb ix else o₀)

/-- Block `k`, at what it holds after `n` trips, and the worker's other blocks. -/
theorem blocks_at (w : Fin 32) (n : ℕ) (k : Fin 32) :
    (blocks d tb ix o₀ w n : sProp 𝕄)
      = iprop((oLoc d ↦[oSet (blk w k)]{fullShare} (if k.val < n then gath tb ix else o₀))
          ∗ bigSep (Finset.univ.erase k) fun k' : Fin 32 => oLoc d ↦[oSet (blk w k')]{fullShare} (if k'.val < n then gath tb ix else o₀)) :=
  SparseCore.bigSep_erase' (Finset.mem_univ k)

/-- Trip `k` touches block `k` alone. -/
theorem blocks_rest (w : Fin 32) (k : Fin 32) (n : ℕ) (hn : k.val = n) :
    (bigSep (Finset.univ.erase k) fun k' : Fin 32 => (oLoc d ↦[oSet (blk w k')]{fullShare} (if k'.val < n then gath tb ix else o₀) : sProp 𝕄))
      = bigSep (Finset.univ.erase k) fun k' : Fin 32 => oLoc d ↦[oSet (blk w k')]{fullShare} (if k'.val < n + 1 then gath tb ix else o₀) := by
  refine bigSep_congr fun k' hk' => ?_
  have hne : k'.val ≠ k.val := fun e => (Finset.mem_erase.mp hk').1 (Fin.ext e)
  by_cases h : k'.val < n
  · rw [if_pos h, if_pos (by omega)]
  · rw [if_neg h, if_neg (by omega)]

/-- What a subcore receives for its task, and what it gives back. -/
def given (w : Fin 32) (n : ℕ) : sProp 𝕄 :=
  iprop((xLoc d ↦{wq w} tb) ∗ (iLoc d ↦{wq w} ix) ∗ blocks d tb ix o₀ w n)

instance blocks_storable (w : Fin 32) (n : ℕ) : BI.Storable (upEmb : UEmb _ 𝕄) (blocks d tb ix o₀ w n) := by unfold blocks; infer_instance
instance given_storable (w : Fin 32) (n : ℕ) : BI.Storable (upEmb : UEmb _ 𝕄) (given d tb ix o₀ w n) := by unfold given; infer_instance

/-- The loop's invariant before trip `n`. -/
def inv (O : CellTallies nD τ sig (HIx 1)) (W : Waits sig (HIx 1)) (n : Nat) (_ : BitVec 32) : sProp 𝕄 :=
  iprop(bench d L tb ix (wq (wL L)) O W ∗ blocks d tb ix o₀ (wL L) n)

variable [FloatOps F]

set_option maxHeartbeats 4000000 in
/-- The task on the vector subcore at coordinates `L` of device `d`. -/
theorem tile_body (hF : (K (F := F)).Facts) (hix : ∀ j : S131072.Idx, (ix j).toNat < 100000)
    (O : CellTallies nD τ sig (HIx 1)) (W : Waits sig (HIx 1)) (hO : ∀ g, O g none = 0) :
    iprop(levAts (K (F := F)).L (K (F := F)).lev ∗ emp ∗ given d tb ix o₀ (wL L) 0
        ∗ scopedBufs (thr d L) ∗ scopedSems0 (thr d L) ∗ owes (thr d L) O W)
      ⊢ wp frame (wpE (defs₀ (F := F)) 𝒱₀ (thr d L) none) Set.univ
          (cc0_k L xV (Memref.isWhole_whole _) iV (Memref.isWhole_whole _) oV (Memref.isWhole_whole _)
            sV (Memref.isWhole_whole _) rV (Memref.isWhole_whole _) cc0_scratch2 cc0_scoped0 cc0_scoped1)
          fun _ => iprop(given d tb ix o₀ (wL L) 32
            ∗ scopedBufs (thr d L) ∗ scopedSems0 (thr d L)
            ∗ ∃ W', ⌜∀ p ∈ W', p ∈ W ∨ p.2 = none⌝ ∗ owes (thr d L) O W') := by
  simp only [cc0_k_eq_skeleton]; unfold cc0_k_skel given
  rw [(K (F := F)).scopedBufs_V hF d (cV L) (jV L), SparseCore.Cfg.scopedSems0_V (Val := Elt F) d (cV L) (jV L), ownSems0_V, ownBufs_V]
  iintro ⟨#Hlv, -, ⟨Hx, Hi, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (thr d L) (default : HIx 1) O from
    (K (F := F)).mayWaits_none (thr := thr d L) hO) $$ Hlv
  sl_for (inv d L tb ix o₀ O W) $$ [Hmw Hx Hi Hs Hr HsemA HsemB HsemC HO Ho]
  case region =>
    intro k c
    have hk : (Fin.cast trips_eq k).val = k.val := rfl
    unfold inv
    rw [blocks_at d tb ix o₀ (wL L) k.val (Fin.cast trips_eq k), blocks_at d tb ix o₀ (wL L) (k.val + 1) (Fin.cast trips_eq k),
      if_neg (show ¬ (Fin.cast trips_eq k).val < k.val by omega), if_pos (show (Fin.cast trips_eq k).val < k.val + 1 by omega)]
    rw [blocks_rest d tb ix o₀ (wL L) (Fin.cast trips_eq k) k.val hk, ← pts_oK d L k, ← pts_oK d L k]
    iintro ⟨Hb, Ho, Hrest⟩
    iapply (wp_mono frame (wpE (defs₀ (F := F)) 𝒱₀ (thr d L) none) Set.univ (Q := fun _ => iprop((bench d L tb ix (wq (wL L)) O W
        ∗ ((oK L k).view.loc (thr d L) ↦[(oK L k).view.set]{fullShare} gath tb ix))
      ∗ bigSep (Finset.univ.erase (Fin.cast trips_eq k)) fun k' : Fin 32 => oLoc d ↦[oSet (blk (wL L) k')]{fullShare} (if k'.val < k.val + 1 then gath tb ix else o₀)))
      (fun _ => by
        iintro ⟨⟨Hb, Ho⟩, Hrest⟩
        isplitl [Hb]; · iexact Hb
        isplitl [Ho]; · iexact Ho
        iexact Hrest))
    iapply (wp_frame_r frame (wpE (defs₀ (F := F)) 𝒱₀ (thr d L) none) Set.univ)
    isplitr [Hrest]
    · iapply (trip d L tb ix (wq (wL L)) O W k c hix o₀)
      isplitl [Hb] <;> iassumption
    · iexact Hrest
  · unfold inv bench
    isplitr [Ho]
    · isplitl [Hmw]; · iexact Hmw
      isplitl [Hx]; · iexact Hx
      isplitl [Hi]; · iexact Hi
      isplitl [Hs]; · iexists _; iexact Hs
      isplitl [Hr]; · iexists _; iexact Hr
      isplitl [HsemA]; · iexact HsemA
      isplitl [HsemB]; · iexact HsemB
      isplitl [HsemC]; · iexact HsemC
      iexists W; isplitr
      · ipureintro; exact fun p hp => .inl hp
      · iexact HO
    iexact Ho
  iintro %_ HI
  unfold inv bench
  icases HI with ⟨⟨-, Hx, Hi, ⟨%f, Hs⟩, ⟨%g, Hr⟩, HsemA, HsemB, HsemC, %W', %hW', HO⟩, Ho⟩
  sl_step
  isplitl [Hx Hi Ho]
  · isplitl [Hx]; · iexact Hx
    isplitl [Hi]; · iexact Hi
    iexact Ho
  isplitl [Hs Hr Hbufs]
  · isplitl [Hs]; · iexists _; iexact Hs
    isplitl [Hr]; · iexists _; iexact Hr
    iexact Hbufs
  isplitl [HsemA HsemB HsemC Hsems]
  · isplitl [HsemA]; · iexact HsemA
    isplitl [HsemB]; · iexact HsemB
    isplitl [HsemC]; · iexact HsemC
    iexact Hsems
  iexists W'; isplitr
  · ipureintro; exact hW'
  · iexact HO

end Cert.Proof.Tail

end
-- ==== Proof.Calls.lean ====
/-
  What the SparseCore call's handshakes carry, the launch's obligations for it, and the arrays of the call as the
  TensorCore holds them: the table, the list and the result whole.
-/
module

public import proofs.«01_k».proof.Proof.Tile

@[expose] public section

noncomputable section

namespace Cert.Proof.Tail

open Cert.RetrieveIdeal Cert.RetrieveIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xV" => (Memref.whole main_v0_scv : Memref sig Kind.scVector Space.hbm S100000x2x128 EltTy.f32)
local notation "iV" => (Memref.whole main_v1_scv : Memref sig Kind.scVector Space.hbm S131072 EltTy.i32)
local notation "oV" => (Memref.whole main_v2_scv : Memref sig Kind.scVector Space.hbm S131072x2x128 EltTy.f32)
local notation "sV" => (Memref.whole cc0_scratch0 : Memref sig Kind.scVector Space.vmem S128 EltTy.i32)
local notation "rV" => (Memref.whole cc0_scratch1 : Memref sig Kind.scVector Space.vmem S128x2x128 EltTy.f32)

theorem nSub_zero : (K (F := F)).nSub 0 = 16 := rfl
theorem nCore_zero : (K (F := F)).nCore 0 = 2 := rfl

variable (tb : (d : Dev nD) → Buf (Elt F) (xLoc d)) (ix : (d : Dev nD) → Buf (Elt F) (iLoc d)) (o₀ : (d : Dev nD) → Buf (Elt F) (oLoc d))

/-- What the workers of core `c` hold when each has made `n` trips. -/
def coreGiven (d : Dev nD) (c : Fin 2) (n : ℕ) : sProp 𝕄 :=
  bigSep Finset.univ fun s : Fin 16 => given d (tb d) (ix d) (o₀ d) (wid c s) n
instance coreGiven_storable (d : Dev nD) (c : Fin 2) (n : ℕ) : BI.Storable (upEmb : UEmb _ 𝕄) (coreGiven tb ix o₀ d c n) := by
  unfold coreGiven; infer_instance

/-- The one call hands each core its workers' shares and blocks, each worker its own; and takes them back with every block
    filled. -/
def P : (K (F := F)).Pay (nD := nD) (Val := Elt F) (Name := ℕ) (U := UU) where
  st := fun q d c => match q with | 0 => coreGiven tb ix o₀ d (Fin.cast nCore_zero c) 0
  dn := fun q d c => match q with | 0 => coreGiven tb ix o₀ d (Fin.cast nCore_zero c) 32
  go := fun q d c i => match q with
    | 0 => given d (tb d) (ix d) (o₀ d) (wid (Fin.cast nCore_zero c) (Fin.cast nSub_zero i)) 0
  td := fun q d c i => match q with
    | 0 => given d (tb d) (ix d) (o₀ d) (wid (Fin.cast nCore_zero c) (Fin.cast nSub_zero i)) 32
  x := fun _ _ => iprop(emp)

instance P_storable : (P (F := F) tb ix o₀).IsStorable where
  st q d c := match q with
    | 0 => (inferInstance : BI.Storable (upEmb : UEmb _ 𝕄) (coreGiven tb ix o₀ d (Fin.cast nCore_zero c) 0))
  dn q d c := match q with
    | 0 => (inferInstance : BI.Storable (upEmb : UEmb _ 𝕄) (coreGiven tb ix o₀ d (Fin.cast nCore_zero c) 32))
  go q d c i := match q with
    | 0 => (inferInstance : BI.Storable (upEmb : UEmb _ 𝕄) (given d (tb d) (ix d) (o₀ d) (wid (Fin.cast nCore_zero c) (Fin.cast nSub_zero i)) 0))
  td q d c i := match q with
    | 0 => (inferInstance : BI.Storable (upEmb : UEmb _ 𝕄) (given d (tb d) (ix d) (o₀ d) (wid (Fin.cast nCore_zero c) (Fin.cast nSub_zero i)) 32))

/-- The workers of a core, counted as the call counts them. -/
theorem coreGiven_eq (d : Dev nD) (c : Fin 2) (n : ℕ) :
    (coreGiven tb ix o₀ d c n : sProp 𝕄)
      = bigSep Finset.univ fun i : Fin ((K (F := F)).nSub 0) => given d (tb d) (ix d) (o₀ d) (wid c (Fin.cast nSub_zero i)) n := rfl

/-- A core's operands are its workers': the split hands them out and takes them back. -/
theorem vecSplit : (K (F := F)).VecSplit' (P tb ix o₀) 0 := by
  intro d c
  show coreGiven tb ix o₀ d (Fin.cast nCore_zero c) 0 ⊢ |={Set.univ}=> iprop(
      (bigSep Finset.univ fun i : Fin ((K (F := F)).nSub 0) => given d (tb d) (ix d) (o₀ d) (wid (Fin.cast nCore_zero c) (Fin.cast nSub_zero i)) 0)
      ∗ ((bigSep Finset.univ fun i : Fin ((K (F := F)).nSub 0) => given d (tb d) (ix d) (o₀ d) (wid (Fin.cast nCore_zero c) (Fin.cast nSub_zero i)) 32)
          -∗ coreGiven tb ix o₀ d (Fin.cast nCore_zero c) 32))
  rw [← coreGiven_eq, ← coreGiven_eq]
  iintro H; imodintro
  isplitl [H]; · iexact H
  iintro H; iexact H

/-! ## The arrays as the TensorCore holds them -/

/-- Every worker's share and blocks are the table, the list and the blocks of every worker. -/
theorem cores_eq (d : Dev nD) (n : ℕ) :
    (bigSep Finset.univ fun c : Fin 2 => (coreGiven tb ix o₀ d c n : sProp 𝕄))
      = iprop((xLoc d ↦{fullShare} tb d) ∗ (iLoc d ↦{fullShare} ix d)
          ∗ bigSep Finset.univ fun c : Fin 2 => bigSep Finset.univ fun s : Fin 16 => blocks d (tb d) (ix d) (o₀ d) (wid c s) n) := by
  unfold coreGiven given
  rw [pts_workers (tb d), pts_workers (ix d), ← bigSep_sep', ← bigSep_sep']
  refine bigSep_congr fun c _ => ?_
  rw [← bigSep_sep', ← bigSep_sep']

/-- Before the call: the result's array at what it held. -/
theorem st_eq (d : Dev nD) : (bigSep Finset.univ fun c : Fin ((K (F := F)).nCore 0) => (P tb ix o₀).st 0 d c)
    = iprop((xLoc d ↦{fullShare} tb d) ∗ (iLoc d ↦{fullShare} ix d) ∗ oLoc d ↦{fullShare} o₀ d) := by
  refine (cores_eq tb ix o₀ d 0).trans ?_
  rw [pts_blocks d (o₀ d)]
  unfold blocks
  simp only [Nat.not_lt_zero, if_false]

/-- After the call: the result's array at the gathered rows. -/
theorem dn_eq (d : Dev nD) : (bigSep Finset.univ fun c : Fin ((K (F := F)).nCore 0) => (P tb ix o₀).dn 0 d c)
    = iprop((xLoc d ↦{fullShare} tb d) ∗ (iLoc d ↦{fullShare} ix d) ∗ oLoc d ↦{fullShare} gath (tb d) (ix d)) := by
  refine (cores_eq tb ix o₀ d 32).trans ?_
  rw [pts_blocks d (gath (tb d) (ix d))]
  unfold blocks
  simp only [Fin.is_lt, if_true]

variable [FloatOps F]

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          xV (Memref.isWhole_whole _) iV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Each vector subcore's task meets what the launch asks of it. -/
theorem tileObl (hix : ∀ (d : Dev nD) (j : S131072.Idx), (ix d j).toNat < 100000) :
    (K (F := F)).TileObl (D (F := F)) 𝒱 (P tb ix o₀) v₀ 0 := by
  intro d c i O W hO _ _
  simp only [show (P tb ix o₀).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (tb d) (ix d) (o₀ d) facts (hix d) O W hO).trans (wp_mono frame _ _ fun _ => obl_post)

end Cert.Proof.Tail

end
-- ==== Proof.Wsum.lean ====
/-
  The weighted sum on the TensorCore: what one block of it computes, in closed form; the body's run; the pipeline's proof
  data at any contents of its three arrays; and its region of @main.
-/
module

public import proofs.«01_k».proof.Proof.Setup
public import Idealize.ShloMosaic.Lib.Pipeline.FrameBody
public import Idealize.ShloMosaic.Lib.Pipeline.RegionArrays
public import Idealize.ShloMosaic.Lib.Pipeline.Value
public import Idealize.ShloMosaic.Lib.Claim
public import Idealize.ShloMosaic.Lib.Ring
public import Idealize.ShloMosaic.Lib.WordCmp
public import Idealize.ShloMosaic.Lib.ValueIdxCore

@[expose] public section

set_option maxRecDepth 16384

noncomputable section

namespace Cert.Proof.Tail

open Cert.RetrieveIdeal Cert.RetrieveIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.Pipeline (Dat Cfg Window BodyObligation cellOf)

variable {F : FTy → Type} [FloatOps F]

local notation "𝕄" => MT nD τ sig (HIx 1) (Elt F) ℕ UU ℕ

/-! ## One block of the weighted sum -/

theorem inb_row (j : Fin 32) : ∀ a, (![0, j.val, 0] : Fin 3 → Nat) a + S128x1x256.size a ≤ S128x32x256.size a :=
  fun a => match a with
    | ⟨0, _⟩ => show 0 + 128 ≤ 128 by omega
    | ⟨1, _⟩ => show j.val + 1 ≤ 32 by omega
    | ⟨2, _⟩ => show 0 + 256 ≤ 256 by omega
theorem inb_col (j : Fin 32) : ∀ a, (![0, j.val] : Fin 2 → Nat) a + S128x1.size a ≤ S128x32.size a :=
  fun a => match a with
    | ⟨0, _⟩ => show 0 + 128 ≤ 128 by omega
    | ⟨1, _⟩ => show j.val + 1 ≤ 32 by omega

/-- Row `j` of every group of 32 rows, and weight `j` of every group. -/
abbrev rowRect (j : Fin 32) : Rect S128x32x256 := Rect.unit (s := S128x32x256) ![0, j.val, 0] S128x1x256.size (inb_row j)
abbrev colRect (j : Fin 32) : Rect S128x32 := Rect.unit (s := S128x32) ![0, j.val] S128x1.size (inb_col j)
/-- The whole of an output block. -/
abbrev outRect : Rect S128x256 := Rect.unit (s := S128x256) ![0, 0] S128x256.size inb_S128x256_S128x256_0_0

/-- One write over the whole block leaves what it wrote. -/
theorem canon_out (p : Vec F S128x256 .f32) : View.canon (Val := Elt F) [⟨outRect, p⟩] = p := funext fun y => by
  have hy : outRect.emb y = y := funext fun a => Fin.ext (by
    rw [Rect.emb_apply]
    match a with
    | ⟨0, _⟩ => show 0 + 1 * (y ⟨0, _⟩).val = _; omega
    | ⟨1, _⟩ => show 0 + 1 * (y ⟨1, _⟩).val = _; omega)
  have h := View.canon_cons_emb (Val := Elt F) outRect p [] y
  rwa [hy] at h

/-- Row `j` of every group times its weight. -/
def term (x : Vec F S128x32x256 .f32) (w : Vec F S128x32 .f32) (j : Fin 32) : FVec F S128x256 .f32 :=
  mulf (shapeCast S128x256 (View.ld x (rowRect j)) shapeCasts_S128x1x256_S128x256)
    (broadcastTo S128x256 (View.ld w (colRect j)) broadcasts_S128x1_S128x256)

/-- The first `n + 1` terms, added from the left. -/
def acc (x : Vec F S128x32x256 .f32) (w : Vec F S128x32 .f32) : (n : ℕ) → n < 32 → FVec F S128x256 .f32
  | 0, h => term x w ⟨0, h⟩
  | n + 1, h => addf (acc x w n (Nat.lt_of_succ_lt h)) (term x w ⟨n + 1, h⟩)

/-- The block's sum of 32 weighted rows. -/
abbrev wblk (x : Vec F S128x32x256 .f32) (w : Vec F S128x32 .f32) : FVec F S128x256 .f32 := acc x w 31 (by decide)

set_option maxHeartbeats 1000000 in
/-- The body leaves the block's weighted sum in the output's buffer, whatever was there, and the inputs' as they were. -/
theorem wsum_run (c : Dev nD) (i : grid1.Coords) (arg1 : Memref sig .tc .vmem S128x32x256 .f32) (harg1 : arg1.IsWhole)
    (arg2 : Memref sig .tc .vmem S128x32 .f32) (harg2 : arg2.IsWhole) (arg3 : Memref sig .tc .vmem S128x256 .f32) (harg3 : arg3.IsWhole)
    (x0 : Vec F S128x32x256 .f32) (x1 : Vec F S128x32 .f32) (Q : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (wblk x0 x1)) -∗ Q ⟨⟩))
      ⊢ wp frame (wpE (defs₀ (F := F)) Variants.none c none) Set.univ (cc1__wsum_body i arg1 harg1 arg2 harg2 arg3 harg3) Q := by
  simp only [cc1__wsum_body_eq_skeleton]; unfold cc1__wsum_body_skel
  simp only [k1_part6_eq_skeleton, k1_part1_eq_skeleton, k1_part2_eq_skeleton, k1_part3_eq_skeleton, k1_part4_eq_skeleton, k1_part5_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact (View.read_writes_eq_canon _ _ [⟨outRect, _⟩] (fun y => View.cover_of_tiled [⟨outRect, _⟩] S128x256.size (by rfl) y)).trans
    (canon_out _)

/-! ## The block's sum, element by element -/

/-- The first `n + 1` of 32 values, added from the left. -/
def sumTo (f : Fin 32 → F .f32) : (n : ℕ) → n < 32 → F .f32
  | 0, h => f ⟨0, h⟩
  | n + 1, h => FloatOps.addf (sumTo f n (Nat.lt_of_succ_lt h)) (f ⟨n + 1, h⟩)

/-- A term at a group and a column: the row's element there times the group's weight for that row. -/
theorem term_apply (x : Vec F S128x32x256 .f32) (w : Vec F S128x32 .f32) (j : Fin 32) (y : S128x256.Idx) :
    term x w j y = FloatOps.mulf (x (ix3 (y 0) j (y 1))) (w (ix2 (y 0) j)) := by
  refine congrArg₂ FloatOps.mulf ?_ ?_
  · refine (shapeCast_apply (View.ld x (rowRect j)) _ y (ix3 (n0 := 128) (n1 := 1) (n2 := 256) (y 0) 0 (y 1)) ?_).trans ?_
    · rw [Shape.rowMajor_val_three, Shape.rowMajor_val_two]
      show ((y 0).val * 1 + 0) * 256 + (y 1).val = (y 0).val * 256 + (y 1).val; omega
    · refine congrArg x (funext fun a => Fin.ext ?_)
      refine (Rect.emb_apply _ _ a).trans ?_
      match a with
      | ⟨0, _⟩ => show 0 + 1 * (y 0).val = (y 0).val; omega
      | ⟨1, _⟩ => show j.val + 1 * 0 = j.val; omega
      | ⟨2, _⟩ => show 0 + 1 * (y 1).val = (y 1).val; omega
  · refine (broadcastTo_apply (View.ld w (colRect j)) _ y (ix2 (n0 := 128) (n1 := 1) (y 0) 0) (fun a => match a with
      | ⟨0, _⟩ => rfl
      | ⟨1, _⟩ => rfl)).trans ?_
    refine congrArg w (funext fun a => Fin.ext ?_)
    refine (Rect.emb_apply _ _ a).trans ?_
    match a with
    | ⟨0, _⟩ => show 0 + 1 * (y 0).val = (y 0).val; omega
    | ⟨1, _⟩ => show j.val + 1 * 0 = j.val; omega

theorem acc_apply (x : Vec F S128x32x256 .f32) (w : Vec F S128x32 .f32) (y : S128x256.Idx) : ∀ (n : ℕ) (h : n < 32),
    acc x w n h y = sumTo (fun j => FloatOps.mulf (x (ix3 (y 0) j (y 1))) (w (ix2 (y 0) j))) n h
  | 0, h => term_apply x w ⟨0, h⟩ y
  | n + 1, h => by
    show FloatOps.addf (acc x w n _ y) (term x w ⟨n + 1, h⟩ y) = _
    rw [acc_apply x w y n, term_apply]; rfl

/-! ## The pipeline's proof data -/

section Region

variable (a0 : Dev nD → S4096x32x256.Idx → Elt F .f32) (a1 : Dev nD → S4096x32.Idx → Elt F .f32) (a2 : Dev nD → S4096x256.Idx → Elt F .f32)

/-- The three arrays' contents when the region is entered. -/
def entry (c : Dev nD) : (w : Fin cfg1.W) → Buf (Elt F) ((cfg1.win w).arr.view.loc (c.tc : Thread nD τ))
  | ⟨0, _⟩ => a0 c
  | ⟨1, _⟩ => a1 c
  | ⟨2, _⟩ => a2 c

/-- Window `w`'s block of its array at point `t`. -/
def iblk (c : Dev nD) (w : Fin cfg1.W) (t : Fin cfg1.N) : ((cfg1.win w).xblock (cfg1.grid.coords t)).Idx → Elt F (cfg1.win w).elt :=
  ((cfg1.win w).blk t).view.read (Elt F) (entry a0 a1 a2 c w)

/-- The pairs the core's waits may have recorded once the SparseCore call is over. -/
def waited (c : Dev nD) : Set (SemLoc sig × HIx 1) := {p | (K (F := F)).lev ((SparseCore.T c : Thread nD τ), p.1) p.2 ≤ 8 * 1}

def dats (_ : Fin 1) (c : Dev nD) : Dat τ (Elt F) (HIx 1) ℕ UU ℕ cfg1 c where
  A := entry a0 a1 a2 c
  after w t := match w with
    | ⟨0, _⟩ => iblk a0 a1 a2 c 0 t
    | ⟨1, _⟩ => iblk a0 a1 a2 c 1 t
    | ⟨2, _⟩ => wblk (iblk a0 a1 a2 c 0 t) (iblk a0 a1 a2 c 1 t)
  Φ _ := BI.emp
  q _ := fullShare
  owed _ := 0
  recorded _ := waited (F := F) c

theorem A_eq (c : Dev nD) (w : Fin cfg1.W) : (dats a0 a1 a2 0 c).A w = entry a0 a1 a2 c w := by dsimp only [dats]
theorem after_0 (c : Dev nD) (t : Fin cfg1.N) : (dats a0 a1 a2 0 c).after 0 t = iblk a0 a1 a2 c 0 t := by dsimp only [dats]
theorem after_1 (c : Dev nD) (t : Fin cfg1.N) : (dats a0 a1 a2 0 c).after 1 t = iblk a0 a1 a2 c 1 t := by dsimp only [dats]
theorem after_2 (c : Dev nD) (t : Fin cfg1.N) :
    (dats a0 a1 a2 0 c).after 2 t = wblk (iblk a0 a1 a2 c 0 t) (iblk a0 a1 a2 c 1 t) := by dsimp only [dats]

/-- An input's current buffer holds its block at every point. -/
theorem before_0 (c : Dev nD) (t : Fin cfg1.N) (d) : (dats a0 a1 a2 0 c).before 0 t d = iblk a0 a1 a2 c 0 t :=
  ((dats a0 a1 a2 0 c).before_in_eq_fetched 0 rfl (fun _ => rfl) (fun _ _ _ => rfl) (fun t => by rw [after_0]; unfold Dat.blockOf iblk; rw [A_eq]) t d).trans
    (by unfold Dat.fetched Dat.blockOf iblk; rw [A_eq]; rfl)
theorem before_1 (c : Dev nD) (t : Fin cfg1.N) (d) : (dats a0 a1 a2 0 c).before 1 t d = iblk a0 a1 a2 c 1 t :=
  ((dats a0 a1 a2 0 c).before_in_eq_fetched 1 rfl (fun _ => rfl) (fun _ _ _ => rfl) (fun t => by rw [after_1]; unfold Dat.blockOf iblk; rw [A_eq]) t d).trans
    (by unfold Dat.fetched Dat.blockOf iblk; rw [A_eq]; rfl)

/-! ## The body at a point -/

/-- What the body is called with at point `t`, and what it returns. -/
def bodyPre (c : Dev nD) (t : Fin cfg1.N) : sProp 𝕄 :=
  iprop((dats a0 a1 a2 0 c).Φ t.castSucc ∗ (dats a0 a1 a2 0 c).owesAt none t.castSucc
    ∗ (∃ d, owns (c : Thread nD τ) (st1_0 t) fullShare ((dats a0 a1 a2 0 c).before 0 t d))
    ∗ (∃ d, owns (c : Thread nD τ) (st1_1 t) fullShare ((dats a0 a1 a2 0 c).before 1 t d))
    ∗ (∃ d, owns (c : Thread nD τ) (st1_2 t) fullShare ((dats a0 a1 a2 0 c).before 2 t d)))

def bodyPost (c : Dev nD) (t : Fin cfg1.N) : sProp 𝕄 :=
  iprop((dats a0 a1 a2 0 c).Φ t.succ ∗ (dats a0 a1 a2 0 c).owesAt none t.succ
    ∗ owns (c : Thread nD τ) (st1_0 t) fullShare ((dats a0 a1 a2 0 c).after 0 t)
    ∗ owns (c : Thread nD τ) (st1_1 t) fullShare ((dats a0 a1 a2 0 c).after 1 t)
    ∗ owns (c : Thread nD τ) (st1_2 t) fullShare ((dats a0 a1 a2 0 c).after 2 t))

/-- The body at any point: the inputs' buffers hold their blocks, the output's is left at the blocks' weighted sum. -/
theorem sound_body (c : Dev nD) (t : Fin cfg1.N) :
    bodyPre a0 a1 a2 c t ⊢ wp frame (wpE (defs₀ (F := F)) Variants.none c none) Set.univ (bodyAt1 t) (fun _ => bodyPost a0 a1 a2 c t) := by
  unfold bodyPre bodyPost bodyAt1
  simp only [before_0, before_1]
  rw [show (dats a0 a1 a2 0 c).Φ t.succ = (dats a0 a1 a2 0 c).Φ t.castSucc from rfl,
    show (dats a0 a1 a2 0 c).owesAt none t.succ = (dats a0 a1 a2 0 c).owesAt none t.castSucc from rfl,
    after_0, after_1, after_2]
  iintro ⟨HΦ, Ho, ⟨%d0, H0⟩, ⟨%d1, H1⟩, ⟨%d2, H2⟩⟩
  iapply (wsum_run c (grid1.coords t) _ _ _ _ _ _ (iblk a0 a1 a2 c 0 t) (iblk a0 a1 a2 c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row (t : Fin cfg1.N) : defs₀ (F := F) .tc cfg1.body (cfg1.bodyArgs t (cfg1.slots t)) = bodyAt1 t := rfl

theorem body_obligation (c : Dev nD) : BodyObligation (dats a0 a1 a2 0 c) (defs₀ (F := F)) Variants.none none Set.univ := fun t => by
  rw [bigSep_W1, bigSep_W1, defs₀_row]
  exact triple_restated (sound_body a0 a1 a2 c t) rfl .rfl fun _ => .rfl

/-! ## The array the region leaves -/

/-- The weighted sum over all 4096 groups. -/
def wsum (x : S4096x32x256.Idx → Elt F .f32) (w : S4096x32.Idx → Elt F .f32) : S4096x256.Idx → Elt F .f32 :=
  fun y => sumTo (fun j => FloatOps.mulf (x (ix3 (y 0) j (y 1))) (w (ix2 (y 0) j))) 31 (by decide)

/-- Point `t`'s blocks start at group `128 t`. -/
theorem index_0 : ∀ (t : Fin cfg1.N), (cfg1.win 0).index t ⟨0, by decide⟩ = t.val ∧ (cfg1.win 0).index t ⟨1, by decide⟩ = 0 ∧ (cfg1.win 0).index t ⟨2, by decide⟩ = 0 := by decide
theorem index_1 : ∀ (t : Fin cfg1.N), (cfg1.win 1).index t ⟨0, by decide⟩ = t.val ∧ (cfg1.win 1).index t ⟨1, by decide⟩ = 0 := by decide
theorem index_2 : ∀ (t : Fin cfg1.N), (cfg1.win 2).index t ⟨0, by decide⟩ = t.val ∧ (cfg1.win 2).index t ⟨1, by decide⟩ = 0 := by decide

/-- Group `p` of point `t`'s block. -/
def grp (t : Fin cfg1.N) (p : Fin 128) : Fin 4096 :=
  ⟨128 * t.val + p.val, by have := t.isLt; have h : cfg1.N = 32 := N_1; omega⟩

theorem iblk_0 (c : Dev nD) (t : Fin cfg1.N) (p : Fin 128) (j : Fin 32) (q : Fin 256) :
    iblk a0 a1 a2 c 0 t (ix3 p j q) = a0 c (ix3 (grp t p) j q) := by
  refine congrArg (a0 c) (funext fun a => Fin.ext ?_)
  refine (Pipeline.Window.rect_emb_val (cfg1.win 0) t _ a).trans ?_
  obtain ⟨h0, h1, h2⟩ := index_0 t
  match a with
  | ⟨0, _⟩ => refine (congrArg (· * 128 + p.val) h0).trans ?_; show t.val * 128 + p.val = 128 * t.val + p.val; omega
  | ⟨1, _⟩ => refine (congrArg (· * 32 + j.val) h1).trans ?_; show 0 * 32 + j.val = j.val; omega
  | ⟨2, _⟩ => refine (congrArg (· * 256 + q.val) h2).trans ?_; show 0 * 256 + q.val = q.val; omega

theorem iblk_1 (c : Dev nD) (t : Fin cfg1.N) (p : Fin 128) (j : Fin 32) :
    iblk a0 a1 a2 c 1 t (ix2 p j) = a1 c (ix2 (grp t p) j) := by
  refine congrArg (a1 c) (funext fun a => Fin.ext ?_)
  refine (Pipeline.Window.rect_emb_val (cfg1.win 1) t _ a).trans ?_
  obtain ⟨h0, h1⟩ := index_1 t
  match a with
  | ⟨0, _⟩ => refine (congrArg (· * 128 + p.val) h0).trans ?_; show t.val * 128 + p.val = 128 * t.val + p.val; omega
  | ⟨1, _⟩ => refine (congrArg (· * 32 + j.val) h1).trans ?_; show 0 * 32 + j.val = j.val; omega

/-- Where point `t`'s output block lies. -/
theorem oblk_emb (t : Fin cfg1.N) (p : Fin 128) (q : Fin 256) :
    ((cfg1.win 2).blk t).view.emb (ix2 p q) = (ix2 (grp t p) q : S4096x256.Idx) := by
  refine funext fun a => Fin.ext ?_
  refine (Pipeline.Window.rect_emb_val (cfg1.win 2) t _ a).trans ?_
  obtain ⟨h0, h1⟩ := index_2 t
  match a with
  | ⟨0, _⟩ => refine (congrArg (· * 128 + p.val) h0).trans ?_; show t.val * 128 + p.val = 128 * t.val + p.val; omega
  | ⟨1, _⟩ => refine (congrArg (· * 256 + q.val) h1).trans ?_; show 0 * 256 + q.val = q.val; omega

/-- What point `t` writes back is its block of the weighted sum. -/
theorem flushed_2 (c : Dev nD) (t : Fin cfg1.N) :
    (dats a0 a1 a2 0 c).flushed 2 t = ((cfg1.win 2).blk t).view.read (Elt F) (wsum (a0 c) (a1 c)) := by
  have h1 : (dats a0 a1 a2 0 c).flushed 2 t = wblk (iblk a0 a1 a2 c 0 t) (iblk a0 a1 a2 c 1 t) := by
    unfold Dat.flushed; rw [after_2]; rfl
  rw [h1]
  refine funext fun (y : S128x256.Idx) => ?_
  rw [eq_ix2 y]
  refine (acc_apply _ _ _ 31 (by decide)).trans ?_
  refine Eq.trans ?_ (congrArg (wsum (a0 c) (a1 c)) (oblk_emb t (y 0) (y 1))).symm
  unfold wsum
  congr 1
  exact funext fun j => congrArg₂ FloatOps.mulf (iblk_0 a0 a1 a2 c t _ j _) (iblk_1 a0 a1 a2 c t _ j)

/-- The output array ends holding the weighted sum. -/
theorem arrAt_2 (c : Dev nD) : (dats a0 a1 a2 0 c).arrAt 2 cfg1.N = wsum (a0 c) (a1 c) :=
  (dats a0 a1 a2 0 c).arrAt_eq_of_cover 2 (wsum (a0 c) (a1 c)) (fun t _ => flushed_2 a0 a1 a2 c t) fun i => by
    have hi : (i 0).val < 4096 := (i 0).isLt
    have hN : cfg1.N = 32 := N_1
    let t : Fin cfg1.N := ⟨(i 0).val / 128, by omega⟩
    refine ⟨t, flush1_2 t, ?_⟩
    have h := ((cfg1.win 2).blk t).view.emb_mem_set (ix2 (⟨(i 0).val % 128, by omega⟩ : Fin 128) (i 1))
    have he : (ix2 (grp t ⟨(i 0).val % 128, by omega⟩) (i 1) : S4096x256.Idx) = i := by
      refine funext fun a => Fin.ext ?_
      match a with
      | ⟨0, _⟩ => show 128 * ((i 0).val / 128) + (i 0).val % 128 = (i 0).val; omega
      | ⟨1, _⟩ => rfl
    exact Eq.mp (congrArg (· ∈ ((cfg1.win 2).blk t).view.set) ((oblk_emb t _ _).trans he)) h

/-! ## The region -/

abbrev adm : (p : Fin 1) → (pcfgs (F := F) p).Adm := fun p => (cfgs p).toPCfg_adm

/-- The region of @main: entered from its arrays and the core owing nothing, left with the output array at the weighted
    sum. -/
def region : Pipeline.RegionSeg (pcfgs (F := F)) adm (dats a0 a1 a2) none defs₀ Variants.none (K (F := F)).L (K (F := F)).lev 0 where
  win := launch1.win.to₀
  block_pos := launch1.block_pos
  stage_whole := launch1.stage_whole
  K := PEmpty
  osem k := k.elim
  ho := Pipeline.OwnSemFacts.none _
  hbody c := (body_obligation a0 a1 a2 c).loose
  hwaits c := Pipeline.hwaits_of_owed_zero pcfgs adm (dats a0 a1 a2) none _ _ 0 (fun _ _ => rfl) c
  pre c := iprop((dats a0 a1 a2 0 c).arrays ((dats a0 a1 a2 0 c).arrAt · 0) ∗ (dats a0 a1 a2 0 c).owesAt none 0)
  post c := iprop((dats a0 a1 a2 0 c).arrays ((dats a0 a1 a2 0 c).arrAt · cfg1.N) ∗ (dats a0 a1 a2 0 c).owesAt none (Fin.last cfg1.N))
  X _ := BI.emp
  Y _ := BI.emp
  Z _ := BI.emp
  hentry c := by
    rw [Pipeline.ownSems0_none, Pipeline.prefHeld_of_none _ rfl]
    iintro ⟨⟨Ha, HO⟩, -, -⟩
    imodintro
    isplitl [Ha]; · iexact Ha
    isplitr; · iempintro
    isplitl [HO]; · iexact HO
    isplitr <;> iempintro
  hin c := show _ ⊢ (BI.emp : sProp 𝕄) from by iintro -; iempintro
  hout c := by
    rw [Pipeline.ownSems0_none, show Pipeline.scopedRest (Pipeline.pin (pcfgs (F := F)) adm 0).spec c = _ from scopedRest1_eq c]
    iintro -
    isplitr; · iempintro
    isplitr <;> iempintro
  hexit c := by
    iintro ⟨Ha, HO, -, -⟩
    imodintro
    isplitl [Ha]; · iexact Ha
    iexact HO

theorem share_full (c : Dev nD) (w : Fin cfg1.W) : (dats a0 a1 a2 0 c).share w = fullShare :=
  (dats a0 a1 a2 0 c).share_full (fun _ => rfl) w

/-- The region's arrays at any contents, one by one. -/
theorem arrays_three (c : Dev nD) (G : (w : Fin cfg1.W) → Buf (Elt F) ((cfg1.win w).arr.view.loc (c.tc : Thread nD τ))) :
    ((dats a0 a1 a2 0 c).arrays G : sProp 𝕄)
      = iprop(((c.tc : Thread nD τ).loc main_v3 ↦{fullShare} G 0) ∗ ((c.tc : Thread nD τ).loc main_arg2 ↦{fullShare} G 1) ∗ ((c.tc : Thread nD τ).loc main_v4 ↦{fullShare} G 2)) := by
  rw [Pipeline.arrays_eq cfgs (dats a0 a1 a2) 0 c launch1.arr_whole (share_full a0 a1 a2 c) G]
  exact bigSep_W1 _

end Region

end Cert.Proof.Tail

end
-- ==== Proof.Main.lean ====
/-
  @main of the retrieval program on a TensorCore, and the launch: the two reshapes, the gather on the SparseCores, the
  reshape of its rows, the weighted sum; what the result array holds at every final state.
-/
module

public import proofs.«01_k».proof.Proof.Calls
public import proofs.«01_k».proof.Proof.Wsum

@[expose] public section

noncomputable section

namespace Cert.Proof.Tail

open Cert.RetrieveIdeal Cert.RetrieveIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat)

variable {F : FTy → Type} [FloatOps F]

local notation "𝕄" => MT nD τ sig (HIx 1) (Elt F) ℕ UU ℕ

/-! ## A reshape at the head of @main -/

/-- A reshape of one buffer into another: the first stays, the second takes its elements in row-major order. -/
theorem wp_reshape (V₀ : Valuation τ sig (Elt F)) (d : Dev nD) (x y : Ref sig .tc) (hxy : x ≠ y) (he : x.ty.elt = y.ty.elt) (hn : x.ty.shape.ShapeCasts y.ty.shape)
    (hx : x.space ≠ .host ∧ (Proc.devRef .tc x : DevRef τ sig).isScoped = false) (hy : y.space ≠ .host ∧ (Proc.devRef .tc y : DevRef τ sig).isScoped = false)
    (f : Buf (Elt F) ((SparseCore.T d : Thread nD τ).loc x)) (g : Buf (Elt F) ((SparseCore.T d : Thread nD τ).loc y))
    {hp : (SparseCore.T d : Thread nD τ).2.kind.runsHlo = true}
    (p : Prog (TpuEff nD τ sig (Elt F) (SparseCore.Sig (ΛP (F := F)) 1) .tc) PUnit) (Q : PUnit → sProp 𝕄) :
    iprop(boundary (SparseCore.T d : Thread nD τ) ∗ ((SparseCore.T d : Thread nD τ).loc x ↦{fullShare} f) ∗ ((SparseCore.T d : Thread nD τ).loc y ↦{fullShare} g))
      ⊢ iprop(((boundary (SparseCore.T d : Thread nD τ) ∗ ((SparseCore.T d : Thread nD τ).loc x ↦{fullShare} f)
            ∗ ((SparseCore.T d : Thread nD τ).loc y ↦{fullShare} (fun i => he ▸ shapeCast y.ty.shape f hn i : Buf (Elt F) ((SparseCore.T d : Thread nD τ).loc y))))
          -∗ wp frame (wpE ((K (F := F)).defs (D (F := F))) 𝒱 (SparseCore.T d) none) Set.univ p Q)
        -∗ wp frame (wpE ((K (F := F)).defs (D (F := F))) 𝒱 (SparseCore.T d) none) Set.univ
            (hlo hp (StableHlo.reshape x y he hn hx hy) (fun _ => p)) Q) := by
  let V : Valuation τ sig (Elt F) := Function.update (Function.update V₀ (Proc.devRef .tc y) g) (Proc.devRef .tc x) f
  have hne : (Proc.devRef .tc x : DevRef τ sig) ≠ Proc.devRef .tc y := fun h => hxy (Proc.devRef_injective _ h)
  have hVx : V (Proc.devRef .tc x) = f := Function.update_self _ _ _
  have hVy : V (Proc.devRef .tc y) = g := (Function.update_of_ne hne.symm _ _).trans (Function.update_self _ _ _)
  have hb : (StableHlo.reshape (τ := τ) (Val := Elt F) x y he hn hx hy).bufs = {Proc.devRef .tc x, Proc.devRef .tc y} := rfl
  have hrx : (StableHlo.reshape (τ := τ) (Val := Elt F) x y he hn hx hy).result V (Proc.devRef .tc x) = f :=
    (StableHlo.reshape_result_ne (τ := τ) x y he hn hx hy V hxy).trans hVx
  have hry : (StableHlo.reshape (τ := τ) (Val := Elt F) x y he hn hx hy).result V (Proc.devRef .tc y) = fun i => he ▸ shapeCast y.ty.shape f hn i := by
    refine (StableHlo.reshape_result x y he hn hx hy V).trans ?_
    rw [hVx]
  iintro ⟨Hb, Hx, Hy⟩ Hk
  iapply (wp_hlo (defs := (K (F := F)).defs (D (F := F))) 𝒱 (SparseCore.T d) none Set.univ
    (op := StableHlo.reshape (τ := τ) (Val := Elt F) x y he hn hx hy) (q := fun _ => fullShare) (F := V) (fun _ _ => rfl) rfl) $$ [Hb Hx Hy]
  · isplitl [Hb]; · iexact Hb
    rw [hb, SparseCore.bigSep_insert' (by rw [Finset.mem_singleton]; exact hne), bigSep_singleton, hVx, hVy]
    isplitl [Hx]; · iexact Hx
    iexact Hy
  rw [hb, SparseCore.bigSep_insert' (by rw [Finset.mem_singleton]; exact hne), bigSep_singleton, hrx, hry]
  iintro ⟨Hb, Hx, Hy⟩
  iapply Hk
  isplitl [Hb]; · iexact Hb
  isplitl [Hx]; · iexact Hx
  iexact Hy

/-! ## What the arrays hold along the way -/

variable (m : (ℓ : Loc nD τ sig) → Buf (Elt F) ℓ) (ρ : Dev nD → PrngReg)

/-- The value rows as the gather reads them, the list of rows, and what is in the gathered array before. -/
def tb (d : Dev nD) : Buf (Elt F) (xLoc d) := shapeCast S100000x2x128 (m ((SparseCore.T d : Thread nD τ).loc main_arg0)) shapeCasts_S100000x256_S100000x2x128
def ix (d : Dev nD) : Buf (Elt F) (iLoc d) := shapeCast S131072 (m ((SparseCore.T d : Thread nD τ).loc main_arg1)) shapeCasts_S4096x32_S131072
def o₀ (d : Dev nD) : Buf (Elt F) (oLoc d) := m (oLoc d)
/-- The gathered rows, 32 of them per query. -/
def rows (d : Dev nD) : S4096x32x256.Idx → Elt F .f32 := shapeCast S4096x32x256 (gath (tb m d) (ix m d)) shapeCasts_S131072x2x128_S4096x32x256
def wts (d : Dev nD) : S4096x32.Idx → Elt F .f32 := m ((SparseCore.T d : Thread nD τ).loc main_arg2)
def out₀ (d : Dev nD) : S4096x256.Idx → Elt F .f32 := m ((SparseCore.T d : Thread nD τ).loc main_v4)
/-- The result array: each query's rows weighted and added. -/
def result (d : Dev nD) : S4096x256.Idx → Elt F .f32 := wsum (rows m d) (wts m d)

/-! ## The launch element of the proof's ghost state -/

def u₀ : UU :=
  (initOf (K (F := F)).hsCells (K (F := F)).hsToks,
    (initOf (Pipeline.cells cfgs cellOf_inj) (Pipeline.launchToks cfgs cellOf_inj), 1))

/-- What the launch deals device `d` for its region: the staging cells' ghost state and their tokens. -/
def G (d : Dev nD) : sProp 𝕄 :=
  iprop(Pipeline.cellsGhost cfgs (EP (F := F)) 0 d ∗ Pipeline.toksInit cfgs (EP (F := F)) 0 d)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P (tb m) (ix m) (o₀ m)).x q thr) := by
  unfold u₀
  iintro Hu
  ihave H := (ownU_pair (initOf (K (F := F)).hsCells (K (F := F)).hsToks) _) $$ Hu
  icases H with ⟨HH, HR⟩
  ihave H := (own_pair_emb (embR : Emb (UP × Counters) 𝕄) _ _) $$ HR
  icases H with ⟨HP, -⟩
  imod (Pipeline.fund_ghost (Ix := HIx 1) (Name := ℕ) (U := UU) (Lvl := ℕ) (Val := Elt F) cfgs (EP (F := F)) cellOf_inj) $$ [HP] with ⟨Hg, Ht⟩
  · unfold EP; iexact HP
  imodintro
  isplitl [HH]; · iexact HH
  isplitl [Hg Ht]
  · unfold G
    rw [bigSep_sep']
    isplitl [Hg]
    · iapply (Entails.of_eq (show (bigSep Finset.univ fun c : Dev nD => bigSep Finset.univ fun p : Fin 1 => Pipeline.cellsGhost cfgs (EP (F := F)) p c : sProp 𝕄)
        = bigSep Finset.univ fun d => Pipeline.cellsGhost cfgs (EP (F := F)) 0 d from bigSep_congr fun _ _ => bigSep_univ_of_subsingleton (0 : Fin 1)))
      iexact Hg
    · iapply (Entails.of_eq (show (bigSep Finset.univ fun c : Dev nD => bigSep Finset.univ fun p : Fin 1 => Pipeline.toksInit cfgs (EP (F := F)) p c : sProp 𝕄)
        = bigSep Finset.univ fun d => Pipeline.toksInit cfgs (EP (F := F)) 0 d from bigSep_congr fun _ _ => bigSep_univ_of_subsingleton (0 : Fin 1)))
      iexact Ht
  rw [show (bigSep Finset.univ fun thr : Thread nD τ => bigSep Finset.univ fun q : Fin 1 => (P (tb m) (ix m) (o₀ m)).x q thr) = bigSep Finset.univ fun _ => iprop(emp) from
    bigSep_congr fun _ _ => bigSep_univ_of_subsingleton (0 : Fin 1), bigSep_emp']
  iempintro

theorem unscopedBufs_eq (d : Dev nD) (W : (b : Ref sig .tc) → Buf (Elt F) ((d.tc : Thread nD τ).loc b)) :
    (unscopedBufs d W : sProp 𝕄) = iprop(
      ((SparseCore.T d : Thread nD τ).loc main_arg0 ↦{fullShare} W main_arg0) ∗ ((SparseCore.T d : Thread nD τ).loc main_arg1 ↦{fullShare} W main_arg1)
      ∗ ((SparseCore.T d : Thread nD τ).loc main_arg2 ↦{fullShare} W main_arg2) ∗ ((SparseCore.T d : Thread nD τ).loc main_v0 ↦{fullShare} W main_v0)
      ∗ ((SparseCore.T d : Thread nD τ).loc main_v1 ↦{fullShare} W main_v1) ∗ ((SparseCore.T d : Thread nD τ).loc main_v2 ↦{fullShare} W main_v2)
      ∗ ((SparseCore.T d : Thread nD τ).loc main_v3 ↦{fullShare} W main_v3) ∗ ((SparseCore.T d : Thread nD τ).loc main_v4 ↦{fullShare} W main_v4)) := by
  unfold unscopedBufs
  rw [show (Finset.univ.filter fun b : Ref sig .tc => ¬ b.isScoped) = {main_arg0, main_arg1, main_arg2, main_v0, main_v1, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-! ## The weighted sum's call -/

theorem waited_of_below (d : Dev nD) {W : Waits sig (HIx 1)} (h : (K (F := F)).WBelow (SparseCore.T d) W (8 * 1)) (a0 a1 a2) :
    (↑W : Set (SemLoc sig × HIx 1)) ⊆ (dats (F := F) a0 a1 a2 0 d).bound none 0 := fun p hp => Or.inl (h p hp)

theorem below_of_waited (d : Dev nD) {W : Waits sig (HIx 1)} (a0 a1 a2)
    (h : (↑W : Set (SemLoc sig × HIx 1)) ⊆ (dats (F := F) a0 a1 a2 0 d).bound none (Fin.last cfg1.N)) :
    (K (F := F)).WBelow (SparseCore.T d) W (8 * 1) := fun p hp => by
  rcases h hp with h | ⟨w, s, h⟩
  · exact h
  · rw [h]; exact Nat.zero_le _

/-- What the gather's call leaves with the TensorCore besides the pairs it has waited on. -/
def tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_eq (d : Dev nD) : ((K (F := F)).tcSt EH d 1 : sProp 𝕄)
    = iprop((∃ W, ⌜(K (F := F)).WBelow (SparseCore.T d) W (8 * 1)⌝ ∗ owes (SparseCore.T d) 0 W) ∗ tcRest d) := by
  unfold SparseCore.Cfg.tcSt
  rw [(K (F := F)).Otc_end d (le_refl 1)]
  rfl

theorem pin_inj : Function.Injective (Pipeline.cellOf (nD := nD) (τ := τ) (Pipeline.pin (pcfgs (F := F)) adm)) := cellOf_inj

/-- The call in @main is the pipeline's entry, lifted beside the SparseCore calls. -/
theorem lifted (d : Dev nD) (Q : PUnit → sProp 𝕄) :
    wp frame (wpE (D (F := F)) 𝒱 (d.tc : Thread nD τ) none) Set.univ (.op (.customCall (Pipeline.entry 0) ()) (fun x => .ret x)) Q
      ⊢ wp frame (wpE ((K (F := F)).defs (D (F := F))) 𝒱 (SparseCore.T d) none) Set.univ
          (Prog.lift (.customCall (SparseCore.inner (Pipeline.entry 0)) ())) Q := by
  have h := (K (F := F)).wp_liftProg (D (F := F)) 𝒱 (SparseCore.T d) Set.univ none
    (.op (.customCall (Pipeline.entry (0 : Fin 1)) ()) (fun x => .ret x)) Q
  exact h

theorem wp_weighted [∀ e, Nonempty (Elt F e)] (a0 : Dev nD → S4096x32x256.Idx → Elt F .f32) (a1 : Dev nD → S4096x32.Idx → Elt F .f32)
    (a2 : Dev nD → S4096x256.Idx → Elt F .f32) (d : Dev nD) (Q : PUnit → sProp 𝕄) :
    iprop(((boundary (SparseCore.T d : Thread nD τ) ∗ ((K (F := F)).tcSt EH d 1)
          ∗ ((SparseCore.T d : Thread nD τ).loc main_v3 ↦{fullShare} a0 d) ∗ ((SparseCore.T d : Thread nD τ).loc main_arg2 ↦{fullShare} a1 d)
          ∗ ((SparseCore.T d : Thread nD τ).loc main_v4 ↦{fullShare} wsum (a0 d) (a1 d))) -∗ Q ⟨⟩)
        ∗ boundary (SparseCore.T d : Thread nD τ) ∗ ((K (F := F)).tcSt EH d 1)
        ∗ (((SparseCore.T d : Thread nD τ).loc main_v3 ↦{fullShare} a0 d) ∗ ((SparseCore.T d : Thread nD τ).loc main_arg2 ↦{fullShare} a1 d)
          ∗ ((SparseCore.T d : Thread nD τ).loc main_v4 ↦{fullShare} a2 d))
        ∗ levAts (K (F := F)).L (K (F := F)).lev ∗ G (F := F) d)
      ⊢ wp frame (wpE ((K (F := F)).defs (D (F := F))) 𝒱 (SparseCore.T d) none) Set.univ
          (Prog.lift (.customCall (SparseCore.inner (Pipeline.entry 0)) ())) Q := by
  refine BI.Entails.trans ?_ (lifted d Q)
  refine BI.Entails.trans ?_ (Pipeline.RegionSeg.wp pcfgs adm (dats a0 a1 a2) none pin_inj (EP (F := F)) defs₀ Variants.none
    (K (F := F)).L (K (F := F)).lev (region a0 a1 a2) d none (fun _ h => nomatch h) (fun x => .ret x) Q)
  rw [tcSt_eq]
  unfold G
  show (_ : sProp 𝕄) ⊢ _
  iintro ⟨Hk, Hb, ⟨⟨%W, %hW, Ho⟩, Hr⟩, Ha, Hl, Hg, Ht⟩
  isplitl [Hk Hr]
  · iintro ⟨Hb, Hp⟩
    unfold region
    dsimp only
    unfold Dat.owesAt Pipeline.owesWithin
    rw [arrays_three, arrAt_2, Dat.arrAt_in _ 0 rfl, Dat.arrAt_in _ 1 rfl]
    icases Hp with ⟨⟨H3, H2, H4⟩, %W, %hW, Ho⟩
    rw [wp_ret]
    imodintro
    iapply Hk
    isplitl [Hb]; · iexact Hb
    isplitl [Ho Hr]
    · isplitl [Ho]
      · iexists W
        isplitr; · ipureintro; exact below_of_waited d a0 a1 a2 hW
        iexact Ho
      iexact Hr
    isplitl [H3]; · iexact H3
    isplitl [H2]; · iexact H2
    iexact H4
  isplitl [Hb]; · iexact Hb
  isplitl [Ha Ho]
  · unfold region
    dsimp only
    unfold Dat.owesAt Pipeline.owesWithin
    rw [arrays_three]
    isplitl [Ha]; · iexact Ha
    iexists W
    isplitr; · ipureintro; exact waited_of_below d hW a0 a1 a2
    iexact Ho
  isplitl [Hl]; · iexact Hl
  isplitl [Hg]; · iexact Hg
  iexact Ht

/-- What @main keeps: the argument arrays as launched and the result array. -/
abbrev FIN (d : Dev nD) : sProp 𝕄 :=
  iprop(((SparseCore.T d : Thread nD τ).loc main_arg0 ↦{fullShare} m ((SparseCore.T d : Thread nD τ).loc main_arg0))
    ∗ ((SparseCore.T d : Thread nD τ).loc main_arg1 ↦{fullShare} m ((SparseCore.T d : Thread nD τ).loc main_arg1))
    ∗ ((SparseCore.T d : Thread nD τ).loc main_arg2 ↦{fullShare} wts m d)
    ∗ ((SparseCore.T d : Thread nD τ).loc main_v4 ↦{fullShare} result m d))

variable (hix : ∀ (d : Dev nD) (j : S131072.Idx), (ix m d j).toNat < 100000)

/-- @main on device `d`'s TensorCore. -/
theorem hmain [∀ e, Nonempty (Elt F e)] (κ : GSem nD τ sig → ℕ) (d : Dev nD) :
    iprop((K (F := F)).ctx EH (P (tb m) (ix m) (o₀ m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  unfold main
  iintro ⟨#Hctx, Hst, ⟨Hb, ⟨H0, H1, H2, V0, V1, V2, V3, V4⟩, Hts, -⟩, HG⟩
  rw [wp_bind]
  iapply (wp_reshape (fun b => m (d, b)) d main_arg0 main_v0 (by decide) _ _ _ _ _ _ _ _) $$ [Hb H0 V0]
  · isplitl [Hb]; · iexact Hb
    isplitl [H0]; · iexact H0
    iexact V0
  iintro ⟨Hb, H0, V0⟩
  rw [wp_ret, wp_bind]
  imodintro
  iapply (wp_reshape (fun b => m (d, b)) d main_arg1 main_v1 (by decide) _ _ _ _ _ _ _ _) $$ [Hb H1 V1]
  · isplitl [Hb]; · iexact Hb
    isplitl [H1]; · iexact H1
    iexact V1
  iintro ⟨Hb, H1, V1⟩
  rw [wp_ret, wp_bind]
  imodintro
  iapply ((K (F := F)).wp_run (D (F := F)) 𝒱 (EH := EH) (P := P (tb m) (ix m) (o₀ m)) κ d 0)
  isplitr; · iexact Hctx
  isplitl [Hst]; · iexact Hst
  isplitl [V0 V1 V2]
  · rw [st_eq]
    isplitl [V0]; · iexact V0
    isplitl [V1]; · iexact V1
    iexact V2
  iintro ⟨Hst, Hdn⟩
  ihave Hdn' := (Entails.of_eq (dn_eq (tb m) (ix m) (o₀ m) d)) $$ Hdn
  icases Hdn' with ⟨V0, V1, V2⟩
  rw [wp_bind]
  iapply (wp_reshape (fun b => m (d, b)) d main_v2 main_v3 (by decide) _ _ _ _ _ _ _ _) $$ [Hb V2 V3]
  · isplitl [Hb]; · iexact Hb
    isplitl [V2]; · iexact V2
    iexact V3
  iintro ⟨Hb, V2, V3⟩
  rw [wp_ret, wp_bind]
  imodintro
  iapply (wp_weighted (rows m) (wts m) (out₀ m) d _)
  isplitl [H0 H1 V0 V1 V2 Hts]
  · iintro ⟨Hb, Hst, V3, H2, V4⟩
    rw [wp_pure]
    imodintro
    isplitl [Hst]; · iexact Hst
    isplitl [H0 H1 H2 V4]
    · isplitl [H0]; · iexact H0
      isplitl [H1]; · iexact H1
      isplitl [H2]; · iexact H2
      iexact V4
    isplitl [Hb] <;> iassumption
  isplitl [Hb]; · iexact Hb
  isplitl [Hst]; · iexact Hst
  isplitl [V3 H2 V4]
  · isplitl [V3]; · iexact V3
    isplitl [H2]; · iexact H2
    iexact V4
  isplitr
  · iapply ((K (F := F)).ctx_levAts κ); iexact Hctx
  iexact HG

def fq (d : Dev nD) (s' : Phys nD τ sig (Elt F)) : Prop :=
  s'.mem.mem ((SparseCore.T d : Thread nD τ).loc main_v4) = result m d
    ∧ s'.mem.mem ((SparseCore.T d : Thread nD τ).loc main_arg0) = m ((SparseCore.T d : Thread nD τ).loc main_arg0)
    ∧ s'.mem.mem ((SparseCore.T d : Thread nD τ).loc main_arg1) = m ((SparseCore.T d : Thread nD τ).loc main_arg1)
    ∧ s'.mem.mem ((SparseCore.T d : Thread nD τ).loc main_arg2) = m ((SparseCore.T d : Thread nD τ).loc main_arg2)

set_option maxRecDepth 16384 in
theorem hfin (d : Dev nD) (s' : Phys nD τ sig (Elt F)) : iprop(FIN m d ∗ SI s') ⊢ (⌜fq m d s'⌝ : sProp 𝕄) := by
  iintro ⟨⟨H0, H1, H2, H4⟩, HSI⟩
  ihave H := (persistent_entails_right (SI_pointsTo_agree (st := s') (ℓ := (SparseCore.T d : Thread nD τ).loc main_arg0) (I := Finset.univ) (q := fullShare) (f := m ((SparseCore.T d : Thread nD τ).loc main_arg0)))) $$ [HSI H0]
  · isplitl [HSI] <;> iassumption
  icases H with ⟨%h0, HSI, -⟩
  ihave H := (persistent_entails_right (SI_pointsTo_agree (st := s') (ℓ := (SparseCore.T d : Thread nD τ).loc main_arg1) (I := Finset.univ) (q := fullShare) (f := m ((SparseCore.T d : Thread nD τ).loc main_arg1)))) $$ [HSI H1]
  · isplitl [HSI] <;> iassumption
  icases H with ⟨%h1, HSI, -⟩
  ihave H := (persistent_entails_right (SI_pointsTo_agree (st := s') (ℓ := (SparseCore.T d : Thread nD τ).loc main_arg2) (I := Finset.univ) (q := fullShare) (f := wts m d))) $$ [HSI H2]
  · isplitl [HSI] <;> iassumption
  icases H with ⟨%h2, HSI, -⟩
  ihave H := (SI_pointsTo_agree (st := s') (ℓ := (SparseCore.T d : Thread nD τ).loc main_v4) (I := Finset.univ) (q := fullShare) (f := result m d)) $$ [HSI H4]
  · isplitl [HSI] <;> iassumption
  icases H with %h4
  ipureintro
  exact ⟨funext fun i => h4 i (Finset.mem_univ i), funext fun i => h0 i (Finset.mem_univ i), funext fun i => h1 i (Finset.mem_univ i),
    funext fun i => h2 i (Finset.mem_univ i)⟩

/-! ## The program's run -/

def QC : PUnit × MemSt nD τ sig (Elt F) → Prop := fun r =>
  (∀ d : Dev nD, r.2.mem ((SparseCore.T d : Thread nD τ).loc main_v4) = result m d
    ∧ r.2.mem ((SparseCore.T d : Thread nD τ).loc main_arg0) = m ((SparseCore.T d : Thread nD τ).loc main_arg0)
    ∧ r.2.mem ((SparseCore.T d : Thread nD τ).loc main_arg1) = m ((SparseCore.T d : Thread nD τ).loc main_arg1)
    ∧ r.2.mem ((SparseCore.T d : Thread nD τ).loc main_arg2) = m ((SparseCore.T d : Thread nD τ).loc main_arg2)) ∧ r.2.sem = fun _ => 0

include hix in
/-- With every word of the list a row of the table, the program runs to its end with the arguments as they were, the
    result array at `result` and every semaphore at zero. -/
theorem run_main [∀ e, Nonempty (Elt F e)] :
    θ_run (Cert.RetrieveIdeal.defs (F := F)) (Cert.RetrieveIdeal.threads (F := F)) ⟨m, fun _ => 0, ρ⟩ (QC m) :=
  SparseCore.Cfg.θ_run_sc_quiescent (K := K (F := F)) (D := D (F := F)) (𝒱 := 𝒱) (EH := EH) (P := P (tb m) (ix m) (o₀ m)) (A := ∅) facts v₀
    (fun q hq => match q with | 0 => nomatch hq)
    (fun q _ => match q with | 0 => tileObl (tb m) (ix m) (o₀ m) hix)
    (fun q _ => match q with | 0 => SparseCore.Cfg.VecSplit.of_plain (vecSplit (tb m) (ix m) (o₀ m)))
    m ρ main (G (F := F)) (FIN m) (u₀ (F := F)) (sep_elim_left.trans (hu₀ m)) (hmain m ρ) (fq m) (hfin m) (QC m) (fun _ h hz => ⟨h, hz⟩)

end Cert.Proof.Tail

end
-- ==== Proof.Value.lean ====
/-
  What the result array holds, from the argument arrays alone: each query's 32 value rows, weighted and added from the
  left. And the same of the reference at exact numbers: its gather reads each row in range as it is, its sum is that sum.
-/
module

public import proofs.«01_k».proof.Proof.Main
public import proofs.«01_k».proof.Proof.Gen.RetrieveReferenceIdeal.Run
public import proofs.«01_k».proof.Proof.Gen.Pre_rows_in_range
public import Idealize.ShloMosaic.Lib.ReduceAll
public import Idealize.ShloMosaic.Lib.IdealHost
public import Idealize.ShloMosaic.Lib.Pointwise.Reduce

@[expose] public section

set_option maxRecDepth 16384

noncomputable section

namespace Cert.Proof.Tail

open Cert.RetrieveIdeal Cert.RetrieveIdeal.Gen

open Idealize.ShloMosaic hiding ix1 ix2 ix3
open Idealize.ShloMosaic.TcCoe
open Idealize.ShloMosaic.ValueIdx

variable {F : FTy → Type} [FloatOps F]

/-- The row of the table that a word names (row 0, were it past the table's end). -/
def rowOf (v : BitVec 32) : Fin 100000 := if h : v.toNat < 100000 then ⟨v.toNat, h⟩ else ⟨0, by decide⟩

/-- The retrieval: query `y 0`'s rows of `x`, named by `i`, weighted by `w` and added from the left, at column `y 1`. -/
def retrieved (x : S100000x256.Idx → F .f32) (i : S4096x32.Idx → BitVec 32) (w : S4096x32.Idx → F .f32) : S4096x256.Idx → F .f32 :=
  fun y => sumTo (fun j => FloatOps.mulf (x (ix2 (rowOf (i (ix2 (y 0) j))) (y 1))) (w (ix2 (y 0) j))) 31 (by decide)

variable (m : (ℓ : Loc nD τ sig) → Buf (Elt F) ℓ)

/-- The index array and the value rows as launched. -/
abbrev idx (d : Dev nD) : S4096x32.Idx → BitVec 32 := m ((SparseCore.T d : Thread nD τ).loc main_arg1)
abbrev vals (d : Dev nD) : S100000x256.Idx → F .f32 := m ((SparseCore.T d : Thread nD τ).loc main_arg0)

/-- The list the gather reads is the index array, row after row. -/
theorem ix_apply (d : Dev nD) (q : Fin 4096) (j : Fin 32) (z : S131072.Idx) (hz : (z 0).val = 32 * q.val + j.val) : ix m d z = idx m d (ix2 q j) := by
  refine shapeCast_apply (s := S4096x32) (t := S131072) (idx m d) _ z (ix2 q j) ?_
  rw [Shape.rowMajor_val_two, Shape.rowMajor_val_one, hz]
  show q.val * 32 + j.val = _
  omega

theorem ix_in_range (h : ∀ d q, (idx m d q).toNat < 100000) (d : Dev nD) (z : S131072.Idx) : (ix m d z).toNat < 100000 := by
  have hz : (z 0).val < 131072 := (z 0).isLt
  rw [ix_apply m d ⟨(z 0).val / 32, by omega⟩ ⟨(z 0).val % 32, by omega⟩ z (by show _ = 32 * ((z 0).val / 32) + (z 0).val % 32; omega)]
  exact h d _

/-- A gathered row is the value row its index names. -/
theorem rows_apply (d : Dev nD) (q : Fin 4096) (j : Fin 32) (c : Fin 256) : rows m d (ix3 q j c) = vals m d (ix2 (rowOf (idx m d (ix2 q j))) c) := by
  refine (shapeCast_apply (s := S131072x2x128) (t := S4096x32x256) (gath (tb m d) (ix m d)) _ (ix3 q j c)
    (ix3 (n0 := 131072) (n1 := 2) (n2 := 128) ⟨32 * q.val + j.val, by omega⟩ ⟨c.val / 128, by omega⟩ ⟨c.val % 128, by omega⟩) ?_).trans ?_
  · rw [Shape.rowMajor_val_three, Shape.rowMajor_val_three]
    show ((32 * q.val + j.val) * 2 + c.val / 128) * 128 + c.val % 128 = (q.val * 32 + j.val) * 256 + c.val
    omega
  have he : ix m d (ent (ix3 (n0 := 131072) (n1 := 2) (n2 := 128) ⟨32 * q.val + j.val, by omega⟩ ⟨c.val / 128, by omega⟩ ⟨c.val % 128, by omega⟩))
      = idx m d (ix2 q j) := ix_apply m d q j _ rfl
  unfold gath
  refine shapeCast_apply (s := S100000x256) (t := S100000x2x128) (vals m d) _ _ (ix2 (rowOf (idx m d (ix2 q j))) c) ?_
  rw [Shape.rowMajor_val_two, Shape.rowMajor_val_three]
  show (rowOf (idx m d (ix2 q j))).val * 256 + c.val = ((rowOf (ix m d (ent _))).val * 2 + c.val / 128) * 128 + c.val % 128
  rw [he]
  omega

/-- The result array is the retrieval of the arguments. -/
theorem result_eq (d : Dev nD) : result m d = retrieved (vals m d) (idx m d) (wts m d) := by
  funext y
  unfold result wsum retrieved
  exact congrArg (fun f => sumTo f 31 (by decide)) (funext fun j => congrArg₂ FloatOps.mulf (rows_apply m d (y 0) j (y 1)) rfl)

/-! ## The precondition -/

theorem in_range_of_words (v : BitVec 32) (h : IntOp.andi (IntOp.cmpi .sge v 0#32) (IntOp.cmpi .slt v 100000#32) = 1#1) : v.toNat < 100000 := by
  have andi_ofBool (p q : Bool) : IntOp.andi (BitVec.ofBool p) (BitVec.ofBool q) = BitVec.ofBool (p && q) := by
    cases p <;> cases q <;> decide
  have one_iff (p : Bool) : (BitVec.ofBool p = 1#1) ↔ p = true := by cases p <;> decide
  simp only [IntOp.cmpi, andi_ofBool, one_iff, Bool.and_eq_true, BitVec.sle_eq_decide, BitVec.slt_eq_decide,
    decide_eq_true_eq, BitVec.toInt_eq_toNat_cond, BitVec.toNat_ofNat, Nat.reducePow, Nat.reduceMod] at h
  omega

/-- The precondition says that every index names a row of the table. -/
theorem in_range_of_pre (x : S100000x256.Idx → F .f32) (i : S4096x32.Idx → BitVec 32) (w : S4096x32.Idx → F .f32)
    (h : Cert.Pre_rows_in_range.fn (F := F) x i w = fun _ => 1#1) (q : S4096x32.Idx) : (i q).toNat < 100000 := by
  have e := congrFun h (fun a => a.elim0)
  dsimp only [Cert.Pre_rows_in_range.fn] at e
  haveI : Subsingleton Cert.Pre_rows_in_range.S_.Idx := ⟨fun a b => funext fun z => z.elim0⟩
  exact in_range_of_words _ (Host.reduce_andi_all _ _ _ _ _ e q)

/-! ## The reference -/

section Reference

open Cert.RetrieveReferenceIdeal.Gen

/-- The reference's gather at an entry whose index is in range. -/
theorem gather_rows (x : S100000x256.Idx → F .f32) (i : IVec Cert.RetrieveReferenceIdeal.S4096x32x1 32) (q : Fin 4096) (j : Fin 32) (c : Fin 256)
    (h : (i (ix3 q j 0)).toNat < 100000) :
    Host.gather Cert.RetrieveReferenceIdeal.gather_S100000x256_S4096x32x1_S4096x32x256_2_0_n_n_0_2_1256 x i (ix3 q j c) = x (ix2 (rowOf (i (ix3 q j 0))) c) := by
  let g := Cert.RetrieveReferenceIdeal.gather_S100000x256_S4096x32x1_S4096x32x256_2_0_n_n_0_2_1256
  show x (g.operandIdx (ix3 q j c) i) = _
  refine congrArg x (funext fun a => Fin.ext ?_)
  show g.start (ix3 q j c) i a + g.batchCoord (ix3 q j c) a + g.offCoord (ix3 q j c) a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ g.startIndexMap from List.mem_singleton.mpr rfl)]
    have hsi : g.siIdx (ix3 q j c) ⟨List.idxOf (0 : Fin 2) g.startIndexMap, List.idxOf_lt_length_iff.2 (List.mem_singleton.mpr rfl)⟩ = ix3 q j 0 := by
      funext b; refine Fin.ext ?_
      match b with
      | ⟨0, _⟩ => rfl
      | ⟨1, _⟩ => rfl
      | ⟨2, _⟩ => rfl
    rw [hsi]
    show min (i (ix3 q j 0)).toInt.toNat 99999 = (rowOf (i (ix3 q j 0))).val
    unfold rowOf
    rw [dif_pos h, BitVec.toInt_eq_toNat_cond, if_pos (by omega)]
    show min ((i (ix3 q j 0)).toNat : ℤ).toNat 99999 = (i (ix3 q j 0)).toNat
    omega
  · have hk : (1 : Fin 2) ∈ g.sKept := (GatherDims.mem_sKept _ _).mpr ⟨by decide, List.not_mem_nil⟩
    unfold GatherDims.start GatherDims.offCoord
    rw [dif_neg (by decide), dif_pos hk, Nat.zero_add]
    rfl

/-- A sum from the left is the sum. -/
theorem sumTo_eq_sum (f : Fin 32 → Ideal .f32) : ∀ (n : ℕ) (h : n < 32), (sumTo f n h : EReal) = ∑ k : Fin (n + 1), (f ⟨k.val, by omega⟩ : EReal)
  | 0, h => by rw [Fin.sum_univ_one]; rfl
  | n + 1, h => by
    rw [Fin.sum_univ_castSucc]
    show (sumTo f n _ : EReal) + f ⟨n + 1, h⟩ = _
    rw [sumTo_eq_sum f n]
    rfl

/-- The row numbers the reference gathers at: a negative index counts from the table's end. -/
def starts (i : S4096x32.Idx → BitVec 32) : IVec Cert.RetrieveReferenceIdeal.S4096x32x1 32 :=
  broadcastInDim Cert.RetrieveReferenceIdeal.S4096x32x1 ![0, 1] Cert.RetrieveReferenceIdeal.Facts₀.bcast_S4096x32_S4096x32x1_0_1
    (select (cmpi .slt i (broadcastInDim S4096x32 ![] Cert.RetrieveReferenceIdeal.Facts₀.bcast_S_S4096x32 (constantI Cert.RetrieveReferenceIdeal.S_ 32 0#32)))
      (addi i (broadcastInDim S4096x32 ![] Cert.RetrieveReferenceIdeal.Facts₀.bcast_S_S4096x32 (constantI Cert.RetrieveReferenceIdeal.S_ 32 100000#32))) i)

/-- Which of them lie in the table. -/
def inside (s : IVec Cert.RetrieveReferenceIdeal.S4096x32x1 32) : IVec S4096x32 1 :=
  Host.reduce IntOp.andi
    (andi (cmpi .sge s (broadcastInDim Cert.RetrieveReferenceIdeal.S4096x32x1 ![] Cert.RetrieveReferenceIdeal.Facts₀.bcast_S_S4096x32x1
        (constantI Cert.RetrieveReferenceIdeal.S_ 32 0#32)))
      (cmpi .sle s (broadcastInDim Cert.RetrieveReferenceIdeal.S4096x32x1 ![0, 1, 2] Cert.RetrieveReferenceIdeal.Facts₀.bcast_S1x1x1_S4096x32x1_0_1_2
        (broadcastInDim Cert.RetrieveReferenceIdeal.S1x1x1 ![2] Cert.RetrieveReferenceIdeal.Facts₀.bcast_S1_S1x1x1_2
          (constantI Cert.RetrieveReferenceIdeal.S1 32 99999#32)))))
    (constantI Cert.RetrieveReferenceIdeal.S_ 1 1#1) Cert.RetrieveReferenceIdeal.Facts₀.reducesTo_S4096x32x1_S4096x32_d2 Cert.RetrieveReferenceIdeal.Facts₀.h_S_

/-- What the reference adds: the gathered rows (a row outside the table filled), weighted. -/
def refTerms (x : S100000x256.Idx → Ideal .f32) (i : S4096x32.Idx → BitVec 32) (w : S4096x32.Idx → Ideal .f32) : S4096x32x256.Idx → Ideal .f32 :=
  mulf
    (select (broadcastInDim S4096x32x256 ![0, 1] Cert.RetrieveReferenceIdeal.Facts₀.bcast_S4096x32_S4096x32x256_0_1 (inside (starts i)))
      (Host.gather Cert.RetrieveReferenceIdeal.gather_S100000x256_S4096x32x1_S4096x32x256_2_0_n_n_0_2_1256 x (starts i))
      (broadcastInDim S4096x32x256 ![] Cert.RetrieveReferenceIdeal.Facts₀.bcast_S_S4096x32x256 (constant Cert.RetrieveReferenceIdeal.S_ .f32 0x7FC00000#32)))
    (broadcastInDim S4096x32x256 ![0, 1, 2] Cert.RetrieveReferenceIdeal.Facts₀.bcast_S4096x32x1_S4096x32x256_0_1_2
      (broadcastInDim Cert.RetrieveReferenceIdeal.S4096x32x1 ![0, 1] Cert.RetrieveReferenceIdeal.Facts₀.bcast_S4096x32_S4096x32x1_0_1 w))

/-- The reference's result: its terms added over each query's 32. -/
def refResult (x : S100000x256.Idx → Ideal .f32) (i : S4096x32.Idx → BitVec 32) (w : S4096x32.Idx → Ideal .f32) : S4096x256.Idx → Ideal .f32 :=
  Host.reduceAdd (refTerms x i w) (constant Cert.RetrieveReferenceIdeal.S_ .f32 0x00000000#32)
    Cert.RetrieveReferenceIdeal.Facts₀.reducesTo_S4096x32x256_S4096x256_d1 Cert.RetrieveReferenceIdeal.Facts₀.h_S_

/-- Where the mask is set, a selection takes its first side. -/
theorem select_pos {s : Shape} {α : Type} (p : IVec s 1) (x y : s.Idx → α) (z : s.Idx) (h : p z = 1#1) : select p x y z = x z := if_pos h

variable (i : S4096x32.Idx → BitVec 32) (hi : ∀ q, (i q).toNat < 100000)
include hi

/-- An index in range is the row number gathered at. -/
theorem starts_apply (z : Cert.RetrieveReferenceIdeal.S4096x32x1.Idx) : starts i z = i (ix2 (z 0) (z 1)) := by
  unfold starts
  refine (broadcastInDim_apply (s := S4096x32) _ _ _ z (ix2 (z 0) (z 1)) ?_).trans ?_
  · intro a
    match a with
    | ⟨0, _⟩ => rfl
    | ⟨1, _⟩ => rfl
  show (if IntOp.cmpi .slt (i (ix2 (z 0) (z 1))) 0#32 = 1#1 then _ else _) = _
  rw [if_neg]
  rw [IntOp.cmpi_slt, BitVec.toInt_eq_toNat_cond, if_pos (by have := hi (ix2 (z 0) (z 1)); omega)]
  show ¬ ((i (ix2 (z 0) (z 1))).toNat : ℤ) < 0
  omega

/-- Every row number gathered at lies in the table. -/
theorem inside_apply (q : S4096x32.Idx) : inside (starts i) q = 1#1 := by
  unfold inside
  refine Host.reduce_andi_one _ _ _ _ q rfl fun z => ?_
  have h := hi (ix2 (z 0) (z 1))
  show IntOp.andi (IntOp.cmpi .sge (starts i z) 0#32) (IntOp.cmpi .sle (starts i z) 99999#32) = 1#1
  rw [starts_apply i hi z, IntOp.cmpi_sge.mpr, IntOp.cmpi_sle.mpr]
  · decide
  · rw [BitVec.toInt_eq_toNat_cond, if_pos (by omega)]
    show ((i (ix2 (z 0) (z 1))).toNat : ℤ) ≤ 99999
    omega
  · rw [BitVec.toInt_eq_toNat_cond (x := i _), if_pos (by omega)]
    show (0 : ℤ) ≤ ((i (ix2 (z 0) (z 1))).toNat : ℤ)
    omega

/-- One of the terms the reference adds. -/
theorem refTerm_apply (x : S100000x256.Idx → Ideal .f32) (w : S4096x32.Idx → Ideal .f32) (q : Fin 4096) (j : Fin 32) (c : Fin 256) :
    refTerms x i w (ix3 q j c) = FloatOps.mulf (x (ix2 (rowOf (i (ix2 q j))) c)) (w (ix2 q j)) := by
  unfold refTerms
  refine congrArg₂ FloatOps.mulf ?_ ?_
  · refine (select_pos _ _ _ _ ?_).trans ?_
    · refine (broadcastInDim_apply (s := S4096x32) _ _ _ (ix3 q j c) (ix2 q j) ?_).trans (inside_apply i hi _)
      intro a
      match a with
      | ⟨0, _⟩ => rfl
      | ⟨1, _⟩ => rfl
    · rw [gather_rows x (starts i) q j c (by rw [starts_apply i hi]; exact hi _), starts_apply i hi]
  · refine (broadcastInDim_apply (s := Cert.RetrieveReferenceIdeal.S4096x32x1) _ _ _ (ix3 q j c) (ix3 q j 0) ?_).trans ?_
    · intro a
      match a with
      | ⟨0, _⟩ => rfl
      | ⟨1, _⟩ => rfl
      | ⟨2, _⟩ => rfl
    · refine broadcastInDim_apply (s := S4096x32) _ _ _ _ (ix2 q j) ?_
      intro a
      match a with
      | ⟨0, _⟩ => rfl
      | ⟨1, _⟩ => rfl

/-- The reference's result is the retrieval too. -/
theorem refResult_eq (x : S100000x256.Idx → Ideal .f32) (w : S4096x32.Idx → Ideal .f32) : refResult x i w = retrieved x i w := by
  funext y
  unfold refResult retrieved
  refine Eq.trans ?_ (sumTo_eq_sum _ 31 (by decide)).symm
  rw [Host.reduceAdd_apply, Ideal.hostReduceAdd_def]
  refine (Ideal.hostReduceAdd_r3_a1 _ _ _ y).trans ?_
  refine (congrArg₂ (· + ·) Ideal.ofBits_zero_f32 rfl).trans ((zero_add _).trans ?_)
  refine Finset.sum_congr rfl fun k _ => ?_
  exact refTerm_apply i hi x w (y 0) k (y 1)

end Reference

end Cert.Proof.Tail

end
-- ==== Proof.ChunkSetup.lean ====
/-
  The gather of similarity chunks as the launch theorem sees it: its body table, the resource algebra its proof uses (the
  SparseCore handshakes' rounds and the transfers' counters), the arrays, the cut of the
  gathered array into one block per trip of each vector subcore, and what a gather of rows leaves.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.ChunksIdeal
public import proofs.«01_k».proof.Proof.Gen.ChunksIdeal.Skeleton

@[expose] public section

noncomputable section

namespace Cert.Proof.Chunks

open Cert.ChunksIdeal Cert.ChunksIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The call's semaphores are those the launch asks for. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UU : Type := UH × Counters

local notation "𝕄" => MT nD τ sig (HIx 1) (Elt F) ℕ UU ℕ

/-- The handshakes' rounds, the left factor. -/
abbrev EH : Emb UH (MT nD τ sig (HIx 1) (Elt F) ℕ UU ℕ) := embL
/-! ## The arrays -/

abbrev xLoc (d : Dev nD) : Loc nD τ sig := (SparseCore.T d).loc main_v0
abbrev iLoc (d : Dev nD) : Loc nD τ sig := (SparseCore.T d).loc main_v1
abbrev oLoc (d : Dev nD) : Loc nD τ sig := (SparseCore.T d).loc main_v2

/-! ## The gathered array's blocks -/

/-- Vector subcore `(c, s)` is worker `2 s + c`. -/
def wid (c : Fin 2) (s : Fin 16) : Fin 32 := ⟨2 * s.val + c.val, by omega⟩
/-- Trip `k` of worker `w` fills block `32 w + k`. -/
def blk (w : Fin 32) (k : Fin 32) : Fin 1024 := ⟨32 * w.val + k.val, by omega⟩

theorem odiv : 1024 ∣ S131072x128.size 0 := ⟨128, rfl⟩
abbrev oblk (b : Fin 1024) : Rect S131072x128 := Rect.part (s := S131072x128) (a₀ := 0) odiv b
/-- The elements of block `b`. -/
abbrev oSet (b : Fin 1024) : Finset S131072x128.Idx := (oblk b).set

/-- Workers are pairs of a core and a subcore. -/
def widEquiv : Fin 2 × Fin 16 ≃ Fin 32 where
  toFun p := wid p.1 p.2
  invFun w := (⟨w.val % 2, by omega⟩, ⟨w.val / 2, by omega⟩)
  left_inv p := by
    rcases p with ⟨c, s⟩
    refine Prod.ext (Fin.ext ?_) (Fin.ext ?_) <;> simp only [wid] <;> omega
  right_inv w := Fin.ext (by simp only [wid]; omega)

/-- Blocks are pairs of a worker and a trip. -/
def blkEquiv : Fin 32 × Fin 32 ≃ Fin 1024 where
  toFun p := blk p.1 p.2
  invFun b := (⟨b.val / 32, by omega⟩, ⟨b.val % 32, by omega⟩)
  left_inv p := by
    rcases p with ⟨w, k⟩
    refine Prod.ext (Fin.ext ?_) (Fin.ext ?_) <;> simp only [blk] <;> omega
  right_inv b := Fin.ext (by simp only [blk]; omega)

theorem oSet_disjoint : ∀ a ∈ (Finset.univ : Finset (Fin 1024)), ∀ b ∈ (Finset.univ : Finset (Fin 1024)), a ≠ b → Disjoint (oSet a) (oSet b) :=
  fun _ _ _ _ h => Rect.part_disjoint odiv h
theorem oSet_cover : (Finset.univ : Finset (Fin 1024)).biUnion oSet = Finset.univ := Rect.biUnion_part odiv

/-- The whole gathered array is its blocks at once. -/
theorem pts_blocks (d : Dev nD) (f : Buf (Elt F) (oLoc d)) :
    (oLoc d ↦{fullShare} f : sProp 𝕄)
      = bigSep Finset.univ fun c : Fin 2 => bigSep Finset.univ fun s : Fin 16 => bigSep Finset.univ fun k : Fin 32 =>
          oLoc d ↦[oSet (blk (wid c s) k)]{fullShare} f := by
  have h1 : (oLoc d ↦{fullShare} f : sProp 𝕄) = bigSep Finset.univ fun b : Fin 1024 => oLoc d ↦[oSet b]{fullShare} f := by
    rw [← pointsTo_biUnion Finset.univ (ℓ := oLoc d) oSet oSet_disjoint, oSet_cover]; try rfl
  rw [h1, bigSep_univ_equiv blkEquiv, bigSep_univ_prod (fun p : Fin 32 × Fin 32 => (oLoc d ↦[oSet (blkEquiv p)]{fullShare} f : sProp 𝕄)),
    bigSep_univ_equiv widEquiv, bigSep_univ_prod (fun p : Fin 2 × Fin 16 => bigSep Finset.univ fun k : Fin 32 => (oLoc d ↦[oSet (blkEquiv (widEquiv p, k))]{fullShare} f : sProp 𝕄))]
  rfl

/-! ## Shares of an array every worker reads -/

/-- Worker `w`'s share of an array every worker reads. -/
def wq (w : Fin 32) : PosShare TreeShare := pieceOf fullShare 32 (by decide) w

/-- A whole array is every worker's share of it at once. -/
theorem pts_workers {ℓ : Loc nD τ sig} (f : Buf (Elt F) ℓ) :
    (ℓ ↦{fullShare} f : sProp 𝕄)
      = bigSep Finset.univ fun c : Fin 2 => bigSep Finset.univ fun s : Fin 16 => ℓ ↦{wq (wid c s)} f := by
  rw [pointsTo_piecesOf Finset.univ f (o := 32) (by decide) fullShare,
    bigSep_univ_equiv widEquiv, bigSep_univ_prod (fun p : Fin 2 × Fin 16 => (ℓ ↦{pieceOf fullShare 32 (by decide) (widEquiv p)} f : sProp 𝕄))]
  rfl

/-! ## What the gather leaves -/

/-- The list's entry for the gathered array's row `y 0`. -/
def ent (y : S131072x128.Idx) : S131072.Idx := fun b => match b with | ⟨0, _⟩ => y 0

/-- Row `y 0` of the gathered array is the table's row that entry `y 0` of the list names (row 0, were the entry past
    the table's end). -/
def gath {e : EltTy} (x : S3211264x128.Idx → Elt F e) (ix : S131072.Idx → Elt F .i32) : S131072x128.Idx → Elt F e :=
  fun y => x (fun a => match a with
    | ⟨0, _⟩ => if h : (ix (ent y)).toNat < 3211264 then ⟨_, h⟩ else (⟨0, by decide⟩ : Fin 3211264)
    | ⟨1, _⟩ => y 1)

/-- The gathered array at `y` is the table at `z`, where `z`'s row is the one the entry names and its other coordinate is
    `y`'s. -/
theorem gath_eq {e : EltTy} (x : S3211264x128.Idx → Elt F e) (ix : S131072.Idx → Elt F .i32) (y : S131072x128.Idx) (z : S3211264x128.Idx)
    (h0 : (z 0).val = (ix (ent y)).toNat) (h1 : (z 1).val = (y 1).val) : gath x ix y = x z := by
  have hlt : (ix (ent y)).toNat < 3211264 := h0 ▸ (z 0).isLt
  refine congrArg x (funext fun a => ?_)
  match a with
  | ⟨0, _⟩ => exact (dif_pos hlt).trans (Fin.ext h0.symm)
  | ⟨1, _⟩ => exact Fin.ext h1.symm

end Cert.Proof.Chunks

end
-- ==== Proof.ChunkTrip.lean ====
/-
  One trip of the gather's loop on a vector subcore: 128 entries of the list are fetched, the rows they name are gathered
  and written out to the trip's block.
-/
module

public import proofs.«01_k».proof.Proof.ChunkSetup

@[expose] public section

noncomputable section

namespace Cert.Proof.Chunks

open Cert.ChunksIdeal Cert.ChunksIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xV" => (Memref.whole main_v0_scv : Memref sig Kind.scVector Space.hbm S3211264x128 EltTy.f32)
local notation "iV" => (Memref.whole main_v1_scv : Memref sig Kind.scVector Space.hbm S131072 EltTy.i32)
local notation "oV" => (Memref.whole main_v2_scv : Memref sig Kind.scVector Space.hbm S131072x128 EltTy.f32)
local notation "sV" => (Memref.whole cc0_scratch0 : Memref sig Kind.scVector Space.vmem S128 EltTy.i32)
local notation "rV" => (Memref.whole cc0_scratch1 : Memref sig Kind.scVector Space.vmem S128x128 EltTy.f32)

abbrev cV (L : grid0.Coords) : Fin τ.nSC := (L 0).castLE hcore0
abbrev jV (L : grid0.Coords) : Fin τ.nSub := (L 1).castLE hsub0
/-- The vector subcore at coordinates `L` of device `d`. -/
abbrev thr (d : Dev nD) (L : grid0.Coords) : Thread nD τ := V d (cV L) (jV L)

/-- The list's 128 entries that trip `k` fetches. -/
abbrev iK (L : grid0.Coords) (k : Fin k0_t1_loop.trips) : Memref sig .scVector .hbm S128 .i32 :=
  (iV).slice (Rect.unit (s := S131072) (k0_off1 L k) S128.size (k0_off1_inb L k)) (fun _ => rfl)
/-- The block that trip `k` fills. -/
abbrev oK (L : grid0.Coords) (k : Fin k0_t1_loop.trips) : Memref sig .scVector .hbm S128x128 .f32 :=
  (oV).slice (Rect.unit (s := S131072x128) (k0_off2 L k) S128x128.size (k0_off2_inb L k)) (fun _ => rfl)

variable (d : Dev nD) (L : grid0.Coords)
variable (tb : Buf (Elt F) (xLoc d)) (ix : Buf (Elt F) (iLoc d))

/-- What a subcore holds between trips beside the blocks: its shares of the table and of the list, its scratch at some
    contents, its semaphores at zero. -/
def bench (q : PosShare TreeShare) (O : CellTallies nD τ sig (HIx 1)) (W : Waits sig (HIx 1)) : sProp 𝕄 :=
  iprop(Transfers.MayWaits (thr d L) (none : HIx 1) O
    ∗ ((xV).view.loc (thr d L) ↦{q} tb)
    ∗ ((iV).view.loc (thr d L) ↦{q} ix)
    ∗ (∃ f, (sV).view.loc (thr d L) ↦{fullShare} f)
    ∗ (∃ f, (rV).view.loc (thr d L) ↦{fullShare} f)
    ∗ semVal (thr d L, SemLoc.dma cc0_scratch2.sem) 0
    ∗ semVal (thr d L, SemLoc.dma cc0_scoped0.sem) 0
    ∗ semVal (thr d L, SemLoc.dma cc0_scoped1.sem) 0
    ∗ ∃ W', ⌜∀ p ∈ W', p ∈ W ∨ p.2 = none⌝ ∗ owes (thr d L) O W')

variable [FloatOps F]

omit [FloatOps F] in
/-- The fetched entries are entries of the list: each in range where the list's are. -/
theorem fetched_lt (k : Fin k0_t1_loop.trips) (hix : ∀ j : S131072.Idx, (ix j).toNat < 3211264) (g : (sV).view.ty.Contents (Elt F)) (x : S128.Idx) :
    ((sV).view.read (Elt F) (View.write (Elt F) (sV).view g ((iK L k).view.read (Elt F) ix) Finset.univ) x).toNat
      < S3211264x128.size gathers_S3211264x128_S128x128.axis := by
  rw [View.write_whole_univ]
  simp only [Memref.view_whole, View.read_whole]
  exact hix _

omit [FloatOps F] in
/-- What the trip gathers, at an element of its block, is what the whole gather leaves there. -/
theorem gathered_eq (k : Fin k0_t1_loop.trips) (hix : ∀ j : S131072.Idx, (ix j).toNat < 3211264) (idx : S128.Idx → Elt F .i32)
    (hidx : ∀ x, idx x = ix ((iK L k).view.emb x)) (hn : S128.numel = 128) (h : ∀ x, (idx x).toNat < 3211264) (x : S128x128.Idx) :
    SparseCore.gatherPayload gathers_S3211264x128_S128x128
        (((xV).slice (Rect.unit (s := S3211264x128) ![0, 0] S3211264x128.size inb_S3211264x128_S3211264x128_0_0) (fun _ => rfl)).view.read (Elt F) tb)
        (SparseCore.rows idx hn h) x
      = gath tb ix ((oK L k).view.emb x) := by
  have hrow : ∀ n : Fin S128.numel, ((iK L k).view.emb (S128.rowMajor.symm n) 0).val = (k0_off1 L k) 0 + n.val := by
    intro n
    have h0 : ((S128.rowMajor.symm n) 0).val = n.val := by
      rw [← Shape.rowMajor_val_one (d := ![128]), Equiv.apply_symm_apply]
    rw [← h0]
    show (k0_off1 L k) 0 + 1 * (S128.rowMajor.symm n 0).val = _
    rw [Nat.one_mul]
  have hcol : ((oK L k).view.emb x 0).val = (k0_off1 L k) 0 + (x 0).val := by
    show (k0_off2 L k) 0 + 1 * (x 0).val = _
    rw [k0_off1_eq, k0_off2_eq, Nat.one_mul]; rfl
  have hent : ∀ z : S131072.Idx, (z 0).val = (k0_off1 L k) 0 + (x 0).val → z = ent ((oK L k).view.emb x) := by
    intro z hz; funext b
    match b with
    | ⟨0, _⟩ => exact Fin.ext (hz.trans hcol.symm)
  refine (gath_eq tb ix ((oK L k).view.emb x) _ ?_ ?_).symm
  · show 0 + 1 * (gathers_S3211264x128_S128x128.idx (SparseCore.rows idx hn h) x gathers_S3211264x128_S128x128.axis).val = _
    rw [Shape.Gathers.idx_axis, Nat.zero_add, Nat.one_mul]
    show (idx (S128.rowMajor.symm ((x 0).cast hn.symm))).toNat = _
    rw [hidx, hent _ (hrow ((x 0).cast hn.symm))]
  · show 0 + 1 * (gathers_S3211264x128_S128x128.idx (SparseCore.rows idx hn h) x 1).val = _
    rw [Shape.Gathers.idx_of_ne _ _ _ _ (by decide), Nat.zero_add, Nat.one_mul]
    show (x 1).val = (k0_off2 L k) 1 + 1 * (x 1).val
    rw [k0_off2_eq]; simp

set_option maxHeartbeats 4000000 in
/-- One trip: from the block at any contents to the block at the gathered rows. -/
theorem trip (q : PosShare TreeShare) (O : CellTallies nD τ sig (HIx 1)) (W : Waits sig (HIx 1)) (k : Fin k0_t1_loop.trips) (c : BitVec 32)
    (hix : ∀ j : S131072.Idx, (ix j).toNat < 3211264) (f : Buf (Elt F) (oLoc d)) :
    iprop(bench d L tb ix q O W ∗ ((oK L k).view.loc (thr d L) ↦[(oK L k).view.set]{fullShare} f))
      ⊢ wp frame (wpE (defs₀ (F := F)) 𝒱₀ (thr d L) none) Set.univ
          (k0_t1_body L xV (Memref.isWhole_whole _) iV (Memref.isWhole_whole _) oV (Memref.isWhole_whole _)
            sV (Memref.isWhole_whole _) rV (Memref.isWhole_whole _) cc0_scratch2 cc0_scoped0 cc0_scoped1 k c)
          fun _ => iprop(bench d L tb ix q O W
            ∗ ((oK L k).view.loc (thr d L) ↦[(oK L k).view.set]{fullShare} gath tb ix)) := by
  unfold bench k0_t1_body
  iintro ⟨⟨Hmw, Hx, Hi, ⟨%fs, Hs⟩, ⟨%fr, Hr⟩, HsemA, HsemB, HsemC, %W', %hW', HO⟩, Ho⟩
  sl_exec
  have hin : ∀ g x, ((sV).view.read (Elt F) (View.write (Elt F) (sV).view g (trip.sl.dma0 d L ix k) Finset.univ) x).toNat
      < S3211264x128.size gathers_S3211264x128_S128x128.axis := fetched_lt d L ix k hix
  sl_exec
  sl_step
  isplitr [Ho]
  · isplitl [Hmw]; · iexact Hmw
    isplitl [Hx]; · iexact Hx
    isplitl [Hi]; · iexact Hi
    isplitl [Hs]; · iexists _; iexact Hs
    isplitl [Hr]; · iexists _; iexact Hr
    isplitl [HsemA]; · iexact HsemA
    isplitl [HsemB]; · iexact HsemB
    isplitl [HsemC]; · iexact HsemC
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  iapply (Entails.of_eq (pointsTo_congr (fun i hi => ?_))) $$ Ho
  obtain ⟨x, -, rfl⟩ := Finset.mem_map.mp hi
  have e1 := congrFun (View.read_writes_whole (Val := Elt F) (oK L k).view f (trip.sl.dma0_1 d L tb ix k fs fr hin)) x
  rw [View.read_apply] at e1
  refine Eq.trans ?_ (e1.trans ?_)
  · rfl
  have e2 : trip.sl.dma0_1 d L tb ix k fs fr hin = trip.sl.gather0 d L tb ix k fs hin :=
    View.read_writes_whole (Val := Elt F) (rV).view fr _
  rw [e2]
  refine gathered_eq d L tb ix k hix _ ?_ _ _ x
  intro y
  rw [View.write_whole_univ]
  rfl

end Cert.Proof.Chunks

end
-- ==== Proof.ChunkTile.lean ====
/-
  A vector subcore's whole task: 32 trips over its 32 blocks, from the blocks at any contents to the blocks at the
  gathered rows; and the launch's obligation for it.
-/
module

public import proofs.«01_k».proof.Proof.ChunkTrip

@[expose] public section

noncomputable section

namespace Cert.Proof.Chunks

open Cert.ChunksIdeal Cert.ChunksIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xV" => (Memref.whole main_v0_scv : Memref sig Kind.scVector Space.hbm S3211264x128 EltTy.f32)
local notation "iV" => (Memref.whole main_v1_scv : Memref sig Kind.scVector Space.hbm S131072 EltTy.i32)
local notation "oV" => (Memref.whole main_v2_scv : Memref sig Kind.scVector Space.hbm S131072x128 EltTy.f32)
local notation "sV" => (Memref.whole cc0_scratch0 : Memref sig Kind.scVector Space.vmem S128 EltTy.i32)
local notation "rV" => (Memref.whole cc0_scratch1 : Memref sig Kind.scVector Space.vmem S128x128 EltTy.f32)

theorem bound_zero : grid0.bound 0 = 2 := rfl
theorem bound_one : grid0.bound 1 = 16 := rfl
theorem trips_eq : k0_t1_loop.trips = 32 := by decide
/-- The worker at coordinates `L`. -/
abbrev wL (L : grid0.Coords) : Fin 32 := wid (Fin.cast bound_zero (L 0)) (Fin.cast bound_one (L 1))
/-- The block that trip `k` at coordinates `L` fills. -/
abbrev bL (L : grid0.Coords) (k : Fin k0_t1_loop.trips) : Fin 1024 := blk (wL L) (Fin.cast trips_eq k)

theorem oRect_eq (L : grid0.Coords) (k : Fin k0_t1_loop.trips) :
    Rect.unit (s := S131072x128) (k0_off2 L k) S128x128.size (k0_off2_inb L k) = oblk (bL L k) := by
  unfold oblk Rect.part Rect.block
  congr 1 <;> funext a
  · rw [k0_off2_eq]
    match a with
    | 0 =>
      show 8192 * (L 1).val + 4096 * (L 0).val + 128 * k.val = (32 * (2 * (L 1).val + (L 0).val) + k.val) * 128
      omega
    | 1 => simp [Shape.partIx, Shape.partSize]
  · match a with
    | 0 => simp [Shape.partSize]
    | 1 => simp [Shape.partSize]

theorem set_oK (L : grid0.Coords) (k : Fin k0_t1_loop.trips) : (oK L k).view.set = oSet (bL L k) := by
  show ((View.whole (main_v2_scv : Ref sig .scVector)).slice _).set = _
  rw [View.set_slice, oRect_eq]; exact Finset.map_refl

variable (d : Dev nD) (L : grid0.Coords)

theorem pts_oK (k : Fin k0_t1_loop.trips) (f : Buf (Elt F) (oLoc d)) :
    ((oK L k).view.loc (thr d L) ↦[(oK L k).view.set]{fullShare} f : sProp 𝕄) = oLoc d ↦[oSet (bL L k)]{fullShare} f := by
  rw [set_oK]
theorem pts_xV (q : PosShare TreeShare) (f : Buf (Elt F) (xLoc d)) :
    ((xV).view.loc (thr d L) ↦{q} f : sProp 𝕄) = xLoc d ↦{q} f := rfl
theorem pts_iV (q : PosShare TreeShare) (f : Buf (Elt F) (iLoc d)) :
    ((iV).view.loc (thr d L) ↦{q} f : sProp 𝕄) = iLoc d ↦{q} f := rfl
theorem pts_sV (f : Buf (Elt F) ((thr d L).loc cc0_scratch0)) :
    ((sV).view.loc (thr d L) ↦{fullShare} f : sProp 𝕄) = (thr d L).loc cc0_scratch0 ↦{fullShare} f := rfl
theorem pts_rV (f : Buf (Elt F) ((thr d L).loc cc0_scratch1)) :
    ((rV).view.loc (thr d L) ↦{fullShare} f : sProp 𝕄) = (thr d L).loc cc0_scratch1 ↦{fullShare} f := rfl

abbrev cAcell (d : Dev nD) (c : Fin τ.nSC) (i : Fin τ.nSub) : GSem nD τ sig := (V d c i, .dma cc0_scratch2.sem)
abbrev cBcell (d : Dev nD) (c : Fin τ.nSC) (i : Fin τ.nSub) : GSem nD τ sig := (V d c i, .dma cc0_scoped0.sem)
abbrev cCcell (d : Dev nD) (c : Fin τ.nSC) (i : Fin τ.nSub) : GSem nD τ sig := (V d c i, .dma cc0_scoped1.sem)

/-- The task's three semaphores are among the subcore's own. -/
theorem ownSems0_V :
    (ownSems0 (thr d L) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scratch2.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped0.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

/-- The two scratch buffers are among the subcore's own: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

variable (tb : Buf (Elt F) (xLoc d)) (ix : Buf (Elt F) (iLoc d)) (o₀ : Buf (Elt F) (oLoc d))

/-- The blocks of a worker after `n` trips: the first `n` at the gathered rows, the others as they were. -/
def blocks (w : Fin 32) (n : ℕ) : sProp 𝕄 :=
  bigSep Finset.univ fun k : Fin 32 => oLoc d ↦[oSet (blk w k)]{fullShare} (if k.val < n then gath tb ix else o₀)

/-- Block `k`, at what it holds after `n` trips, and the worker's other blocks. -/
theorem blocks_at (w : Fin 32) (n : ℕ) (k : Fin 32) :
    (blocks d tb ix o₀ w n : sProp 𝕄)
      = iprop((oLoc d ↦[oSet (blk w k)]{fullShare} (if k.val < n then gath tb ix else o₀))
          ∗ bigSep (Finset.univ.erase k) fun k' : Fin 32 => oLoc d ↦[oSet (blk w k')]{fullShare} (if k'.val < n then gath tb ix else o₀)) :=
  SparseCore.bigSep_erase' (Finset.mem_univ k)

/-- Trip `k` touches block `k` alone. -/
theorem blocks_rest (w : Fin 32) (k : Fin 32) (n : ℕ) (hn : k.val = n) :
    (bigSep (Finset.univ.erase k) fun k' : Fin 32 => (oLoc d ↦[oSet (blk w k')]{fullShare} (if k'.val < n then gath tb ix else o₀) : sProp 𝕄))
      = bigSep (Finset.univ.erase k) fun k' : Fin 32 => oLoc d ↦[oSet (blk w k')]{fullShare} (if k'.val < n + 1 then gath tb ix else o₀) := by
  refine bigSep_congr fun k' hk' => ?_
  have hne : k'.val ≠ k.val := fun e => (Finset.mem_erase.mp hk').1 (Fin.ext e)
  by_cases h : k'.val < n
  · rw [if_pos h, if_pos (by omega)]
  · rw [if_neg h, if_neg (by omega)]

/-- What a subcore receives for its task, and what it gives back. -/
def given (w : Fin 32) (n : ℕ) : sProp 𝕄 :=
  iprop((xLoc d ↦{wq w} tb) ∗ (iLoc d ↦{wq w} ix) ∗ blocks d tb ix o₀ w n)

instance blocks_storable (w : Fin 32) (n : ℕ) : BI.Storable (upEmb : UEmb _ 𝕄) (blocks d tb ix o₀ w n) := by unfold blocks; infer_instance
instance given_storable (w : Fin 32) (n : ℕ) : BI.Storable (upEmb : UEmb _ 𝕄) (given d tb ix o₀ w n) := by unfold given; infer_instance

/-- The loop's invariant before trip `n`. -/
def inv (O : CellTallies nD τ sig (HIx 1)) (W : Waits sig (HIx 1)) (n : Nat) (_ : BitVec 32) : sProp 𝕄 :=
  iprop(bench d L tb ix (wq (wL L)) O W ∗ blocks d tb ix o₀ (wL L) n)

variable [FloatOps F]

set_option maxHeartbeats 4000000 in
/-- The task on the vector subcore at coordinates `L` of device `d`. -/
theorem tile_body (hF : (K (F := F)).Facts) (hix : ∀ j : S131072.Idx, (ix j).toNat < 3211264)
    (O : CellTallies nD τ sig (HIx 1)) (W : Waits sig (HIx 1)) (hO : ∀ g, O g none = 0) :
    iprop(levAts (K (F := F)).L (K (F := F)).lev ∗ emp ∗ given d tb ix o₀ (wL L) 0
        ∗ scopedBufs (thr d L) ∗ scopedSems0 (thr d L) ∗ owes (thr d L) O W)
      ⊢ wp frame (wpE (defs₀ (F := F)) 𝒱₀ (thr d L) none) Set.univ
          (cc0_k L xV (Memref.isWhole_whole _) iV (Memref.isWhole_whole _) oV (Memref.isWhole_whole _)
            sV (Memref.isWhole_whole _) rV (Memref.isWhole_whole _) cc0_scratch2 cc0_scoped0 cc0_scoped1)
          fun _ => iprop(given d tb ix o₀ (wL L) 32
            ∗ scopedBufs (thr d L) ∗ scopedSems0 (thr d L)
            ∗ ∃ W', ⌜∀ p ∈ W', p ∈ W ∨ p.2 = none⌝ ∗ owes (thr d L) O W') := by
  simp only [cc0_k_eq_skeleton]; unfold cc0_k_skel given
  rw [(K (F := F)).scopedBufs_V hF d (cV L) (jV L), SparseCore.Cfg.scopedSems0_V (Val := Elt F) d (cV L) (jV L), ownSems0_V, ownBufs_V]
  iintro ⟨#Hlv, -, ⟨Hx, Hi, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (thr d L) (default : HIx 1) O from
    (K (F := F)).mayWaits_none (thr := thr d L) hO) $$ Hlv
  sl_for (inv d L tb ix o₀ O W) $$ [Hmw Hx Hi Hs Hr HsemA HsemB HsemC HO Ho]
  case region =>
    intro k c
    have hk : (Fin.cast trips_eq k).val = k.val := rfl
    unfold inv
    rw [blocks_at d tb ix o₀ (wL L) k.val (Fin.cast trips_eq k), blocks_at d tb ix o₀ (wL L) (k.val + 1) (Fin.cast trips_eq k),
      if_neg (show ¬ (Fin.cast trips_eq k).val < k.val by omega), if_pos (show (Fin.cast trips_eq k).val < k.val + 1 by omega)]
    rw [blocks_rest d tb ix o₀ (wL L) (Fin.cast trips_eq k) k.val hk, ← pts_oK d L k, ← pts_oK d L k]
    iintro ⟨Hb, Ho, Hrest⟩
    iapply (wp_mono frame (wpE (defs₀ (F := F)) 𝒱₀ (thr d L) none) Set.univ (Q := fun _ => iprop((bench d L tb ix (wq (wL L)) O W
        ∗ ((oK L k).view.loc (thr d L) ↦[(oK L k).view.set]{fullShare} gath tb ix))
      ∗ bigSep (Finset.univ.erase (Fin.cast trips_eq k)) fun k' : Fin 32 => oLoc d ↦[oSet (blk (wL L) k')]{fullShare} (if k'.val < k.val + 1 then gath tb ix else o₀)))
      (fun _ => by
        iintro ⟨⟨Hb, Ho⟩, Hrest⟩
        isplitl [Hb]; · iexact Hb
        isplitl [Ho]; · iexact Ho
        iexact Hrest))
    iapply (wp_frame_r frame (wpE (defs₀ (F := F)) 𝒱₀ (thr d L) none) Set.univ)
    isplitr [Hrest]
    · iapply (trip d L tb ix (wq (wL L)) O W k c hix o₀)
      isplitl [Hb] <;> iassumption
    · iexact Hrest
  · unfold inv bench
    isplitr [Ho]
    · isplitl [Hmw]; · iexact Hmw
      isplitl [Hx]; · iexact Hx
      isplitl [Hi]; · iexact Hi
      isplitl [Hs]; · iexists _; iexact Hs
      isplitl [Hr]; · iexists _; iexact Hr
      isplitl [HsemA]; · iexact HsemA
      isplitl [HsemB]; · iexact HsemB
      isplitl [HsemC]; · iexact HsemC
      iexists W; isplitr
      · ipureintro; exact fun p hp => .inl hp
      · iexact HO
    iexact Ho
  iintro %_ HI
  unfold inv bench
  icases HI with ⟨⟨-, Hx, Hi, ⟨%f, Hs⟩, ⟨%g, Hr⟩, HsemA, HsemB, HsemC, %W', %hW', HO⟩, Ho⟩
  sl_step
  isplitl [Hx Hi Ho]
  · isplitl [Hx]; · iexact Hx
    isplitl [Hi]; · iexact Hi
    iexact Ho
  isplitl [Hs Hr Hbufs]
  · isplitl [Hs]; · iexists _; iexact Hs
    isplitl [Hr]; · iexists _; iexact Hr
    iexact Hbufs
  isplitl [HsemA HsemB HsemC Hsems]
  · isplitl [HsemA]; · iexact HsemA
    isplitl [HsemB]; · iexact HsemB
    isplitl [HsemC]; · iexact HsemC
    iexact Hsems
  iexists W'; isplitr
  · ipureintro; exact hW'
  · iexact HO

end Cert.Proof.Chunks

end
-- ==== Proof.ChunkCalls.lean ====
/-
  What the SparseCore call's handshakes carry, the launch's obligations for it, and the arrays of the call as the
  TensorCore holds them: the table, the list and the result whole.
-/
module

public import proofs.«01_k».proof.Proof.ChunkTile

@[expose] public section

noncomputable section

namespace Cert.Proof.Chunks

open Cert.ChunksIdeal Cert.ChunksIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xV" => (Memref.whole main_v0_scv : Memref sig Kind.scVector Space.hbm S3211264x128 EltTy.f32)
local notation "iV" => (Memref.whole main_v1_scv : Memref sig Kind.scVector Space.hbm S131072 EltTy.i32)
local notation "oV" => (Memref.whole main_v2_scv : Memref sig Kind.scVector Space.hbm S131072x128 EltTy.f32)
local notation "sV" => (Memref.whole cc0_scratch0 : Memref sig Kind.scVector Space.vmem S128 EltTy.i32)
local notation "rV" => (Memref.whole cc0_scratch1 : Memref sig Kind.scVector Space.vmem S128x128 EltTy.f32)

theorem nSub_zero : (K (F := F)).nSub 0 = 16 := rfl
theorem nCore_zero : (K (F := F)).nCore 0 = 2 := rfl

variable (tb : (d : Dev nD) → Buf (Elt F) (xLoc d)) (ix : (d : Dev nD) → Buf (Elt F) (iLoc d)) (o₀ : (d : Dev nD) → Buf (Elt F) (oLoc d))

/-- What the workers of core `c` hold when each has made `n` trips. -/
def coreGiven (d : Dev nD) (c : Fin 2) (n : ℕ) : sProp 𝕄 :=
  bigSep Finset.univ fun s : Fin 16 => given d (tb d) (ix d) (o₀ d) (wid c s) n
instance coreGiven_storable (d : Dev nD) (c : Fin 2) (n : ℕ) : BI.Storable (upEmb : UEmb _ 𝕄) (coreGiven tb ix o₀ d c n) := by
  unfold coreGiven; infer_instance

/-- The one call hands each core its workers' shares and blocks, each worker its own; and takes them back with every block
    filled. -/
def P : (K (F := F)).Pay (nD := nD) (Val := Elt F) (Name := ℕ) (U := UU) where
  st := fun q d c => match q with | 0 => coreGiven tb ix o₀ d (Fin.cast nCore_zero c) 0
  dn := fun q d c => match q with | 0 => coreGiven tb ix o₀ d (Fin.cast nCore_zero c) 32
  go := fun q d c i => match q with
    | 0 => given d (tb d) (ix d) (o₀ d) (wid (Fin.cast nCore_zero c) (Fin.cast nSub_zero i)) 0
  td := fun q d c i => match q with
    | 0 => given d (tb d) (ix d) (o₀ d) (wid (Fin.cast nCore_zero c) (Fin.cast nSub_zero i)) 32
  x := fun _ _ => iprop(emp)

instance P_storable : (P (F := F) tb ix o₀).IsStorable where
  st q d c := match q with
    | 0 => (inferInstance : BI.Storable (upEmb : UEmb _ 𝕄) (coreGiven tb ix o₀ d (Fin.cast nCore_zero c) 0))
  dn q d c := match q with
    | 0 => (inferInstance : BI.Storable (upEmb : UEmb _ 𝕄) (coreGiven tb ix o₀ d (Fin.cast nCore_zero c) 32))
  go q d c i := match q with
    | 0 => (inferInstance : BI.Storable (upEmb : UEmb _ 𝕄) (given d (tb d) (ix d) (o₀ d) (wid (Fin.cast nCore_zero c) (Fin.cast nSub_zero i)) 0))
  td q d c i := match q with
    | 0 => (inferInstance : BI.Storable (upEmb : UEmb _ 𝕄) (given d (tb d) (ix d) (o₀ d) (wid (Fin.cast nCore_zero c) (Fin.cast nSub_zero i)) 32))

/-- The workers of a core, counted as the call counts them. -/
theorem coreGiven_eq (d : Dev nD) (c : Fin 2) (n : ℕ) :
    (coreGiven tb ix o₀ d c n : sProp 𝕄)
      = bigSep Finset.univ fun i : Fin ((K (F := F)).nSub 0) => given d (tb d) (ix d) (o₀ d) (wid c (Fin.cast nSub_zero i)) n := rfl

/-- A core's operands are its workers': the split hands them out and takes them back. -/
theorem vecSplit : (K (F := F)).VecSplit' (P tb ix o₀) 0 := by
  intro d c
  show coreGiven tb ix o₀ d (Fin.cast nCore_zero c) 0 ⊢ |={Set.univ}=> iprop(
      (bigSep Finset.univ fun i : Fin ((K (F := F)).nSub 0) => given d (tb d) (ix d) (o₀ d) (wid (Fin.cast nCore_zero c) (Fin.cast nSub_zero i)) 0)
      ∗ ((bigSep Finset.univ fun i : Fin ((K (F := F)).nSub 0) => given d (tb d) (ix d) (o₀ d) (wid (Fin.cast nCore_zero c) (Fin.cast nSub_zero i)) 32)
          -∗ coreGiven tb ix o₀ d (Fin.cast nCore_zero c) 32))
  rw [← coreGiven_eq, ← coreGiven_eq]
  iintro H; imodintro
  isplitl [H]; · iexact H
  iintro H; iexact H

/-! ## The arrays as the TensorCore holds them -/

/-- Every worker's share and blocks are the table, the list and the blocks of every worker. -/
theorem cores_eq (d : Dev nD) (n : ℕ) :
    (bigSep Finset.univ fun c : Fin 2 => (coreGiven tb ix o₀ d c n : sProp 𝕄))
      = iprop((xLoc d ↦{fullShare} tb d) ∗ (iLoc d ↦{fullShare} ix d)
          ∗ bigSep Finset.univ fun c : Fin 2 => bigSep Finset.univ fun s : Fin 16 => blocks d (tb d) (ix d) (o₀ d) (wid c s) n) := by
  unfold coreGiven given
  rw [pts_workers (tb d), pts_workers (ix d), ← bigSep_sep', ← bigSep_sep']
  refine bigSep_congr fun c _ => ?_
  rw [← bigSep_sep', ← bigSep_sep']

/-- Before the call: the result's array at what it held. -/
theorem st_eq (d : Dev nD) : (bigSep Finset.univ fun c : Fin ((K (F := F)).nCore 0) => (P tb ix o₀).st 0 d c)
    = iprop((xLoc d ↦{fullShare} tb d) ∗ (iLoc d ↦{fullShare} ix d) ∗ oLoc d ↦{fullShare} o₀ d) := by
  refine (cores_eq tb ix o₀ d 0).trans ?_
  rw [pts_blocks d (o₀ d)]
  unfold blocks
  simp only [Nat.not_lt_zero, if_false]

/-- After the call: the result's array at the gathered rows. -/
theorem dn_eq (d : Dev nD) : (bigSep Finset.univ fun c : Fin ((K (F := F)).nCore 0) => (P tb ix o₀).dn 0 d c)
    = iprop((xLoc d ↦{fullShare} tb d) ∗ (iLoc d ↦{fullShare} ix d) ∗ oLoc d ↦{fullShare} gath (tb d) (ix d)) := by
  refine (cores_eq tb ix o₀ d 32).trans ?_
  rw [pts_blocks d (gath (tb d) (ix d))]
  unfold blocks
  simp only [Fin.is_lt, if_true]

variable [FloatOps F]

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          xV (Memref.isWhole_whole _) iV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Each vector subcore's task meets what the launch asks of it. -/
theorem tileObl (hix : ∀ (d : Dev nD) (j : S131072.Idx), (ix d j).toNat < 3211264) :
    (K (F := F)).TileObl (D (F := F)) 𝒱 (P tb ix o₀) v₀ 0 := by
  intro d c i O W hO _ _
  simp only [show (P tb ix o₀).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (tb d) (ix d) (o₀ d) facts (hix d) O W hO).trans (wp_mono frame _ _ fun _ => obl_post)

end Cert.Proof.Chunks

end
-- ==== Proof.ChunkMain.lean ====
/-
  The gather of similarity chunks: its host code and its SparseCore call in sequence, and the program's run.
-/
module

public import proofs.«01_k».proof.Proof.ChunkCalls

@[expose] public section

noncomputable section

namespace Cert.Proof.Chunks

open Cert.ChunksIdeal Cert.ChunksIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## A reshape at the head of @main -/

/-- A reshape of one buffer into another: the first stays, the second takes its elements in row-major order. -/
theorem wp_reshape (V₀ : Valuation τ sig (Elt F)) (d : Dev nD) (x y : Ref sig .tc) (hxy : x ≠ y) (he : x.ty.elt = y.ty.elt) (hn : x.ty.shape.ShapeCasts y.ty.shape)
    (hx : x.space ≠ .host ∧ (Proc.devRef .tc x : DevRef τ sig).isScoped = false) (hy : y.space ≠ .host ∧ (Proc.devRef .tc y : DevRef τ sig).isScoped = false)
    (f : Buf (Elt F) ((SparseCore.T d : Thread nD τ).loc x)) (g : Buf (Elt F) ((SparseCore.T d : Thread nD τ).loc y))
    {hp : (SparseCore.T d : Thread nD τ).2.kind.runsHlo = true}
    (p : Prog (TpuEff nD τ sig (Elt F) (SparseCore.Sig (ΛP (F := F)) 1) .tc) PUnit) (Q : PUnit → sProp 𝕄) :
    iprop(boundary (SparseCore.T d : Thread nD τ) ∗ ((SparseCore.T d : Thread nD τ).loc x ↦{fullShare} f) ∗ ((SparseCore.T d : Thread nD τ).loc y ↦{fullShare} g))
      ⊢ iprop(((boundary (SparseCore.T d : Thread nD τ) ∗ ((SparseCore.T d : Thread nD τ).loc x ↦{fullShare} f)
            ∗ ((SparseCore.T d : Thread nD τ).loc y ↦{fullShare} (fun i => he ▸ shapeCast y.ty.shape f hn i : Buf (Elt F) ((SparseCore.T d : Thread nD τ).loc y))))
          -∗ wp frame (wpE ((K (F := F)).defs (D (F := F))) 𝒱 (SparseCore.T d) none) Set.univ p Q)
        -∗ wp frame (wpE ((K (F := F)).defs (D (F := F))) 𝒱 (SparseCore.T d) none) Set.univ
            (hlo hp (StableHlo.reshape x y he hn hx hy) (fun _ => p)) Q) := by
  let V : Valuation τ sig (Elt F) := Function.update (Function.update V₀ (Proc.devRef .tc y) g) (Proc.devRef .tc x) f
  have hne : (Proc.devRef .tc x : DevRef τ sig) ≠ Proc.devRef .tc y := fun h => hxy (Proc.devRef_injective _ h)
  have hVx : V (Proc.devRef .tc x) = f := Function.update_self _ _ _
  have hVy : V (Proc.devRef .tc y) = g := (Function.update_of_ne hne.symm _ _).trans (Function.update_self _ _ _)
  have hb : (StableHlo.reshape (τ := τ) (Val := Elt F) x y he hn hx hy).bufs = {Proc.devRef .tc x, Proc.devRef .tc y} := rfl
  have hrx : (StableHlo.reshape (τ := τ) (Val := Elt F) x y he hn hx hy).result V (Proc.devRef .tc x) = f :=
    (StableHlo.reshape_result_ne (τ := τ) x y he hn hx hy V hxy).trans hVx
  have hry : (StableHlo.reshape (τ := τ) (Val := Elt F) x y he hn hx hy).result V (Proc.devRef .tc y) = fun i => he ▸ shapeCast y.ty.shape f hn i := by
    refine (StableHlo.reshape_result x y he hn hx hy V).trans ?_
    rw [hVx]
  iintro ⟨Hb, Hx, Hy⟩ Hk
  iapply (wp_hlo (defs := (K (F := F)).defs (D (F := F))) 𝒱 (SparseCore.T d) none Set.univ
    (op := StableHlo.reshape (τ := τ) (Val := Elt F) x y he hn hx hy) (q := fun _ => fullShare) (F := V) (fun _ _ => rfl) rfl) $$ [Hb Hx Hy]
  · isplitl [Hb]; · iexact Hb
    rw [hb, SparseCore.bigSep_insert' (by rw [Finset.mem_singleton]; exact hne), bigSep_singleton, hVx, hVy]
    isplitl [Hx]; · iexact Hx
    iexact Hy
  rw [hb, SparseCore.bigSep_insert' (by rw [Finset.mem_singleton]; exact hne), bigSep_singleton, hrx, hry]
  iintro ⟨Hb, Hx, Hy⟩
  iapply Hk
  isplitl [Hb]; · iexact Hb
  isplitl [Hx]; · iexact Hx
  iexact Hy

/-! ## What the arrays hold along the way -/

variable (m : (ℓ : Loc nD τ sig) → Buf (Elt F) ℓ) (ρ : Dev nD → PrngReg)

/-- The chunks as the gather reads them, the list of rows, and what is in the gathered array before. -/
def tb (d : Dev nD) : Buf (Elt F) (xLoc d) := shapeCast S3211264x128 (m ((SparseCore.T d : Thread nD τ).loc main_arg0)) shapeCasts_S4096x100352_S3211264x128
def ix (d : Dev nD) : Buf (Elt F) (iLoc d) := shapeCast S131072 (m ((SparseCore.T d : Thread nD τ).loc main_arg1)) shapeCasts_S4096x32_S131072
def o₀ (d : Dev nD) : Buf (Elt F) (oLoc d) := m (oLoc d)
/-- The result array: the rows the list names. -/
def result (d : Dev nD) : Buf (Elt F) (oLoc d) := gath (tb m d) (ix m d)

/-! ## The launch element of the proof's ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P (tb m) (ix m) (o₀ m)).x q thr) := by
  unfold u₀
  iintro Hu
  ihave H := (ownU_pair (initOf (K (F := F)).hsCells (K (F := F)).hsToks) _) $$ Hu
  icases H with ⟨HH, -⟩
  imodintro
  isplitl [HH]; · iexact HH
  rw [show (bigSep Finset.univ fun thr : Thread nD τ => bigSep Finset.univ fun q : Fin 1 => (P (tb m) (ix m) (o₀ m)).x q thr) = bigSep Finset.univ fun _ => iprop(emp) from
    bigSep_congr fun _ _ => bigSep_univ_of_subsingleton (0 : Fin 1), bigSep_emp', bigSep_emp']
  isplitr <;> iempintro

theorem unscopedBufs_eq (d : Dev nD) (W : (b : Ref sig .tc) → Buf (Elt F) ((d.tc : Thread nD τ).loc b)) :
    (unscopedBufs d W : sProp 𝕄) = iprop(
      ((SparseCore.T d : Thread nD τ).loc main_arg0 ↦{fullShare} W main_arg0) ∗ ((SparseCore.T d : Thread nD τ).loc main_arg1 ↦{fullShare} W main_arg1)
      ∗ ((SparseCore.T d : Thread nD τ).loc main_v0 ↦{fullShare} W main_v0)
      ∗ ((SparseCore.T d : Thread nD τ).loc main_v1 ↦{fullShare} W main_v1) ∗ ((SparseCore.T d : Thread nD τ).loc main_v2 ↦{fullShare} W main_v2)) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide), SparseCore.bigSep_insert' (by decide),
    bigSep_singleton]

/-- What @main keeps: the argument arrays as launched and the result array. -/
abbrev FIN (d : Dev nD) : sProp 𝕄 :=
  iprop(((SparseCore.T d : Thread nD τ).loc main_arg0 ↦{fullShare} m ((SparseCore.T d : Thread nD τ).loc main_arg0))
    ∗ ((SparseCore.T d : Thread nD τ).loc main_arg1 ↦{fullShare} m ((SparseCore.T d : Thread nD τ).loc main_arg1))
    ∗ ((SparseCore.T d : Thread nD τ).loc main_v2 ↦{fullShare} result m d))

variable (hix : ∀ (d : Dev nD) (j : S131072.Idx), (ix m d j).toNat < 3211264)

/-- @main on device `d`'s TensorCore. -/
theorem hmain (κ : GSem nD τ sig → ℕ) (d : Dev nD) :
    iprop((K (F := F)).ctx EH (P (tb m) (ix m) (o₀ m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  unfold main
  iintro ⟨#Hctx, Hst, ⟨Hb, ⟨H0, H1, V0, V1, V2⟩, Hts, -⟩, -⟩
  rw [wp_bind]
  iapply (wp_reshape (fun b => m (d, b)) d main_arg0 main_v0 (by decide) _ _ _ _ _ _ _ _) $$ [Hb H0 V0]
  · isplitl [Hb]; · iexact Hb
    isplitl [H0]; · iexact H0
    iexact V0
  iintro ⟨Hb, H0, V0⟩
  rw [wp_ret, wp_bind]
  imodintro
  iapply (wp_reshape (fun b => m (d, b)) d main_arg1 main_v1 (by decide) _ _ _ _ _ _ _ _) $$ [Hb H1 V1]
  · isplitl [Hb]; · iexact Hb
    isplitl [H1]; · iexact H1
    iexact V1
  iintro ⟨Hb, H1, V1⟩
  rw [wp_ret, wp_bind]
  imodintro
  iapply ((K (F := F)).wp_run (D (F := F)) 𝒱 (EH := EH) (P := P (tb m) (ix m) (o₀ m)) κ d 0)
  isplitr; · iexact Hctx
  isplitl [Hst]; · iexact Hst
  isplitl [V0 V1 V2]
  · rw [st_eq]
    isplitl [V0]; · iexact V0
    isplitl [V1]; · iexact V1
    iexact V2
  iintro ⟨Hst, Hdn⟩
  ihave Hdn' := (Entails.of_eq (dn_eq (tb m) (ix m) (o₀ m) d)) $$ Hdn
  icases Hdn' with ⟨V0, V1, V2⟩
  rw [wp_pure]
  imodintro
  isplitl [Hst]; · iexact Hst
  isplitl [H0 H1 V2]
  · isplitl [H0]; · iexact H0
    isplitl [H1]; · iexact H1
    iexact V2
  isplitl [Hb] <;> iassumption

def fq (d : Dev nD) (s' : Phys nD τ sig (Elt F)) : Prop :=
  s'.mem.mem ((SparseCore.T d : Thread nD τ).loc main_v2) = result m d
    ∧ s'.mem.mem ((SparseCore.T d : Thread nD τ).loc main_arg0) = m ((SparseCore.T d : Thread nD τ).loc main_arg0)
    ∧ s'.mem.mem ((SparseCore.T d : Thread nD τ).loc main_arg1) = m ((SparseCore.T d : Thread nD τ).loc main_arg1)

set_option maxRecDepth 16384 in
theorem hfin (d : Dev nD) (s' : Phys nD τ sig (Elt F)) : iprop(FIN m d ∗ SI s') ⊢ (⌜fq m d s'⌝ : sProp 𝕄) := by
  iintro ⟨⟨H0, H1, H4⟩, HSI⟩
  ihave H := (persistent_entails_right (SI_pointsTo_agree (st := s') (ℓ := (SparseCore.T d : Thread nD τ).loc main_arg0) (I := Finset.univ) (q := fullShare) (f := m ((SparseCore.T d : Thread nD τ).loc main_arg0)))) $$ [HSI H0]
  · isplitl [HSI] <;> iassumption
  icases H with ⟨%h0, HSI, -⟩
  ihave H := (persistent_entails_right (SI_pointsTo_agree (st := s') (ℓ := (SparseCore.T d : Thread nD τ).loc main_arg1) (I := Finset.univ) (q := fullShare) (f := m ((SparseCore.T d : Thread nD τ).loc main_arg1)))) $$ [HSI H1]
  · isplitl [HSI] <;> iassumption
  icases H with ⟨%h1, HSI, -⟩
  ihave H := (SI_pointsTo_agree (st := s') (ℓ := (SparseCore.T d : Thread nD τ).loc main_v2) (I := Finset.univ) (q := fullShare) (f := result m d)) $$ [HSI H4]
  · isplitl [HSI] <;> iassumption
  icases H with %h4
  ipureintro
  exact ⟨funext fun i => h4 i (Finset.mem_univ i), funext fun i => h0 i (Finset.mem_univ i), funext fun i => h1 i (Finset.mem_univ i)⟩

/-! ## The program's run -/

def QC : PUnit × MemSt nD τ sig (Elt F) → Prop := fun r =>
  (∀ d : Dev nD, r.2.mem ((SparseCore.T d : Thread nD τ).loc main_v2) = result m d
    ∧ r.2.mem ((SparseCore.T d : Thread nD τ).loc main_arg0) = m ((SparseCore.T d : Thread nD τ).loc main_arg0)
    ∧ r.2.mem ((SparseCore.T d : Thread nD τ).loc main_arg1) = m ((SparseCore.T d : Thread nD τ).loc main_arg1)) ∧ r.2.sem = fun _ => 0

include hix in
/-- With every word of the list a row of the table, the program runs to its end with the arguments as they were, the
    result array at `result` and every semaphore at zero. -/
theorem run_main [∀ e, Nonempty (Elt F e)] :
    θ_run (Cert.ChunksIdeal.defs (F := F)) (Cert.ChunksIdeal.threads (F := F)) ⟨m, fun _ => 0, ρ⟩ (QC m) :=
  SparseCore.Cfg.θ_run_sc_quiescent (K := K (F := F)) (D := D (F := F)) (𝒱 := 𝒱) (EH := EH) (P := P (tb m) (ix m) (o₀ m)) (A := ∅) facts v₀
    (fun q hq => match q with | 0 => nomatch hq)
    (fun q _ => match q with | 0 => tileObl (tb m) (ix m) (o₀ m) hix)
    (fun q _ => match q with | 0 => SparseCore.Cfg.VecSplit.of_plain (vecSplit (tb m) (ix m) (o₀ m)))
    m ρ main (fun _ => iprop(emp)) (FIN m) (u₀ (F := F)) (sep_elim_left.trans (hu₀ m)) (hmain m ρ) (fq m) (hfin m) (QC m) (fun _ h hz => ⟨h, hz⟩)

end Cert.Proof.Chunks

end
-- ==== Proof.ChunkValue.lean ====
/-
  What the gather of similarity chunks leaves is what its reference takes: at a list of rows in range, the reference reads
  each row as it is.
-/
module

public import proofs.«01_k».proof.Proof.ChunkMain
public import proofs.«01_k».proof.Proof.Gen.ChunksReferenceIdeal.Run
public import proofs.«01_k».proof.Proof.Gen.Pre_chunks_in_range
public import Idealize.ShloMosaic.Lib.ReduceAll
public import Idealize.ShloMosaic.Lib.Pipeline.Value
public import Idealize.ShloMosaic.Lib.IdealHost
public import Idealize.ShloMosaic.Lib.Pointwise.Reduce

@[expose] public section

set_option maxRecDepth 16384

noncomputable section

namespace Cert.Proof.Chunks

open Cert.ChunksIdeal Cert.ChunksIdeal.Gen

open Idealize.ShloMosaic hiding ix1 ix2 ix3
open Idealize.ShloMosaic.TcCoe
open Idealize.ShloMosaic.ValueIdx

variable {F : FTy → Type} [FloatOps F]

/-! ## The precondition -/

theorem in_range_of_words (v : BitVec 32) (h : IntOp.andi (IntOp.cmpi .sge v 0#32) (IntOp.cmpi .slt v 3211264#32) = 1#1) : v.toNat < 3211264 := by
  have andi_ofBool (p q : Bool) : IntOp.andi (BitVec.ofBool p) (BitVec.ofBool q) = BitVec.ofBool (p && q) := by
    cases p <;> cases q <;> decide
  have one_iff (p : Bool) : (BitVec.ofBool p = 1#1) ↔ p = true := by cases p <;> decide
  simp only [IntOp.cmpi, andi_ofBool, one_iff, Bool.and_eq_true, BitVec.sle_eq_decide, BitVec.slt_eq_decide,
    decide_eq_true_eq, BitVec.toInt_eq_toNat_cond, BitVec.toNat_ofNat, Nat.reducePow, Nat.reduceMod] at h
  omega

/-- The precondition says that every index names a chunk. -/
theorem in_range_of_pre (x : S4096x100352.Idx → F .f32) (i : S4096x32.Idx → BitVec 32)
    (h : Cert.Pre_chunks_in_range.fn (F := F) x i = fun _ => 1#1) (q : S4096x32.Idx) : (i q).toNat < 3211264 := by
  have e := congrFun h (fun a => a.elim0)
  dsimp only [Cert.Pre_chunks_in_range.fn] at e
  haveI : Subsingleton Cert.Pre_chunks_in_range.S_.Idx := ⟨fun a b => funext fun z => z.elim0⟩
  exact in_range_of_words _ (Host.reduce_andi_all _ _ _ _ _ e q)

/-- A reshaped list's entries are the array's. -/
theorem list_mem (i : S4096x32.Idx → BitVec 32) (h : ∀ q, (i q).toNat < 3211264) (z : S131072.Idx) :
    (shapeCast S131072 i Cert.ChunksIdeal.Facts₀.shapeCasts_S4096x32_S131072 z).toNat < 3211264 := by
  have hz : (z 0).val < 131072 := (z 0).isLt
  rw [shapeCast_apply (s := S4096x32) (t := S131072) i _ z (ix2 (n0 := 4096) (n1 := 32) ⟨(z 0).val / 32, by omega⟩ ⟨(z 0).val % 32, by omega⟩) (by
    rw [Shape.rowMajor_val_two, Shape.rowMajor_val_one]
    show (z 0).val / 32 * 32 + (z 0).val % 32 = (z 0).val
    omega)]
  exact h _

theorem ix_in_range (m : (ℓ : Loc nD τ sig) → Buf (Elt F) ℓ)
    (h : ∀ (d : Dev nD) q, (m ((SparseCore.T d : Thread nD τ).loc main_arg1) q : BitVec 32).toNat < 3211264) (d : Dev nD) (z : S131072.Idx) :
    (ix m d z).toNat < 3211264 :=
  list_mem _ (h d) z

/-! ## The reference -/

section Reference

/-- The list's row numbers as the reference gathers at them: a negative one counts from the end. -/
def starts (l : S131072.Idx → BitVec 32) : IVec Cert.ChunksReferenceIdeal.S131072x1 32 :=
  broadcastInDim Cert.ChunksReferenceIdeal.S131072x1 ![0] Cert.ChunksReferenceIdeal.Facts₀.bcast_S131072_S131072x1_0
    (select (cmpi .slt l (broadcastInDim S131072 ![] Cert.ChunksReferenceIdeal.Facts₀.bcast_S_S131072 (constantI Cert.ChunksReferenceIdeal.S_ 32 0#32)))
      (addi l (broadcastInDim S131072 ![] Cert.ChunksReferenceIdeal.Facts₀.bcast_S_S131072 (constantI Cert.ChunksReferenceIdeal.S_ 32 3211264#32))) l)

/-- Which of them lie in the table. -/
def inside (s : IVec Cert.ChunksReferenceIdeal.S131072x1 32) : IVec S131072 1 :=
  Host.reduce IntOp.andi
    (andi (cmpi .sge s (broadcastInDim Cert.ChunksReferenceIdeal.S131072x1 ![] Cert.ChunksReferenceIdeal.Facts₀.bcast_S_S131072x1
        (constantI Cert.ChunksReferenceIdeal.S_ 32 0#32)))
      (cmpi .sle s (broadcastInDim Cert.ChunksReferenceIdeal.S131072x1 ![0, 1] Cert.ChunksReferenceIdeal.Facts₀.bcast_S1x1_S131072x1_0_1
        (broadcastInDim Cert.ChunksReferenceIdeal.S1x1 ![1] Cert.ChunksReferenceIdeal.Facts₀.bcast_S1_S1x1_1
          (constantI Cert.ChunksReferenceIdeal.S1 32 3211263#32)))))
    (constantI Cert.ChunksReferenceIdeal.S_ 1 1#1) Cert.ChunksReferenceIdeal.Facts₀.reducesTo_S131072x1_S131072_d1 Cert.ChunksReferenceIdeal.Facts₀.h_S_

/-- What the reference takes: the rows the list names, a row outside the table filled. -/
def taken (x : S3211264x128.Idx → Ideal .f32) (l : S131072.Idx → BitVec 32) : S131072x128.Idx → Ideal .f32 :=
  select (broadcastInDim S131072x128 ![0] Cert.ChunksReferenceIdeal.Facts₀.bcast_S131072_S131072x128_0 (inside (starts l)))
    (Host.gather Cert.ChunksReferenceIdeal.gather_S3211264x128_S131072x1_S131072x128_1_0_n_n_0_1_1128 x (starts l))
    (broadcastInDim S131072x128 ![] Cert.ChunksReferenceIdeal.Facts₀.bcast_S_S131072x128 (constant Cert.ChunksReferenceIdeal.S_ .f32 0x7FC00000#32))

/-- The reference's result of its two arguments. -/
def refResult (x : S4096x100352.Idx → Ideal .f32) (i : S4096x32.Idx → BitVec 32) : S131072x128.Idx → Ideal .f32 :=
  taken (shapeCast S3211264x128 x Cert.ChunksReferenceIdeal.Facts₀.shapeCasts_S4096x100352_S3211264x128)
    (shapeCast S131072 i Cert.ChunksReferenceIdeal.Facts₀.shapeCasts_S4096x32_S131072)

/-- The reference's gather at an entry whose row number is in range. -/
theorem gather_rows (x : S3211264x128.Idx → Ideal .f32) (i : IVec Cert.ChunksReferenceIdeal.S131072x1 32) (y : S131072x128.Idx)
    (h : (i (ix2 (y 0) 0)).toNat < 3211264) :
    Host.gather Cert.ChunksReferenceIdeal.gather_S3211264x128_S131072x1_S131072x128_1_0_n_n_0_1_1128 x i y = x (ix2 ⟨(i (ix2 (y 0) 0)).toNat, h⟩ (y 1)) := by
  let g := Cert.ChunksReferenceIdeal.gather_S3211264x128_S131072x1_S131072x128_1_0_n_n_0_1_1128
  show x (g.operandIdx y i) = _
  refine congrArg x (funext fun a => Fin.ext ?_)
  show g.start y i a + g.batchCoord y a + g.offCoord y a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ g.startIndexMap from List.mem_singleton.mpr rfl)]
    have hsi : g.siIdx y ⟨List.idxOf (0 : Fin 2) g.startIndexMap, List.idxOf_lt_length_iff.2 (List.mem_singleton.mpr rfl)⟩ = ix2 (y 0) 0 := by
      funext b; refine Fin.ext ?_
      match b with
      | ⟨0, _⟩ => rfl
      | ⟨1, _⟩ => rfl
    rw [hsi]
    show min (i (ix2 (y 0) 0)).toInt.toNat 3211263 = (i (ix2 (y 0) 0)).toNat
    rw [BitVec.toInt_eq_toNat_cond, if_pos (by omega)]
    show min ((i (ix2 (y 0) 0)).toNat : ℤ).toNat 3211263 = (i (ix2 (y 0) 0)).toNat
    omega
  · have hk : (1 : Fin 2) ∈ g.sKept := (GatherDims.mem_sKept _ _).mpr ⟨by decide, List.not_mem_nil⟩
    unfold GatherDims.start GatherDims.offCoord
    rw [dif_neg (by decide), dif_pos hk, Nat.zero_add]
    rfl

/-- Where the mask is set, a selection takes its first side. -/
theorem select_pos {s : Shape} {α : Type} (p : IVec s 1) (x y : s.Idx → α) (z : s.Idx) (h : p z = 1#1) : select p x y z = x z := if_pos h

variable (l : S131072.Idx → BitVec 32) (hl : ∀ q, (l q).toNat < 3211264)
include hl

/-- An entry in range is the row number gathered at. -/
theorem starts_apply (z : Cert.ChunksReferenceIdeal.S131072x1.Idx) : starts l z = l (ix1 (z 0)) := by
  unfold starts
  refine (broadcastInDim_apply (s := S131072) _ _ _ z (ix1 (z 0)) ?_).trans ?_
  · intro a
    match a with
    | ⟨0, _⟩ => rfl
  show (if IntOp.cmpi .slt (l (ix1 (z 0))) 0#32 = 1#1 then _ else _) = _
  rw [if_neg]
  rw [IntOp.cmpi_slt, BitVec.toInt_eq_toNat_cond, if_pos (by have := hl (ix1 (z 0)); omega)]
  show ¬ ((l (ix1 (z 0))).toNat : ℤ) < 0
  omega

/-- Every row number gathered at lies in the table. -/
theorem inside_apply (q : S131072.Idx) : inside (starts l) q = 1#1 := by
  unfold inside
  refine Host.reduce_andi_one _ _ _ _ q rfl fun z => ?_
  have h := hl (ix1 (z 0))
  show IntOp.andi (IntOp.cmpi .sge (starts l z) 0#32) (IntOp.cmpi .sle (starts l z) 3211263#32) = 1#1
  rw [starts_apply l hl z, IntOp.cmpi_sge.mpr, IntOp.cmpi_sle.mpr]
  · decide
  · rw [BitVec.toInt_eq_toNat_cond, if_pos (by omega)]
    show ((l (ix1 (z 0))).toNat : ℤ) ≤ 3211263
    omega
  · rw [BitVec.toInt_eq_toNat_cond (x := l _), if_pos (by omega)]
    show (0 : ℤ) ≤ ((l (ix1 (z 0))).toNat : ℤ)
    omega

/-- What the reference takes is what the gather leaves. -/
theorem taken_eq (x : S3211264x128.Idx → Ideal .f32) : taken x l = gath (F := Ideal) (e := .f32) x l := by
  funext y
  have hs : starts l (ix2 (y 0) 0) = l (ent y) := (starts_apply l hl _).trans (congrArg l (funext fun b => by match b with | ⟨0, _⟩ => rfl))
  have hr : (starts l (ix2 (y 0) 0)).toNat < 3211264 := hs ▸ hl _
  refine Eq.trans ?_ (gath_eq (F := Ideal) (e := .f32) x l y (ix2 ⟨(starts l (ix2 (y 0) 0)).toNat, hr⟩ (y 1)) (congrArg BitVec.toNat hs) rfl).symm
  unfold taken
  refine (select_pos _ _ _ _ ?_).trans (gather_rows x (starts l) y hr)
  refine (broadcastInDim_apply (s := S131072) _ _ _ y (ix1 (y 0)) ?_).trans (inside_apply l hl _)
  intro a
  match a with
  | ⟨0, _⟩ => rfl

end Reference

/-- The reference's result is the gather's. -/
theorem refResult_eq (m : (ℓ : Loc nD τ sig) → Buf (Elt Ideal) ℓ) (h : ∀ d (z : S131072.Idx), (ix m d z).toNat < 3211264) (d : Dev nD) :
    refResult (m ((SparseCore.T d : Thread nD τ).loc main_arg0)) (m ((SparseCore.T d : Thread nD τ).loc main_arg1)) = result m d :=
  taken_eq (ix m d) (h d) (tb m d)

end Cert.Proof.Chunks

end
-- ==== Proof.UnitRows.lean ====
/-
  A matrix with its rows scaled to unit length, at exact numbers: each element over its row's length, that length taken
  as at least a small constant. The kernel's operations and the host's both compute it.
-/
module

public import Idealize.ShloMosaic.Lib.KernelVsHost
public import Idealize.ShloMosaic.Lib.IdealHost
public import Idealize.ShloMosaic.Lib.Pointwise.Reduce

@[expose] public section

set_option maxRecDepth 16384

noncomputable section

namespace Cert.Proof.Rows

open Idealize.ShloMosaic hiding ix1 ix2 ix3
open Idealize.ShloMosaic.ValueIdx

/-- An `n` by 256 matrix. -/
abbrev M (n : ℕ) : Shape := ⟨2, ![n, 256]⟩

/-- The length of row `r`, at least the constant. -/
def len {n : ℕ} (x : FVec Ideal (M n) .f32) (r : Fin n) : Ideal .f32 :=
  max (Ideal.sqrt (∑ k : Fin 256, (x (ix2 r k) * x (ix2 r k) : EReal))) (Ideal.ofBits .f32 0x2B8CBCCC#32)

/-- Each element over its row's length. -/
def unitRows {n : ℕ} (x : FVec Ideal (M n) .f32) : FVec Ideal (M n) .f32 := fun y => Ideal.div (x y) (len x (y 0))

/-- Two matrices that agree along a row have that row's unit row in common. -/
theorem unitRows_congr {n n' : ℕ} (x : FVec Ideal (M n) .f32) (x' : FVec Ideal (M n') .f32) (r : Fin n) (r' : Fin n')
    (h : ∀ k : Fin 256, x (ix2 r k) = x' (ix2 r' k)) (c : Fin 256) : unitRows x (ix2 r c) = unitRows x' (ix2 r' c) := by
  have hl : len x r = len x' r' := by
    unfold len
    refine congrArg (fun s => max (Ideal.sqrt s) _) (Finset.sum_congr rfl fun k _ => ?_)
    rw [h k]
  show Ideal.div (x (ix2 r c)) (len x r) = Ideal.div (x' (ix2 r' c)) (len x' r')
  rw [h c, hl]

/-- The host's operations. -/
theorem host_eq {n : ℕ} {u : Shape} (x : FVec Ideal (M n) .f32) (h1 : (⟨2, ![n, 1]⟩ : Shape).BroadcastsInDim (M n) ![0, 1])
    (h2 : (⟨1, ![n]⟩ : Shape).BroadcastsInDim ⟨2, ![n, 1]⟩ ![0]) (h3 : (M n).ReducesTo [1] ⟨1, ![n]⟩) (h4 : 0 < u.numel)
    (d5 : Fin u.rank → Fin 2) (h5 : u.BroadcastsInDim ⟨2, ![n, 1]⟩ d5) :
    Host.divf x (broadcastInDim (M n) ![0, 1] h1 (maximumf (Host.sqrt (broadcastInDim ⟨2, ![n, 1]⟩ ![0] h2
      (Host.reduceAdd (mulf x x) (constant u .f32 0x00000000#32) h3 h4))) (broadcastInDim ⟨2, ![n, 1]⟩ d5 h5 (constant u .f32 0x2B8CBCCC#32))))
      = unitRows x := by
  funext y
  obtain ⟨r, c, rfl⟩ : ∃ (r : Fin n) (c : Fin 256), y = ix2 r c := ⟨y 0, y 1, ValueIdx.eq_ix2 y⟩
  refine congrArg (Ideal.div (x (ix2 r c))) ?_
  refine (broadcastInDim_apply _ h1 _ (ix2 r c) (ix2 (n0 := n) (n1 := 1) r 0) ?_).trans ?_
  · intro a
    match a with
    | ⟨0, _⟩ => show r.val = if n = 1 then 0 else r.val; have := r.isLt; split <;> omega
    | ⟨1, _⟩ => rfl
  refine congrArg (fun s => max (Ideal.sqrt s) (Ideal.ofBits .f32 0x2B8CBCCC#32)) ?_
  refine (broadcastInDim_apply _ h2 _ (ix2 (n0 := n) (n1 := 1) r 0) (ix1 r) ?_).trans ?_
  · intro a
    match a with
    | ⟨0, _⟩ => show r.val = if n = 1 then 0 else r.val; have := r.isLt; split <;> omega
  rw [Host.reduceAdd_apply, Ideal.hostReduceAdd_def]
  refine (Ideal.hostReduceAdd_r2_a1 _ _ _ (ix1 r)).trans ?_
  exact (congrArg₂ (· + ·) Ideal.ofBits_zero_f32 rfl).trans (zero_add _)

/-- The kernel's operations. -/
theorem kernel_eq {n : ℕ} (x : FVec Ideal (M n) .f32) (h1 : (M n).Reduces [1] ⟨1, ![n]⟩) (hφ : FKind.Formats .f32)
    (hacc : (0x00000000#32 : BitVec 32) = FKind.add.neutral .f32 hφ) (h2 : (⟨1, ![n]⟩ : Shape).ShapeCasts ⟨2, ![n, 1]⟩)
    (h3 : (⟨2, ![n, 1]⟩ : Shape).Broadcasts (M n)) :
    divf x (broadcastTo (M n) (maximumf (sqrt (shapeCast ⟨2, ![n, 1]⟩ (multiReduction .add [1] ⟨1, ![n]⟩ (mulf x x) 0x00000000#32 h1 hφ hacc) h2))
      (broadcast ⟨2, ![n, 1]⟩ (Scalar.ofBits .f32 0x2B8CBCCC#32))) h3) = unitRows x := by
  funext y
  obtain ⟨r, c, rfl⟩ : ∃ (r : Fin n) (c : Fin 256), y = ix2 r c := ⟨y 0, y 1, ValueIdx.eq_ix2 y⟩
  refine congrArg (Ideal.div (x (ix2 r c))) ?_
  refine (broadcastTo_apply _ h3 (ix2 r c) (ix2 (n0 := n) (n1 := 1) r 0) ?_).trans ?_
  · intro a
    match a with
    | ⟨0, _⟩ => show r.val = if n = 1 then 0 else r.val; have := r.isLt; split <;> omega
    | ⟨1, _⟩ => rfl
  refine congrArg (fun s => max (Ideal.sqrt s) (Ideal.ofBits .f32 0x2B8CBCCC#32)) ?_
  refine (shapeCast_apply _ h2 (ix2 (n0 := n) (n1 := 1) r 0) (ix1 r) ?_).trans ?_
  · rw [Shape.rowMajor_val_one, Shape.rowMajor_val_two]
    show r.val = r.val * 1 + 0
    omega
  exact Ideal.reduceAdd_r2_a1 h1 (mulf x x) (ix1 r)

end Cert.Proof.Rows

end
-- ==== Proof.NormValue.lean ====
/-
  The queries' normalisation: the array the kernel leaves is the queries with their rows scaled to unit length, which is
  what the reference computes.
-/
module

public import proofs.«01_k».proof.Proof.UnitRows
public import proofs.«01_k».proof.Proof.Gen.NormalizeIdeal.Value
public import proofs.«01_k».proof.Proof.Gen.NormalizeReferenceIdeal.Run

@[expose] public section

set_option maxRecDepth 16384

noncomputable section

namespace Cert.Proof.Norm

open Cert.NormalizeIdeal Cert.NormalizeIdeal.Gen Cert.Proof.Rows

open Idealize.ShloMosaic hiding ix1 ix2 ix3
open Idealize.ShloMosaic.TcCoe
open Idealize.ShloMosaic.ValueIdx
open Idealize.SL.Sem

/-- The whole-block rectangle sends an index to itself. -/
theorem emb_whole (y : S512x256.Idx) : r0_0.emb y = y := funext fun a => Fin.ext (by
  rw [Rect.emb_apply]
  match a with
  | ⟨0, _⟩ => show 0 + 1 * (y ⟨0, _⟩).val = _; omega
  | ⟨1, _⟩ => show 0 + 1 * (y ⟨1, _⟩).val = _; omega)

/-- One block of 512 rows: its rows scaled to unit length. -/
theorem block_eq (x : Vec Ideal S512x256 .f32) : out0_1 x = unitRows x := by
  have hx : View.ld x r0_0 = x := funext fun y => congrArg x (emb_whole y)
  unfold out0_1
  rw [hx]
  refine Eq.trans (funext fun y => ?_) (kernel_eq x reduces_S512x256_S512 (.inl rfl) rfl shapeCasts_S512_S512x1 broadcasts_S512x1_S512x256)
  have h := View.canon_cons_emb (Val := Elt Ideal) (e := .f32) r0_0 (k0_pay1 x) [] y
  rw [emb_whole y] at h
  exact h

/-- Every grid point's block is its 512 rows, and is written back. -/
theorem points : ∀ t : Fin cfg0.N, (cfg0.win 1).flush t = true ∧ win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_1.flush t = true ∧ win0_0.index t (0 : Fin 2) = t.val ∧ win0_0.index t (1 : Fin 2) = 0
    ∧ win0_1.index t (0 : Fin 2) = t.val ∧ win0_1.index t (1 : Fin 2) = 0)

variable (m : (ℓ : Loc nD τ sig) → Buf (Elt Ideal) ℓ)

/-- The result: the queries with their rows scaled to unit length. -/
def result (c : Dev nD) : Buf (Elt Ideal) ((c : Thread nD τ).loc main_v0) := unitRows (n := 4096) (m ((c : Thread nD τ).loc main_arg0))

theorem flushed_eq (c : Dev nD) (t : Fin cfg0.N) : (dats m 0 c).flushed 1 t = ((cfg0.win 1).blk t).view.read (Elt Ideal) (result m c) := by
  rw [Value.flushed1, block_eq]
  obtain ⟨-, a0, a1, b0, b1⟩ := points t
  funext y
  have hy0 : (y 0).val < 512 := (y 0).isLt
  have ht : t.val < 8 := lt_of_lt_of_eq t.isLt N_0
  show unitRows (n := 512) (iblk m c 0 t) ((cfg0.win 1).xinj (grid0.coords t) y) = unitRows (n := 4096) (m ((c : Thread nD τ).loc main_arg0)) (((cfg0.win 1).blk t).view.emb y)
  have e1 : (cfg0.win 1).xinj (grid0.coords t) y = ix2 (n0 := 512) (n1 := 256) (y 0) (y 1) := by
    funext a; apply Fin.ext
    match a with
    | ⟨0, _⟩ => rfl
    | ⟨1, _⟩ => rfl
  have e2 : ((cfg0.win 1).blk t).view.emb y = ix2 (n0 := 4096) (n1 := 256) ⟨512 * t.val + (y 0).val, by omega⟩ (y 1) := by
    funext a; apply Fin.ext
    match a with
    | ⟨0, _⟩ => show win0_1.index t (0 : Fin 2) * 512 + 1 * (y 0).val = 512 * t.val + (y 0).val; omega
    | ⟨1, _⟩ => show win0_1.index t (1 : Fin 2) * 256 + 1 * (y 1).val = (y 1).val; omega
  rw [e1, e2]
  refine unitRows_congr _ _ _ _ (fun k => ?_) _
  show V m c main_arg0 (((cfg0.win 0).blk t).view.emb (ix2 (n0 := 512) (n1 := 256) (y 0) k)) = _
  rw [V_main_arg0]
  refine congrArg (m ((c : Thread nD τ).loc main_arg0)) (funext fun a => Fin.ext ?_)
  match a with
  | ⟨0, _⟩ => show win0_0.index t (0 : Fin 2) * 512 + 1 * (y 0).val = 512 * t.val + (y 0).val; omega
  | ⟨1, _⟩ => show win0_0.index t (1 : Fin 2) * 256 + 1 * k.val = k.val; omega

theorem covered (i : S4096x256.Idx) : ∃ t : Fin cfg0.N, (cfg0.win 1).flush t = true ∧ i ∈ ((cfg0.win 1).blk t).view.set := by
  have h0 : (i 0).val < 4096 := (i 0).isLt
  have h1 : (i 1).val < 256 := (i 1).isLt
  let t : Fin cfg0.N := ⟨(i 0).val / 512, lt_of_lt_of_eq (by omega) N_0.symm⟩
  obtain ⟨hf, -, -, b0, b1⟩ := points t
  refine ⟨t, hf, ?_⟩
  show i ∈ ((View.whole main_v0).slice (win0_1.rect t)).set
  rw [View.set_slice_whole, Rect.mem_set_unit]
  intro a
  have b0' : win0_1.index t (0 : Fin 2) = (i 0).val / 512 := b0
  match a with
  | ⟨0, _⟩ => show win0_1.index t (0 : Fin 2) * 512 ≤ (i 0).val ∧ (i 0).val < win0_1.index t (0 : Fin 2) * 512 + 512; omega
  | ⟨1, _⟩ => show win0_1.index t (1 : Fin 2) * 256 ≤ (i 1).val ∧ (i 1).val < win0_1.index t (1 : Fin 2) * 256 + 256; omega

/-- The kernel's run: its result array holds the normalised queries, its argument is as launched. -/
theorem run_value (ρ : Dev nD → PrngReg) : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0) :=
  (θ_run defs _ _).mono (fun _ h c => ⟨(h c).1.trans ((dats m 0 c).arrAt_eq_of_cover 1 _ (fun t _ => flushed_eq m c t) covered), (h c).2⟩)
    (Value.run_blocks m ρ)

end Cert.Proof.Norm

end
-- ==== Proof.SimCases.lean ====
/-
  What the similarity kernel leaves at one grid point, in each of its four cases, as its own pure terms of the blocks it
  was given: the similarities, the largest of each chunk of 128, and the normalised key block that it keeps.
-/
module

public import proofs.«01_k».proof.Proof.Gen.SimilarityIdeal.Value
public import Idealize.ShloMosaic.Lib.Pipeline.Value

@[expose] public section

set_option maxRecDepth 16384

noncomputable section

namespace Cert.Proof.Sim

open Cert.SimilarityIdeal Cert.SimilarityIdeal.Gen
open Idealize.ShloMosaic
open Idealize.ShloMosaic.TcCoe
open Idealize.SL.Sem

variable {F : FTy → Type} [FloatOps F]

private theorem z2 : (![0, 0] : Fin 2 → Nat) = fun _ => 0 := funext fun a => by fin_cases a <;> rfl
private theorem z3 : (![0, 0, 0] : Fin 3 → Nat) = fun _ => 0 := funext fun a => by fin_cases a <;> rfl

theorem out_A_2 (c : Dev nD) (i : grid0.Coords) (a2 : Memref sig .tc .vmem S256x256 .f32) (h2 : a2.IsWhole) (a3 : Memref sig .tc .vmem S2048x256 .f32) (h3 : a3.IsWhole)
    (a4 : Memref sig .tc .vmem S256x2048 .f32) (h4 : a4.IsWhole) (a5 : Memref sig .tc .vmem S1x256x16 .f32) (h5 : a5.IsWhole)
    (a6 : Memref sig .tc .vmem S2048x256 .f32) (h6 : a6.IsWhole) (hc0 : cond0_0 i) (hc1 : cond0_1 i) (hc2 : ¬cond0_2 i)
    (x0 : Vec F S256x256 .f32) (x1 : Vec F S2048x256 .f32) :
    out0_A_2 c i a2 h2 a3 h3 a4 h4 a5 h5 a6 h6 hc0 hc1 hc2 x0 x1 = k0_pay2 x0 (k0_pay1 x1) := by
  unfold out0_A_2
  rw [View.read_writes_eq_canon _ _ _ (cover0_A_2 c i a2 h2 a3 h3 a4 h4 a5 h5 a6 h6 hc0 hc1 hc2 x0 x1)]
  unfold kernelRun0_A
  dsimp only
  sl_unfold_words
  rw [View.canon_unit_zero z2]
  rw [View.readCov_unit_zero (S := S2048x256) _ z2]
  simp only [View.readAt_eq_ld, h2.read_unread, h3.read_unread, View.ld_unit_zero (S := S256x256) z2,
    View.ld_unit_zero (S := S2048x256) z2, shapeCast_self]

theorem out_A_3 (c : Dev nD) (i : grid0.Coords) (a2 : Memref sig .tc .vmem S256x256 .f32) (h2 : a2.IsWhole) (a3 : Memref sig .tc .vmem S2048x256 .f32) (h3 : a3.IsWhole)
    (a4 : Memref sig .tc .vmem S256x2048 .f32) (h4 : a4.IsWhole) (a5 : Memref sig .tc .vmem S1x256x16 .f32) (h5 : a5.IsWhole)
    (a6 : Memref sig .tc .vmem S2048x256 .f32) (h6 : a6.IsWhole) (hc0 : cond0_0 i) (hc1 : cond0_1 i) (hc2 : ¬cond0_2 i)
    (x0 : Vec F S256x256 .f32) (x1 : Vec F S2048x256 .f32) :
    out0_A_3 c i a2 h2 a3 h3 a4 h4 a5 h5 a6 h6 hc0 hc1 hc2 x0 x1 = k0_pay3 x0 (k0_pay1 x1) := by
  unfold out0_A_3
  rw [View.read_writes_eq_canon _ _ _ (cover0_A_3 c i a2 h2 a3 h3 a4 h4 a5 h5 a6 h6 hc0 hc1 hc2 x0 x1)]
  unfold kernelRun0_A
  dsimp only
  sl_unfold_words
  rw [View.canon_unit_zero z3]
  rw [View.readCov_unit_zero (S := S2048x256) _ z2]
  simp only [View.readAt_eq_ld, h2.read_unread, h3.read_unread, View.ld_unit_zero (S := S256x256) z2,
    View.ld_unit_zero (S := S2048x256) z2, shapeCast_self]

theorem sout_A (c : Dev nD) (i : grid0.Coords) (a2 : Memref sig .tc .vmem S256x256 .f32) (h2 : a2.IsWhole) (a3 : Memref sig .tc .vmem S2048x256 .f32) (h3 : a3.IsWhole)
    (a4 : Memref sig .tc .vmem S256x2048 .f32) (h4 : a4.IsWhole) (a5 : Memref sig .tc .vmem S1x256x16 .f32) (h5 : a5.IsWhole)
    (a6 : Memref sig .tc .vmem S2048x256 .f32) (h6 : a6.IsWhole) (hc0 : cond0_0 i) (hc1 : cond0_1 i) (hc2 : ¬cond0_2 i)
    (x0 : Vec F S256x256 .f32) (x1 : Vec F S2048x256 .f32) :
    sout0_A_0 c i a2 h2 a3 h3 a4 h4 a5 h5 a6 h6 hc0 hc1 hc2 x0 x1 = k0_pay1 x1 := by
  unfold sout0_A_0
  rw [View.read_writes_eq_canon _ _ _ (scover0_A_0 c i a2 h2 a3 h3 a4 h4 a5 h5 a6 h6 hc0 hc1 hc2 x0 x1)]
  unfold kernelRun0_A
  dsimp only
  sl_unfold_words
  rw [View.canon_unit_zero z2]
  simp only [View.readAt_eq_ld, h3.read_unread, View.ld_unit_zero (S := S2048x256) z2, shapeCast_self]

theorem out_B_2 (c : Dev nD) (i : grid0.Coords) (a2 : Memref sig .tc .vmem S256x256 .f32) (h2 : a2.IsWhole) (a3 : Memref sig .tc .vmem S2048x256 .f32) (h3 : a3.IsWhole)
    (a4 : Memref sig .tc .vmem S256x2048 .f32) (h4 : a4.IsWhole) (a5 : Memref sig .tc .vmem S1x256x16 .f32) (h5 : a5.IsWhole)
    (a6 : Memref sig .tc .vmem S2048x256 .f32) (h6 : a6.IsWhole) (hc0 : ¬cond0_0 i) (hc1 : cond0_1 i) (hc2 : ¬cond0_2 i)
    (x0 : Vec F S256x256 .f32) (x1 : Vec F S2048x256 .f32) (xs : Vec F S2048x256 .f32) :
    out0_B_2 c i a2 h2 a3 h3 a4 h4 a5 h5 a6 h6 hc0 hc1 hc2 x0 x1 xs = k0_pay2 x0 xs := by
  unfold out0_B_2
  rw [View.read_writes_eq_canon _ _ _ (cover0_B_2 c i a2 h2 a3 h3 a4 h4 a5 h5 a6 h6 hc0 hc1 hc2 x0 x1 xs)]
  unfold kernelRun0_B
  dsimp only
  sl_unfold_words
  rw [View.canon_unit_zero z2]
  simp only [View.readAt_eq_ld, h2.read_unread, h6.read_unread, View.ld_unit_zero (S := S256x256) z2,
    View.ld_unit_zero (S := S2048x256) z2, shapeCast_self]

theorem out_B_3 (c : Dev nD) (i : grid0.Coords) (a2 : Memref sig .tc .vmem S256x256 .f32) (h2 : a2.IsWhole) (a3 : Memref sig .tc .vmem S2048x256 .f32) (h3 : a3.IsWhole)
    (a4 : Memref sig .tc .vmem S256x2048 .f32) (h4 : a4.IsWhole) (a5 : Memref sig .tc .vmem S1x256x16 .f32) (h5 : a5.IsWhole)
    (a6 : Memref sig .tc .vmem S2048x256 .f32) (h6 : a6.IsWhole) (hc0 : ¬cond0_0 i) (hc1 : cond0_1 i) (hc2 : ¬cond0_2 i)
    (x0 : Vec F S256x256 .f32) (x1 : Vec F S2048x256 .f32) (xs : Vec F S2048x256 .f32) :
    out0_B_3 c i a2 h2 a3 h3 a4 h4 a5 h5 a6 h6 hc0 hc1 hc2 x0 x1 xs = k0_pay3 x0 xs := by
  unfold out0_B_3
  rw [View.read_writes_eq_canon _ _ _ (cover0_B_3 c i a2 h2 a3 h3 a4 h4 a5 h5 a6 h6 hc0 hc1 hc2 x0 x1 xs)]
  unfold kernelRun0_B
  dsimp only
  sl_unfold_words
  rw [View.canon_unit_zero z3]
  simp only [View.readAt_eq_ld, h2.read_unread, h6.read_unread, View.ld_unit_zero (S := S256x256) z2,
    View.ld_unit_zero (S := S2048x256) z2, shapeCast_self]

theorem out_C_2 (c : Dev nD) (i : grid0.Coords) (a2 : Memref sig .tc .vmem S256x256 .f32) (h2 : a2.IsWhole) (a3 : Memref sig .tc .vmem S2048x256 .f32) (h3 : a3.IsWhole)
    (a4 : Memref sig .tc .vmem S256x2048 .f32) (h4 : a4.IsWhole) (a5 : Memref sig .tc .vmem S1x256x16 .f32) (h5 : a5.IsWhole)
    (a6 : Memref sig .tc .vmem S2048x256 .f32) (h6 : a6.IsWhole) (hc0 : cond0_0 i) (hc1 : ¬cond0_1 i) (hc2 : cond0_2 i)
    (x0 : Vec F S256x256 .f32) (x1 : Vec F S2048x256 .f32) :
    out0_C_2 c i a2 h2 a3 h3 a4 h4 a5 h5 a6 h6 hc0 hc1 hc2 x0 x1 = k0_pay4 i x0 (k0_pay1 x1) := by
  unfold out0_C_2
  rw [View.read_writes_eq_canon _ _ _ (cover0_C_2 c i a2 h2 a3 h3 a4 h4 a5 h5 a6 h6 hc0 hc1 hc2 x0 x1)]
  unfold kernelRun0_C
  dsimp only
  sl_unfold_words
  rw [View.canon_unit_zero z2]
  rw [View.readCov_unit_zero (S := S2048x256) _ z2]
  simp only [View.readAt_eq_ld, h2.read_unread, h3.read_unread, View.ld_unit_zero (S := S256x256) z2,
    View.ld_unit_zero (S := S2048x256) z2, shapeCast_self]

theorem out_C_3 (c : Dev nD) (i : grid0.Coords) (a2 : Memref sig .tc .vmem S256x256 .f32) (h2 : a2.IsWhole) (a3 : Memref sig .tc .vmem S2048x256 .f32) (h3 : a3.IsWhole)
    (a4 : Memref sig .tc .vmem S256x2048 .f32) (h4 : a4.IsWhole) (a5 : Memref sig .tc .vmem S1x256x16 .f32) (h5 : a5.IsWhole)
    (a6 : Memref sig .tc .vmem S2048x256 .f32) (h6 : a6.IsWhole) (hc0 : cond0_0 i) (hc1 : ¬cond0_1 i) (hc2 : cond0_2 i)
    (x0 : Vec F S256x256 .f32) (x1 : Vec F S2048x256 .f32) :
    out0_C_3 c i a2 h2 a3 h3 a4 h4 a5 h5 a6 h6 hc0 hc1 hc2 x0 x1 = k0_pay5 i x0 (k0_pay1 x1) := by
  unfold out0_C_3
  rw [View.read_writes_eq_canon _ _ _ (cover0_C_3 c i a2 h2 a3 h3 a4 h4 a5 h5 a6 h6 hc0 hc1 hc2 x0 x1)]
  unfold kernelRun0_C
  dsimp only
  sl_unfold_words
  rw [View.canon_unit_zero z3]
  rw [View.readCov_unit_zero (S := S2048x256) _ z2]
  simp only [View.readAt_eq_ld, h2.read_unread, h3.read_unread, View.ld_unit_zero (S := S256x256) z2,
    View.ld_unit_zero (S := S2048x256) z2, shapeCast_self]

theorem sout_C (c : Dev nD) (i : grid0.Coords) (a2 : Memref sig .tc .vmem S256x256 .f32) (h2 : a2.IsWhole) (a3 : Memref sig .tc .vmem S2048x256 .f32) (h3 : a3.IsWhole)
    (a4 : Memref sig .tc .vmem S256x2048 .f32) (h4 : a4.IsWhole) (a5 : Memref sig .tc .vmem S1x256x16 .f32) (h5 : a5.IsWhole)
    (a6 : Memref sig .tc .vmem S2048x256 .f32) (h6 : a6.IsWhole) (hc0 : cond0_0 i) (hc1 : ¬cond0_1 i) (hc2 : cond0_2 i)
    (x0 : Vec F S256x256 .f32) (x1 : Vec F S2048x256 .f32) :
    sout0_C_0 c i a2 h2 a3 h3 a4 h4 a5 h5 a6 h6 hc0 hc1 hc2 x0 x1 = k0_pay1 x1 := by
  unfold sout0_C_0
  rw [View.read_writes_eq_canon _ _ _ (scover0_C_0 c i a2 h2 a3 h3 a4 h4 a5 h5 a6 h6 hc0 hc1 hc2 x0 x1)]
  unfold kernelRun0_C
  dsimp only
  sl_unfold_words
  rw [View.canon_unit_zero z2]
  simp only [View.readAt_eq_ld, h3.read_unread, View.ld_unit_zero (S := S2048x256) z2, shapeCast_self]

theorem out_D_2 (c : Dev nD) (i : grid0.Coords) (a2 : Memref sig .tc .vmem S256x256 .f32) (h2 : a2.IsWhole) (a3 : Memref sig .tc .vmem S2048x256 .f32) (h3 : a3.IsWhole)
    (a4 : Memref sig .tc .vmem S256x2048 .f32) (h4 : a4.IsWhole) (a5 : Memref sig .tc .vmem S1x256x16 .f32) (h5 : a5.IsWhole)
    (a6 : Memref sig .tc .vmem S2048x256 .f32) (h6 : a6.IsWhole) (hc0 : ¬cond0_0 i) (hc1 : ¬cond0_1 i) (hc2 : cond0_2 i)
    (x0 : Vec F S256x256 .f32) (x1 : Vec F S2048x256 .f32) (xs : Vec F S2048x256 .f32) :
    out0_D_2 c i a2 h2 a3 h3 a4 h4 a5 h5 a6 h6 hc0 hc1 hc2 x0 x1 xs = k0_pay4 i x0 xs := by
  unfold out0_D_2
  rw [View.read_writes_eq_canon _ _ _ (cover0_D_2 c i a2 h2 a3 h3 a4 h4 a5 h5 a6 h6 hc0 hc1 hc2 x0 x1 xs)]
  unfold kernelRun0_D
  dsimp only
  sl_unfold_words
  rw [View.canon_unit_zero z2]
  simp only [View.readAt_eq_ld, h2.read_unread, h6.read_unread, View.ld_unit_zero (S := S256x256) z2,
    View.ld_unit_zero (S := S2048x256) z2, shapeCast_self]

theorem out_D_3 (c : Dev nD) (i : grid0.Coords) (a2 : Memref sig .tc .vmem S256x256 .f32) (h2 : a2.IsWhole) (a3 : Memref sig .tc .vmem S2048x256 .f32) (h3 : a3.IsWhole)
    (a4 : Memref sig .tc .vmem S256x2048 .f32) (h4 : a4.IsWhole) (a5 : Memref sig .tc .vmem S1x256x16 .f32) (h5 : a5.IsWhole)
    (a6 : Memref sig .tc .vmem S2048x256 .f32) (h6 : a6.IsWhole) (hc0 : ¬cond0_0 i) (hc1 : ¬cond0_1 i) (hc2 : cond0_2 i)
    (x0 : Vec F S256x256 .f32) (x1 : Vec F S2048x256 .f32) (xs : Vec F S2048x256 .f32) :
    out0_D_3 c i a2 h2 a3 h3 a4 h4 a5 h5 a6 h6 hc0 hc1 hc2 x0 x1 xs = k0_pay5 i x0 xs := by
  unfold out0_D_3
  rw [View.read_writes_eq_canon _ _ _ (cover0_D_3 c i a2 h2 a3 h3 a4 h4 a5 h5 a6 h6 hc0 hc1 hc2 x0 x1 xs)]
  unfold kernelRun0_D
  dsimp only
  sl_unfold_words
  rw [View.canon_unit_zero z3]
  simp only [View.readAt_eq_ld, h2.read_unread, h6.read_unread, View.ld_unit_zero (S := S256x256) z2,
    View.ld_unit_zero (S := S2048x256) z2, shapeCast_self]

end Cert.Proof.Sim

end
-- ==== Proof.SimSpec.lean ====
/-
  The similarities, at exact numbers: each query row against each key row scaled to unit length, the columns past the
  keys filled with a large negative constant; and the largest of each chunk of 128 columns. The kernel's operations on
  one block and the host's on the whole arrays both compute them.
-/
module

public import proofs.«01_k».proof.Proof.UnitRows
public import proofs.«01_k».proof.Proof.Gen.SimilarityIdeal.Value
public import proofs.«01_k».proof.Proof.Gen.SimilarityReferenceIdeal.Run
public import Idealize.ShloMosaic.Lib.MatmulPlain
public import Idealize.ShloMosaic.Lib.StackMember
public import Idealize.ShloMosaic.Lib.Pipeline.Value

@[expose] public section

set_option maxRecDepth 16384

noncomputable section

namespace Cert.Proof.Sim

open Cert.Proof.Rows
open Idealize.ShloMosaic hiding ix1 ix2 ix3
open Idealize.ShloMosaic.ValueIdx

/-- The constant that fills the columns past the keys. -/
abbrev fill : Ideal .f32 := Ideal.ofBits .f32 0xF149F2CA#32

/-- The value the chunks' maxima start from. -/
abbrev low : Ideal .f32 := Ideal.ofBits .f32 0xFF800000#32

/-- The similarities of the queries `q` with the keys `k`, the columns past the keys filled. -/
def sims (q : FVec Ideal (M 4096) .f32) (k : FVec Ideal (M 100000) .f32) : FVec Ideal (⟨2, ![4096, 100352]⟩ : Shape) .f32 := fun y =>
  if h : (y 1).val < 100000 then ∑ l : Fin 256, (q (ix2 (y 0) l) * unitRows k (ix2 (n0 := 100000) (n1 := 256) ⟨(y 1).val, h⟩ l) : EReal) else fill

/-- The largest of each chunk of 128 columns of `s`: block of 16 chunks, row, chunk in the block. -/
def maxes (s : FVec Ideal (⟨2, ![4096, 100352]⟩ : Shape) .f32) : FVec Ideal (⟨3, ![49, 4096, 16]⟩ : Shape) .f32 := fun y =>
  (Finset.univ : Finset (Fin 128)).fold max low fun l => s (ix2 (n0 := 4096) (n1 := 100352) (y 1)
    ⟨2048 * (y 0).val + 128 * (y 2).val + l.val, by
      have h0 : (y 0).val < 49 := (y 0).isLt
      have h2 : (y 2).val < 16 := (y 2).isLt
      have := l.isLt; omega⟩)

/-! ## One block -/

/-- The similarities of a block of 256 rows with key block `j`, whose normalised rows are `kn`. -/
def blkSims (j : ℕ) (x : FVec Ideal (M 256) .f32) (kn : FVec Ideal (M 2048) .f32) : FVec Ideal (⟨2, ![256, 2048]⟩ : Shape) .f32 := fun y =>
  if 2048 * j + (y 1).val < 100000 then ∑ l : Fin 256, (x (ix2 (y 0) l) * kn (ix2 (y 1) l) : EReal) else fill

/-- The largest of each chunk of 128 columns of a block. -/
def blkMaxes (s : FVec Ideal (⟨2, ![256, 2048]⟩ : Shape) .f32) : FVec Ideal (⟨3, ![1, 256, 16]⟩ : Shape) .f32 := fun y =>
  (Finset.univ : Finset (Fin 128)).fold max low fun l => s (ix2 (n0 := 256) (n1 := 2048) (y 1)
    ⟨128 * (y 2).val + l.val, by
      have h2 : (y 2).val < 16 := (y 2).isLt
      have := l.isLt; omega⟩)

section Kernel
open Cert.SimilarityIdeal Cert.SimilarityIdeal.Gen

/-- The kernel's normalisation of a key block. -/
theorem pay1_eq (x : Vec Ideal S2048x256 .f32) : k0_pay1 x = unitRows (n := 2048) x := by
  unfold k0_pay1
  dsimp only
  rw [shapeCast_self, shapeCast_self]
  exact kernel_eq x reduces_S2048x256_S2048 (.inl rfl) rfl shapeCasts_S2048_S2048x1 broadcasts_S2048x1_S2048x256

/-- The kernel's products of a block's rows with a normalised key block's rows. -/
theorem pay2_apply (x : Vec Ideal S256x256 .f32) (kn : Vec Ideal S2048x256 .f32) (y : S256x2048.Idx) :
    k0_pay2 x kn y = ∑ l : Fin 256, (x (ix2 (n0 := 256) (n1 := 256) (y 0) l) * kn (ix2 (n0 := 2048) (n1 := 256) (y 1) l) : EReal) := by
  obtain ⟨r, c, rfl⟩ : ∃ (r : Fin 256) (c : Fin 2048), y = ix2 r c := ⟨y 0, y 1, ValueIdx.eq_ix2 y⟩
  refine (Ideal.matmul_transposedRhs_apply (M := 256) (K := 256) (N := 2048) none x kn (constant S256x2048 .f32 0x00000000#32) r c).trans ?_
  exact (congrArg₂ (· + ·) Ideal.ofBits_zero_f32 rfl).trans (zero_add _)

/-- Before the last key block no column is past the keys. -/
theorem pay2_eq (j : ℕ) (hj : j < 48) (x : Vec Ideal S256x256 .f32) (kn : Vec Ideal S2048x256 .f32) : k0_pay2 x kn = blkSims j x kn := by
  funext y
  have h1 : (y 1).val < 2048 := (y 1).isLt
  unfold blkSims
  rw [if_pos (by omega)]
  exact pay2_apply x kn y

/-- The kernel's comparison of a column with the number of keys. -/
theorem slt_keys (j c : ℕ) (hj : j < 49) (hc : c < 2048) :
    IntOp.cmpi .slt (BitVec.ofNat 32 j * 2048#32 + BitVec.ofNat 32 c) 100000#32 = if 2048 * j + c < 100000 then 1#1 else 0#1 := by
  have e : BitVec.ofNat 32 j * 2048#32 + BitVec.ofNat 32 c = BitVec.ofNat 32 (2048 * j + c) := by
    apply BitVec.eq_of_toNat_eq
    simp only [BitVec.toNat_add, BitVec.toNat_mul, BitVec.toNat_ofNat]
    omega
  rw [e]
  have hs : (BitVec.ofNat 32 (2048 * j + c)).slt 100000#32 = decide (2048 * j + c < 100000) := by
    rw [BitVec.slt_eq_decide, BitVec.toInt_eq_toNat_of_lt (by rw [BitVec.toNat_ofNat]; omega), BitVec.toInt_eq_toNat_of_lt (by decide)]
    rw [BitVec.toNat_ofNat, Nat.mod_eq_of_lt (by omega)]
    refine decide_eq_decide.mpr ?_
    show ((2048 * j + c : ℕ) : ℤ) < ((100000 : ℕ) : ℤ) ↔ _
    omega
  show BitVec.ofBool ((BitVec.ofNat 32 (2048 * j + c)).slt 100000#32) = _
  rw [hs]
  by_cases h : 2048 * j + c < 100000 <;> simp [h]

/-- The kernel's similarities with the columns past the keys filled. -/
theorem pay4_eq (i : grid0.Coords) (x : Vec Ideal S256x256 .f32) (kn : Vec Ideal S2048x256 .f32) : k0_pay4 i x kn = blkSims (i 0).val x kn := by
  funext y
  have h1 : (y 1).val < 2048 := (y 1).isLt
  have h0 : (i 0).val < 49 := (i 0).isLt
  have hm : IntOp.cmpi .slt (BitVec.ofNat 32 (i 0).val * 2048#32 + iota .tc S256x2048 32 [1] iota_S256x2048_d1_w32 y) 100000#32
      = if 2048 * (i 0).val + (y 1).val < 100000 then 1#1 else 0#1 := by
    rw [iota_single_apply]
    exact slt_keys _ _ h0 h1
  show (if IntOp.cmpi .slt (BitVec.ofNat 32 (i 0).val * 2048#32 + iota .tc S256x2048 32 [1] iota_S256x2048_d1_w32 y) 100000#32 = 1#1
    then k0_pay2 x kn y else fill) = _
  rw [hm, pay2_apply]
  unfold blkSims
  by_cases h : 2048 * (i 0).val + (y 1).val < 100000
  · rw [if_pos h, if_pos h, if_pos rfl]
  · rw [if_neg h, if_neg h, if_neg (by decide)]

/-- The kernel's maxima of the chunks of a block. -/
theorem max_eq (s : FVec Ideal S256x2048 .f32) :
    shapeCast S1x256x16 (multiReduction .maximumf [2] S256x16 (shapeCast S256x16x128 s shapeCasts_S256x2048_S256x16x128) 0xFF800000#32
      reduces_S256x16x128_S256x16 (.inl rfl) rfl) shapeCasts_S256x16_S1x256x16 = blkMaxes s := by
  funext y
  have h0 : (y 0).val < 1 := (y 0).isLt
  have h1 : (y 1).val < 256 := (y 1).isLt
  have h2 : (y 2).val < 16 := (y 2).isLt
  refine (shapeCast_apply _ _ y (ix2 (n0 := 256) (n1 := 16) (y 1) (y 2)) ?_).trans ?_
  · rw [Shape.rowMajor_val_two, Shape.rowMajor_val_three]
    show (y 1).val * 16 + (y 2).val = ((y 0).val * 256 + (y 1).val) * 16 + (y 2).val
    omega
  refine (multiReduction_maximumf_eq_fold (F := Ideal) (φ := .f32) (shapeCast S256x16x128 s shapeCasts_S256x2048_S256x16x128) 0xFF800000#32
    reduces_S256x16x128_S256x16 (.inl rfl) rfl (ix2 (n0 := 256) (n1 := 16) (y 1) (y 2))).trans ?_
  refine (Shape.Reduces.fold_fiber_r3_a2 (n0 := 256) (n1 := 16) (n2 := 128) reduces_S256x16x128_S256x16 (ix2 (n0 := 256) (n1 := 16) (y 1) (y 2)) _ _ _).trans ?_
  refine Finset.fold_congr fun l _ => ?_
  have hl := l.isLt
  refine shapeCast_apply _ _ _ _ ?_
  rw [Shape.rowMajor_val_two, Shape.rowMajor_val_three]
  show (y 1).val * 2048 + (128 * (y 2).val + l.val) = ((y 1).val * 16 + (y 2).val) * 128 + l.val
  omega

theorem pay3_eq (x : Vec Ideal S256x256 .f32) (kn : Vec Ideal S2048x256 .f32) : k0_pay3 x kn = blkMaxes (k0_pay2 x kn) := max_eq _

theorem pay5_eq (i : grid0.Coords) (x : Vec Ideal S256x256 .f32) (kn : Vec Ideal S2048x256 .f32) : k0_pay5 i x kn = blkMaxes (k0_pay4 i x kn) := max_eq _

end Kernel

section Host
open Cert.SimilarityReferenceIdeal Cert.SimilarityReferenceIdeal.Gen

/-- The reference's similarities, of the normalised keys `kn`. -/
theorem host_sims (q : FVec Ideal S4096x256 .f32) (k : FVec Ideal S100000x256 .f32) :
    pad S4096x100352 ![0, 0] ![0, 352] ![0, 0] (Host.dotGeneral dot_S4096x256_S256x100000_S4096x100000_1_0_0_1_n_n none q
      (transpose S256x100000 [1, 0] (unitRows (n := 100000) k) transposes_S100000x256_S256x100000_1_0)) (id (constant S_ .f32 0xF149F2CA#32))
      pads_S4096x100000_S4096x100352_000_03520 h_S_ = sims q k := by
  funext y
  obtain ⟨r, c, rfl⟩ : ∃ (r : Fin 4096) (c : Fin 100352), y = ix2 r c := ⟨y 0, y 1, ValueIdx.eq_ix2 y⟩
  unfold sims
  by_cases h : c.val < 100000
  · rw [dif_pos (show (ix2 r c 1).val < 100000 from h)]
    refine (pad_apply_of_inside _ _ _ _ _ _ _ _ (ix2 (n0 := 4096) (n1 := 100000) r ⟨c.val, h⟩) ?_).trans ?_
    · intro a
      match a with
      | ⟨0, _⟩ => show r.val = 0 + r.val * (0 + 1); omega
      | ⟨1, _⟩ => show c.val = 0 + c.val * (0 + 1); omega
    refine (StackMember.dotGeneral_plain_apply (m := 4096) (n := 100000) (k := 256) none _ _ r ⟨c.val, h⟩).trans ?_
    refine Finset.sum_congr rfl fun l _ => congrArg (q (ix2 r l) * ·) ?_
    refine transpose_apply _ _ _ _ _ ?_
    intro b
    match b with
    | ⟨0, _⟩ => rfl
    | ⟨1, _⟩ => rfl
  · rw [dif_neg (show ¬(ix2 r c 1).val < 100000 from h)]
    refine (pad_apply_of_not_inside _ _ _ _ _ _ _ _ (1 : Fin 2) ?_).trans rfl
    rintro ⟨-, -, h3⟩
    have h4 : (c.val - 0) / (0 + 1) < 100000 := h3
    rw [Nat.sub_zero, Nat.zero_add, Nat.div_one] at h4
    exact h h4

/-- The reference's maxima of the chunks. -/
theorem host_maxes (s : FVec Ideal S4096x100352 .f32) :
    transpose S49x4096x16 [1, 0, 2] (Host.reduce FloatOps.maximumf (shapeCast S4096x49x16x128 s shapeCasts_S4096x100352_S4096x49x16x128)
      (constant S_ .f32 0xFF800000#32) reducesTo_S4096x49x16x128_S4096x49x16_d3 h_S_) transposes_S4096x49x16_S49x4096x16_1_0_2 = maxes s := by
  funext y
  have h0 : (y 0).val < 49 := (y 0).isLt
  have h1 : (y 1).val < 4096 := (y 1).isLt
  have h2 : (y 2).val < 16 := (y 2).isLt
  refine (transpose_apply _ _ _ y (ix3 (n0 := 4096) (n1 := 49) (n2 := 16) (y 1) (y 0) (y 2)) ?_).trans ?_
  · intro b
    match b with
    | ⟨0, _⟩ => rfl
    | ⟨1, _⟩ => rfl
    | ⟨2, _⟩ => rfl
  have hr : S4096x49x16x128.Reduces [3] S4096x49x16 := by decide
  refine (congrFun (hostReduce_maximumf_eq_multiReduction (F := Ideal) (φ := .f32) (shapeCast S4096x49x16x128 s shapeCasts_S4096x100352_S4096x49x16x128)
    0xFF800000#32 reducesTo_S4096x49x16x128_S4096x49x16_d3 h_S_ hr (.inl rfl) rfl) (ix3 (n0 := 4096) (n1 := 49) (n2 := 16) (y 1) (y 0) (y 2))).trans ?_
  refine (multiReduction_maximumf_eq_fold (F := Ideal) (φ := .f32) (shapeCast S4096x49x16x128 s shapeCasts_S4096x100352_S4096x49x16x128) 0xFF800000#32
    hr (.inl rfl) rfl (ix3 (n0 := 4096) (n1 := 49) (n2 := 16) (y 1) (y 0) (y 2))).trans ?_
  refine (Shape.Reduces.fold_fiber_r4_a3 (n0 := 4096) (n1 := 49) (n2 := 16) (n3 := 128) hr _ _ _ _).trans ?_
  refine Finset.fold_congr fun l _ => ?_
  have hl := l.isLt
  refine shapeCast_apply _ _ _ _ ?_
  rw [Shape.rowMajor_val_two, Shape.rowMajor_val_four]
  show (y 1).val * 100352 + (2048 * (y 0).val + 128 * (y 2).val + l.val) = (((y 1).val * 49 + (y 0).val) * 16 + (y 2).val) * 128 + l.val
  omega

end Host

end Cert.Proof.Sim

end
-- ==== Proof.SimValue.lean ====
/-
  The similarity kernel's result arrays: the similarities of the queries with the keys scaled to unit length, and the
  largest of each chunk of 128, which is what the reference computes. A key block is normalised at the first of the 16
  points that use it and kept for the others.
-/
module

public import proofs.«01_k».proof.Proof.SimCases
public import proofs.«01_k».proof.Proof.SimSpec

@[expose] public section

set_option maxRecDepth 16384

noncomputable section

namespace Cert.Proof.Sim

open Cert.SimilarityIdeal Cert.SimilarityIdeal.Gen Cert.Proof.Rows

open Idealize.ShloMosaic hiding ix1 ix2 ix3
open Idealize.ShloMosaic.TcCoe
open Idealize.ShloMosaic.ValueIdx
open Idealize.SL.Sem

/-- Where a point's blocks are: the keys' by the first coordinate, the queries' by the second. -/
theorem points : ∀ t : Fin cfg0.N, (grid0.coords t 0).val = t.val / 16
    ∧ win0_0.index t (0 : Fin 2) = t.val % 16 ∧ win0_0.index t (1 : Fin 2) = 0
    ∧ win0_1.index t (0 : Fin 2) = t.val / 16 ∧ win0_1.index t (1 : Fin 2) = 0 :=
  (by decide +kernel : ∀ t : Fin grid0.N, (grid0.coords t 0).val = t.val / 16
    ∧ win0_0.index t (0 : Fin 2) = t.val % 16 ∧ win0_0.index t (1 : Fin 2) = 0
    ∧ win0_1.index t (0 : Fin 2) = t.val / 16 ∧ win0_1.index t (1 : Fin 2) = 0)

theorem points_out : ∀ t : Fin cfg0.N, win0_2.index t (0 : Fin 2) = t.val % 16 ∧ win0_2.index t (1 : Fin 2) = t.val / 16
    ∧ win0_3.index t (0 : Fin 3) = t.val / 16 ∧ win0_3.index t (1 : Fin 3) = t.val % 16 ∧ win0_3.index t (2 : Fin 3) = 0 :=
  (by decide +kernel : ∀ t : Fin grid0.N, win0_2.index t (0 : Fin 2) = t.val % 16 ∧ win0_2.index t (1 : Fin 2) = t.val / 16
    ∧ win0_3.index t (0 : Fin 3) = t.val / 16 ∧ win0_3.index t (1 : Fin 3) = t.val % 16 ∧ win0_3.index t (2 : Fin 3) = 0)

variable (m : (ℓ : Loc nD τ sig) → Buf (Elt Ideal) ℓ)

/-- The queries and the keys. -/
def qs (c : Dev nD) : FVec Ideal (M 4096) .f32 := m ((c : Thread nD τ).loc main_arg0)
def ks (c : Dev nD) : FVec Ideal (M 100000) .f32 := m ((c : Thread nD τ).loc main_arg1)

/-- The keys as the kernel is given them, with rows past the last. -/
def padded (c : Dev nD) : FVec Ideal (M 100352) .f32 := V m c main_v0

/-- A row of them before the end is a row of the keys. -/
theorem padded_eq (c : Dev nD) (r : Fin 100352) (h : r.val < 100000) (l : Fin 256) :
    padded m c (ix2 (n0 := 100352) (n1 := 256) r l) = ks m c (ix2 (n0 := 100000) (n1 := 256) ⟨r.val, h⟩ l) := by
  have e : (V m c main_v0 : Buf (Elt Ideal) ((c : Thread nD τ).loc main_v0)) = pad S100352x256 ![0, 0] ![352, 0] ![0, 0] (m ((c : Thread nD τ).loc main_arg1))
      (sitofp (F := Ideal) .f32 (constantI S_ 32 0#32)) pads_S100000x256_S100352x256_03520_000 h_S_ := by
    simp only [V, hostOps0, hostOps0_1, List.flatten_cons, List.flatten_nil, List.append_nil, List.cons_append, List.nil_append, StableHlo.TRef.binary, StableHlo.TRef.unary,
      StableHlo.TRef.toBuf, StableHlo.TRef.ofBuf, cast_eq]
    after_results <;> rfl
  unfold padded
  rw [e]
  refine pad_apply_of_inside _ _ _ _ _ _ _ _ (ix2 (n0 := 100000) (n1 := 256) ⟨r.val, h⟩ l) ?_
  intro a
  match a with
  | ⟨0, _⟩ => show r.val = 0 + r.val * (0 + 1); omega
  | ⟨1, _⟩ => show l.val = 0 + l.val * (0 + 1); omega

/-- Key block `j`, and its rows scaled to unit length. -/
def keyBlk (c : Dev nD) (j : ℕ) (hj : j < 49) : FVec Ideal (M 2048) .f32 := fun y =>
  padded m c (ix2 (n0 := 100352) (n1 := 256) ⟨2048 * j + (y 0).val, by have h : (y 0).val < 2048 := (y 0).isLt; omega⟩ (y 1))

theorem div_lt {n : ℕ} (h : n < cfg0.N) : n / 16 < 49 := by
  have := lt_of_lt_of_eq h (show cfg0.N = 784 from N_0)
  omega

theorem iblk1_eq (c : Dev nD) (t : Fin cfg0.N) : iblk m c 1 t = keyBlk m c (t.val / 16) (div_lt t.isLt) := by
  obtain ⟨-, -, -, b0, b1⟩ := points t
  funext y
  show V m c main_v0 (((cfg0.win 1).blk t).view.emb y) = _
  unfold keyBlk padded
  refine congrArg (V m c main_v0) (funext fun a => Fin.ext ?_)
  match a with
  | ⟨0, _⟩ => show win0_1.index t (0 : Fin 2) * 2048 + 1 * (y 0).val = 2048 * (t.val / 16) + (y 0).val; omega
  | ⟨1, _⟩ => show win0_1.index t (1 : Fin 2) * 256 + 1 * (y 1).val = (y 1).val; omega

theorem keyBlk_congr (c : Dev nD) (j j' : ℕ) (h : j < 49) (h' : j' < 49) (e : j = j') : keyBlk m c j h = keyBlk m c j' h' := by
  subst e; rfl

/-- What the outputs' blocks and the kept key block hold after a point. -/
theorem outs_eq (c : Dev nD) : ∀ (n : ℕ) (hn : n < cfg0.N), outsAt0 m c n hn
    = (blkSims (n / 16) (iblk m c 0 ⟨n, hn⟩) (unitRows (keyBlk m c (n / 16) (div_lt hn))),
       blkMaxes (blkSims (n / 16) (iblk m c 0 ⟨n, hn⟩) (unitRows (keyBlk m c (n / 16) (div_lt hn)))),
       unitRows (keyBlk m c (n / 16) (div_lt hn))) := by
  intro n
  induction n using Nat.strong_induction_on with
  | _ n ih =>
    intro hn
    have hN := lt_of_lt_of_eq hn (show cfg0.N = 784 from N_0)
    have hi := (points ⟨n, hn⟩).1
    have h2 : n < 768 → ¬768 ≤ n := fun h => by omega
    have h3 : ¬n < 768 → 768 ≤ n := fun h => by omega
    by_cases h0 : n % 16 = 0 <;> by_cases h1 : n < 768
    · rw [outsAt0_A m c ⟨n, hn⟩ h0 h1 (h2 h1), out_A_2, out_A_3, sout_A, pay1_eq, pay3_eq, pay2_eq (n / 16) (by omega), iblk1_eq]
    · rw [outsAt0_C m c ⟨n, hn⟩ h0 h1 (h3 h1), out_C_2, out_C_3, sout_C, pay1_eq, pay5_eq, pay4_eq, iblk1_eq, hi]
    · have e := ih (n - 1) (by omega) (by omega)
      have es : (outsAt0 m c (n - 1) (by omega)).2.2 = unitRows (keyBlk m c (n / 16) (div_lt hn)) := by
        rw [e, keyBlk_congr m c ((n - 1) / 16) (n / 16) _ (div_lt hn) (by omega)]
      rw [outsAt0_B m c ⟨n, hn⟩ h0 h1 (h2 h1), out_B_2, out_B_3, pay3_eq, pay2_eq (n / 16) (by omega)]
      show (_, _, (outsAt0 m c (n - 1) _).2.2) = _
      rw [es]
    · have e := ih (n - 1) (by omega) (by omega)
      have es : (outsAt0 m c (n - 1) (by omega)).2.2 = unitRows (keyBlk m c (n / 16) (div_lt hn)) := by
        rw [e, keyBlk_congr m c ((n - 1) / 16) (n / 16) _ (div_lt hn) (by omega)]
      rw [outsAt0_D m c ⟨n, hn⟩ h0 h1 (h3 h1), out_D_2, out_D_3, pay5_eq, pay4_eq, hi]
      show (_, _, (outsAt0 m c (n - 1) _).2.2) = _
      rw [es]

/-- A point's block of similarities is the block of the whole array's. -/
theorem blkSims_eq (c : Dev nD) (t : Fin cfg0.N) (r : Fin 256) (l : Fin 2048) :
    blkSims (t.val / 16) (iblk m c 0 t) (unitRows (keyBlk m c (t.val / 16) (div_lt t.isLt))) (ix2 (n0 := 256) (n1 := 2048) r l)
      = sims (qs m c) (ks m c) (ix2 (n0 := 4096) (n1 := 100352) ⟨256 * (t.val % 16) + r.val, by omega⟩
          ⟨2048 * (t.val / 16) + l.val, by have := div_lt t.isLt; omega⟩) := by
  have hd := div_lt t.isLt
  obtain ⟨-, a0, a1, -, -⟩ := points t
  unfold blkSims sims
  by_cases h : 2048 * (t.val / 16) + l.val < 100000
  · refine (if_pos (show 2048 * (t.val / 16) + l.val < 100000 from h)).trans (Eq.trans ?_ (dif_pos (show 2048 * (t.val / 16) + l.val < 100000 from h)).symm)
    refine Finset.sum_congr rfl fun k _ => congrArg₂ (fun a b : EReal => a * b) ?_ ?_
    · show V m c main_arg0 (((cfg0.win 0).blk t).view.emb (ix2 (n0 := 256) (n1 := 256) r k)) = _
      rw [V_main_arg0]
      refine congrArg (m ((c : Thread nD τ).loc main_arg0)) (funext fun a => Fin.ext ?_)
      match a with
      | ⟨0, _⟩ => show win0_0.index t (0 : Fin 2) * 256 + 1 * r.val = 256 * (t.val % 16) + r.val; omega
      | ⟨1, _⟩ => show win0_0.index t (1 : Fin 2) * 256 + 1 * k.val = k.val; omega
    · exact unitRows_congr _ _ _ _ (fun k' => padded_eq m c ⟨2048 * (t.val / 16) + l.val, by omega⟩ h k') _
  · refine (if_neg (show ¬2048 * (t.val / 16) + l.val < 100000 from h)).trans (Eq.symm ?_)
    exact dif_neg h

/-- The results. -/
def result0 (c : Dev nD) : Buf (Elt Ideal) ((c : Thread nD τ).loc main_v1_0) := sims (qs m c) (ks m c)
def result1 (c : Dev nD) : Buf (Elt Ideal) ((c : Thread nD τ).loc main_v1_1) := maxes (sims (qs m c) (ks m c))

theorem flushed2_eq (c : Dev nD) (t : Fin cfg0.N) : (dats m 0 c).flushed 2 t = ((cfg0.win 2).blk t).view.read (Elt Ideal) (result0 m c) := by
  rw [Value.flushed2, outs_eq]
  obtain ⟨b0, b1, -, -, -⟩ := points_out t
  have hd := div_lt t.isLt
  funext y
  have hy0 : (y 0).val < 256 := (y 0).isLt
  have hy1 : (y 1).val < 2048 := (y 1).isLt
  have e1 : (cfg0.win 2).xinj (grid0.coords t) y = ix2 (n0 := 256) (n1 := 2048) (y 0) (y 1) := by
    funext a; apply Fin.ext
    match a with
    | ⟨0, _⟩ => rfl
    | ⟨1, _⟩ => rfl
  have e2 : ((cfg0.win 2).blk t).view.emb y = ix2 (n0 := 4096) (n1 := 100352) ⟨256 * (t.val % 16) + (y 0).val, by omega⟩
      ⟨2048 * (t.val / 16) + (y 1).val, by omega⟩ := by
    funext a; apply Fin.ext
    match a with
    | ⟨0, _⟩ => show win0_2.index t (0 : Fin 2) * 256 + 1 * (y 0).val = 256 * (t.val % 16) + (y 0).val; omega
    | ⟨1, _⟩ => show win0_2.index t (1 : Fin 2) * 2048 + 1 * (y 1).val = 2048 * (t.val / 16) + (y 1).val; omega
  show blkSims (t.val / 16) (iblk m c 0 t) (unitRows (keyBlk m c (t.val / 16) (div_lt t.isLt))) ((cfg0.win 2).xinj (grid0.coords t) y)
    = sims (qs m c) (ks m c) (((cfg0.win 2).blk t).view.emb y)
  rw [e1, e2]
  exact blkSims_eq m c t (y 0) (y 1)

theorem flushed3_eq (c : Dev nD) (t : Fin cfg0.N) : (dats m 0 c).flushed 3 t = ((cfg0.win 3).blk t).view.read (Elt Ideal) (result1 m c) := by
  rw [Value.flushed3, outs_eq]
  obtain ⟨-, -, b0, b1, b2⟩ := points_out t
  have hd := div_lt t.isLt
  funext y
  have hy0 : (y 0).val < 1 := (y 0).isLt
  have hy1 : (y 1).val < 256 := (y 1).isLt
  have hy2 : (y 2).val < 16 := (y 2).isLt
  have e1 : (cfg0.win 3).xinj (grid0.coords t) y = ix3 (n0 := 1) (n1 := 256) (n2 := 16) (y 0) (y 1) (y 2) := by
    funext a; apply Fin.ext
    match a with
    | ⟨0, _⟩ => rfl
    | ⟨1, _⟩ => rfl
    | ⟨2, _⟩ => rfl
  have e2 : ((cfg0.win 3).blk t).view.emb y = ix3 (n0 := 49) (n1 := 4096) (n2 := 16) ⟨t.val / 16, hd⟩ ⟨256 * (t.val % 16) + (y 1).val, by omega⟩ (y 2) := by
    funext a; apply Fin.ext
    match a with
    | ⟨0, _⟩ => show win0_3.index t (0 : Fin 3) * 1 + 1 * (y 0).val = t.val / 16; omega
    | ⟨1, _⟩ => show win0_3.index t (1 : Fin 3) * 256 + 1 * (y 1).val = 256 * (t.val % 16) + (y 1).val; omega
    | ⟨2, _⟩ => show win0_3.index t (2 : Fin 3) * 16 + 1 * (y 2).val = (y 2).val; omega
  show blkMaxes (blkSims (t.val / 16) (iblk m c 0 t) (unitRows (keyBlk m c (t.val / 16) (div_lt t.isLt)))) ((cfg0.win 3).xinj (grid0.coords t) y)
    = maxes (sims (qs m c) (ks m c)) (((cfg0.win 3).blk t).view.emb y)
  rw [e1, e2]
  unfold blkMaxes maxes
  refine Finset.fold_congr fun l _ => ?_
  have hl := l.isLt
  refine (blkSims_eq m c t (y 1) ⟨128 * (y 2).val + l.val, by omega⟩).trans ?_
  refine congrArg (sims (qs m c) (ks m c)) (funext fun a => Fin.ext ?_)
  match a with
  | ⟨0, _⟩ => rfl
  | ⟨1, _⟩ => show 2048 * (t.val / 16) + (128 * (y 2).val + l.val) = 2048 * (t.val / 16) + 128 * (y 2).val + l.val; omega

theorem covered2 (i : S4096x100352.Idx) : ∃ t : Fin cfg0.N, (cfg0.win 2).flush t = true ∧ i ∈ ((cfg0.win 2).blk t).view.set :=
  (Value.covered_iff2 i).2 ⟨Nat.zero_le _, (i 0).isLt, Nat.zero_le _, (i 1).isLt⟩

theorem covered3 (i : S49x4096x16.Idx) : ∃ t : Fin cfg0.N, (cfg0.win 3).flush t = true ∧ i ∈ ((cfg0.win 3).blk t).view.set :=
  (Value.covered_iff3 i).2 ⟨Nat.zero_le _, (i 0).isLt, Nat.zero_le _, (i 1).isLt, Nat.zero_le _, (i 2).isLt⟩

/-- The kernel's run: its result arrays hold the similarities and their chunks' maxima, its arguments are as launched. -/
theorem run_value (ρ : Dev nD → PrngReg) : θ_run defs (onTc (τ := τ) (main (F := Ideal))) ⟨m, fun _ => 0, ρ⟩ fun r => ∀ c : Dev nD,
      r.2.mem ((c : Thread nD τ).loc main_v1_0) = result0 m c
      ∧ r.2.mem ((c : Thread nD τ).loc main_v1_1) = result1 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans ((dats m 0 c).arrAt_eq_of_cover 2 _ (fun t _ => flushed2_eq m c t) covered2),
      (h c).2.1.trans ((dats m 0 c).arrAt_eq_of_cover 3 _ (fun t _ => flushed3_eq m c t) covered3), (h c).2.2⟩)
    (Value.run_blocks m ρ)

end Cert.Proof.Sim

end
-- ==== Proof.Rounds.lean ====
/-
  Choosing the greatest entries of a row one at a time: every round takes, of the positions of the greatest value, the
  one of least number, and overwrites its value with a constant below all the values. The positions taken are the
  beginning of the row sorted by descending value, equal values by ascending number.
-/
module

public import Idealize.ShloMosaic.Lib.SortPrefix
public import Mathlib.Data.EReal.Basic
public import Mathlib.Data.Fintype.Card

@[expose] public section

noncomputable section

namespace Cert.Proof.Rounds
open Idealize.ShloMosaic

variable {N : ℕ}

/-- `p` comes before `q`: its value is greater, or the values are equal and its number is less. -/
def before (f : Fin N → EReal) (g : Fin N → ℕ) (p q : Fin N) : Bool :=
  decide (f q < f p) || (decide (f p = f q) && decide (g p < g q))

theorem before_iff (f : Fin N → EReal) (g : Fin N → ℕ) (p q : Fin N) :
    before f g p q = true ↔ f q < f p ∨ (f p = f q ∧ g p < g q) := by simp [before]

theorem before_false_iff (f : Fin N → EReal) (g : Fin N → ℕ) (p q : Fin N) :
    before f g p q = false ↔ f p ≤ f q ∧ (f p = f q → g q ≤ g p) := by
  rw [← Bool.not_eq_true, before_iff]; push Not; rfl

/-- With all numbers different, coming before is a strict total order. -/
theorem before_total (f : Fin N → EReal) (g : Fin N → ℕ) (hg : Function.Injective g) : StrictTotalBefore (before f g) where
  irrefl a := by simp [before]
  trans a b c h1 h2 := by
    rw [before_iff] at *
    rcases h1 with h1 | ⟨h1, h1'⟩ <;> rcases h2 with h2 | ⟨h2, h2'⟩
    · exact .inl (h2.trans h1)
    · exact .inl (h2 ▸ h1)
    · exact .inl (h1 ▸ h2)
    · exact .inr ⟨h1.trans h2, h1'.trans h2'⟩
  total a b h := by
    rw [before_iff, before_iff]
    rcases lt_trichotomy (f a) (f b) with e | e | e
    · exact .inr (.inl e)
    · rcases lt_trichotomy (g a) (g b) with e' | e' | e'
      · exact .inl (.inr ⟨e, e'⟩)
      · exact absurd (hg e') h
      · exact .inr (.inr ⟨e.symm, e'⟩)
    · exact .inl (.inl e)

/-- Some position has the greatest value, and of those with that value the least number. -/
theorem exists_first (hN : 0 < N) (f : Fin N → EReal) (g : Fin N → ℕ) :
    ∃ p, (∀ q, f q ≤ f p) ∧ ∀ q, f q = f p → g p ≤ g q := by
  obtain ⟨m, -, hm⟩ := Finset.exists_max_image Finset.univ f ⟨⟨0, hN⟩, Finset.mem_univ _⟩
  obtain ⟨p, hp, hmin⟩ := Finset.exists_min_image (Finset.univ.filter fun q => f q = f m) g ⟨m, by simp⟩
  have e : f p = f m := (Finset.mem_filter.mp hp).2
  exact ⟨p, fun q => (hm q (Finset.mem_univ _)).trans e.ge, fun q hq => hmin q (by simpa using hq.trans e)⟩

/-- The position a round takes. -/
def first (hN : 0 < N) (f : Fin N → EReal) (g : Fin N → ℕ) : Fin N := (exists_first hN f g).choose

theorem le_first (hN : 0 < N) (f : Fin N → EReal) (g : Fin N → ℕ) (q : Fin N) : f q ≤ f (first hN f g) :=
  (exists_first hN f g).choose_spec.1 q

theorem first_le (hN : 0 < N) (f : Fin N → EReal) (g : Fin N → ℕ) (q : Fin N) (h : f q = f (first hN f g)) :
    g (first hN f g) ≤ g q := (exists_first hN f g).choose_spec.2 q h

/-- The row's values after `n` rounds, each overwriting the value at the number it took. -/
def rows (hN : 0 < N) (C : EReal) (f : Fin N → EReal) (g : Fin N → ℕ) : ℕ → Fin N → EReal
  | 0 => f
  | n + 1 => fun j => if g j = g (first hN (rows hN C f g n) g) then C else rows hN C f g n j

/-- The position that round `n` takes. -/
def sel (hN : 0 < N) (C : EReal) (f : Fin N → EReal) (g : Fin N → ℕ) (n : ℕ) : Fin N := first hN (rows hN C f g n) g

section
variable (hN : 0 < N) (C : EReal) (f : Fin N → EReal) (g : Fin N → ℕ) (hg : Function.Injective g)

include hg in
/-- After `n` rounds the positions taken hold the constant and the others their values. -/
theorem rows_eq (n : ℕ) (j : Fin N) :
    (∃ m < n, sel hN C f g m = j) ∧ rows hN C f g n j = C ∨ (∀ m < n, sel hN C f g m ≠ j) ∧ rows hN C f g n j = f j := by
  induction n with
  | zero => exact .inr ⟨fun m h => absurd h (Nat.not_lt_zero m), rfl⟩
  | succ n ih =>
    have e : rows hN C f g (n + 1) j = if g j = g (sel hN C f g n) then C else rows hN C f g n j := rfl
    by_cases h : g j = g (sel hN C f g n)
    · exact .inl ⟨⟨n, n.lt_succ_self, (hg h).symm⟩, e.trans (if_pos h)⟩
    · rw [if_neg h] at e
      rcases ih with ⟨⟨m, hm, hs⟩, hr⟩ | ⟨hs, hr⟩
      · exact .inl ⟨⟨m, hm.trans n.lt_succ_self, hs⟩, e.trans hr⟩
      · refine .inr ⟨fun m hm => ?_, e.trans hr⟩
        rcases Nat.lt_succ_iff_lt_or_eq.mp hm with hm | rfl
        · exact hs m hm
        · exact fun e' => h (congrArg g e'.symm)

include hg in
theorem rows_of_left (n : ℕ) (j : Fin N) (h : ∀ m < n, sel hN C f g m ≠ j) : rows hN C f g n j = f j := by
  rcases rows_eq hN C f g hg n j with ⟨⟨m, hm, hs⟩, -⟩ | ⟨-, hr⟩
  · exact absurd hs (h m hm)
  · exact hr

/-- Fewer rounds than positions leave one out. -/
theorem exists_left (n : ℕ) (hn : n < N) : ∃ p, ∀ m < n, sel hN C f g m ≠ p := by
  by_contra h
  push Not at h
  have hs : (Finset.univ : Finset (Fin N)) ⊆ (Finset.range n).image (sel hN C f g) := fun p _ => by
    obtain ⟨m, hm, e⟩ := h p
    exact Finset.mem_image.mpr ⟨m, Finset.mem_range.mpr hm, e⟩
  have h1 := (Finset.card_le_card hs).trans Finset.card_image_le
  rw [Finset.card_univ, Fintype.card_fin, Finset.card_range] at h1
  omega

variable (hC : ∀ j, C < f j)

include hg hC in
/-- A round takes a position not taken before. -/
theorem sel_new (n : ℕ) (hn : n < N) (m : ℕ) (hm : m < n) : sel hN C f g m ≠ sel hN C f g n := by
  intro e
  obtain ⟨p, hp⟩ := exists_left hN C f g n hn
  have h1 := le_first hN (rows hN C f g n) g p
  rw [rows_of_left hN C f g hg n p hp] at h1
  rcases rows_eq hN C f g hg n (sel hN C f g n) with ⟨-, hr⟩ | ⟨hs, -⟩
  · exact absurd (h1.trans_eq hr) (not_le.mpr (hC p))
  · exact hs m hm e

include hg hC in
/-- The value a round finds is the row's own. -/
theorem rows_sel (n : ℕ) (hn : n < N) : rows hN C f g n (sel hN C f g n) = f (sel hN C f g n) :=
  rows_of_left hN C f g hg n _ fun m hm => sel_new hN C f g hg hC n hn m hm

include hg hC in
/-- A position not taken before a round does not come before the one the round takes. -/
theorem not_before_sel (n : ℕ) (hn : n < N) (p : Fin N) (hp : ∀ m < n, sel hN C f g m ≠ p) :
    before f g p (sel hN C f g n) = false := by
  have e := rows_of_left hN C f g hg n p hp
  have e' := rows_sel hN C f g hg hC n hn
  have h1 := le_first hN (rows hN C f g n) g p
  have h2 := first_le hN (rows hN C f g n) g p
  rw [e] at h1 h2
  rw [show first hN (rows hN C f g n) g = sel hN C f g n from rfl, e'] at h1 h2
  exact (before_false_iff f g p _).mpr ⟨h1, h2⟩

include hg hC in
/-- The rounds take the beginning of the sorted row. -/
theorem sortedFrom_before {k : ℕ} (hk : k ≤ N) (i : Fin k) : sortedFrom (before f g) (i.castLE hk) = sel hN C f g i.val :=
  (before_total f g hg).sortedFrom_eq_of_prefix hk (fun i => sel hN C f g i.val)
    (fun i j h => by
      rcases lt_trichotomy i.val j.val with e | e | e
      · exact absurd h (sel_new hN C f g hg hC j.val (j.isLt.trans_le hk) i.val e)
      · exact Fin.ext e
      · exact absurd h.symm (sel_new hN C f g hg hC i.val (i.isLt.trans_le hk) j.val e))
    (fun i j h => not_before_sel hN C f g hg hC i.val (i.isLt.trans_le hk) _ fun m hm =>
      sel_new hN C f g hg hC j.val (j.isLt.trans_le hk) m (hm.trans h))
    (fun i p h => not_before_sel hN C f g hg hC i.val (i.isLt.trans_le hk) p fun m hm => h ⟨m, hm.trans i.isLt⟩) i

end

/-- A stable sort of an ascending list depends only on how the comparison places a later element before an earlier one. -/
theorem stableSort_congr_of_later {ι : Type} (P : ι → ι → Prop) (R R' : ι → ι → Bool) (h : ∀ a b, P a b → R b a = R' b a)
    (l : List ι) (hl : l.Pairwise P) : stableSort R l = stableSort R' l := by
  induction l with
  | nil => rfl
  | cons a l ih =>
    obtain ⟨ha, hl'⟩ := List.pairwise_cons.mp hl
    show insertBefore R a (stableSort R l) = insertBefore R' a (stableSort R' l)
    rw [ih hl']
    exact insertBefore_congr R R' a _ fun b hb => h a b (ha b ((perm_stableSort R' l).mem_iff.mp hb))

/-- The stable sort by descending value is the sort by descending value, equal values by position. -/
theorem sortedFrom_value (f : Fin N → EReal) (i : Fin N) :
    sortedFrom (fun a b => decide (f b < f a)) i = sortedFrom (before f Fin.val) i := by
  have e : sortPositions N (fun a b => decide (f b < f a)) = sortPositions N (before f Fin.val) :=
    stableSort_congr_of_later (· < ·) _ _ (fun a b h => by
      have : ¬ b.val < a.val := not_lt.mpr (le_of_lt h)
      simp [before, this]) _ (List.pairwise_lt_finRange N)
  unfold sortedFrom
  simp only [List.get_eq_getElem, e]
  rfl

end Cert.Proof.Rounds
-- ==== Proof.RoundVec.lean ====
/-
  The rounds of Rounds.lean as operations on a matrix, one round for every row at once: the greatest value of each row,
  the least number standing beside that value, and the matrix with the value at that number overwritten.
-/
module

public import proofs.«01_k».proof.Proof.Rounds
public import Idealize.ShloMosaic.Lib.Pointwise
public import Idealize.ShloMosaic.Lib.Pipeline.Value
public import Idealize.ShloMosaic.Lib.SortNet.Extract

@[expose] public section

set_option maxRecDepth 16384

noncomputable section

namespace Cert.Proof.RoundVec
open Idealize.ShloMosaic hiding ix1 ix2 ix3
open Idealize.ShloMosaic.ValueIdx
open Cert.Proof.Rounds

/-- An `n` by `N` matrix. -/
abbrev Mx (n N : ℕ) : Shape := ⟨2, ![n, N]⟩

/-- A vector of `n` entries. -/
abbrev Vx (n : ℕ) : Shape := ⟨1, ![n]⟩

/-! ## The two folds -/

/-- The pattern the maxima start from is the least value. -/
theorem ofBits_low : Ideal.ofBits .f32 0xFF800000#32 = (⊥ : EReal) := by simp [Ideal.ofBits, Ideal.ieee]

/-- A maximum from the least value that one entry attains. -/
theorem fold_max_eq {N : ℕ} (v : Fin N → EReal) (p : Fin N) (hp : ∀ q, v q ≤ v p) :
    (Finset.univ : Finset (Fin N)).fold max (⊥ : EReal) v = v p :=
  le_antisymm (Finset.fold_max_le _ |>.mpr ⟨bot_le, fun q _ => hp q⟩) (Finset.le_fold_max _ |>.mpr (.inr ⟨p, Finset.mem_univ _, le_rfl⟩))

/-- A signed minimum of words that one entry attains. -/
theorem fold_minsi_eq {N : ℕ} (v : Fin N → BitVec 32) (init : BitVec 32) (p : Fin N) (hp : ∀ q, (v p).toInt ≤ (v q).toInt)
    (hi : (v p).toInt ≤ init.toInt) : (Finset.univ : Finset (Fin N)).fold IntOp.minsi init v = v p := by
  apply BitVec.eq_of_toInt_eq
  rw [← Finset.fold_hom (op := IntOp.minsi) (op' := min) (m := fun w : BitVec 32 => w.toInt) fun a b => SortNet.toInt_minsi a b]
  exact le_antisymm (Finset.fold_min_le _ |>.mpr (.inr ⟨p, Finset.mem_univ _, le_rfl⟩)) (Finset.le_fold_min _ |>.mpr ⟨hi, fun q _ => hp q⟩)

/-! ## One round -/

section
variable {n N : ℕ} (hr : (Mx n N).Reduces [1] (Vx n)) (hc : (Vx n).ShapeCasts (Mx n 1)) (hb : (Mx n 1).Broadcasts (Mx n N))

/-- The greatest value of each row. -/
def top (x : FVec Ideal (Mx n N) .f32) : FVec Ideal (Mx n 1) .f32 :=
  shapeCast (Mx n 1) (multiReduction .maximumf [1] (Vx n) x 0xFF800000#32 hr (.inl rfl) rfl) hc

/-- The least number beside the greatest value of each row. -/
def pick (G : IVec (Mx n N) 32) (x : FVec Ideal (Mx n N) .f32) : IVec (Mx n 1) 32 :=
  shapeCast (Mx n 1) (multiReductionI .minsi [1] (Vx n)
    (select (cmpf .oeq x (broadcastTo (Mx n N) (top hr hc x) hb)) G (broadcast (Mx n N) 1073741824#32)) 2147483647#32 hr rfl) hc

/-- The matrix with the value at the number found in each row overwritten. -/
def next (G : IVec (Mx n N) 32) (x : FVec Ideal (Mx n N) .f32) : FVec Ideal (Mx n N) .f32 :=
  select (cmpi .eq G (broadcastTo (Mx n N) (pick hr hc hb G x) hb)) (broadcast (Mx n N) (Scalar.ofBits .f32 0xFF61B1E6#32)) x

/-- The matrix after `k` rounds. -/
def data (G : IVec (Mx n N) 32) (x : FVec Ideal (Mx n N) .f32) : ℕ → FVec Ideal (Mx n N) .f32
  | 0 => x
  | k + 1 => next hr hc hb G (data G x k)

/-- What overwrites a value. -/
abbrev mask : EReal := Ideal.ofBits .f32 0xFF61B1E6#32

/-- A column spread over the row, read. -/
theorem spread_apply {α : Type} (v : (Mx n 1).Idx → α) (r : Fin n) (j : Fin N) :
    broadcastTo (Mx n N) v hb (ix2 r j) = v (ix2 (n0 := n) (n1 := 1) r 0) := by
  refine broadcastTo_apply _ hb (ix2 r j) (ix2 (n0 := n) (n1 := 1) r 0) ?_
  intro a
  match a with
  | ⟨0, _⟩ => show r.val = if n = 1 then 0 else r.val; have := r.isLt; split <;> omega
  | ⟨1, _⟩ => rfl

/-- A vector stood up as a column, read. -/
theorem column_apply {α : Type} (v : (Vx n).Idx → α) (r : Fin n) : shapeCast (Mx n 1) v hc (ix2 (n0 := n) (n1 := 1) r 0) = v (ix1 r) := by
  refine shapeCast_apply _ hc (ix2 (n0 := n) (n1 := 1) r 0) (ix1 r) ?_
  rw [Shape.rowMajor_val_one, Shape.rowMajor_val_two]
  show r.val = r.val * 1 + 0
  omega

theorem top_apply (x : FVec Ideal (Mx n N) .f32) (r : Fin n) (p : Fin N) (hp : ∀ q : Fin N, (x (ix2 r q) : EReal) ≤ x (ix2 r p)) :
    top hr hc x (ix2 (n0 := n) (n1 := 1) r 0) = x (ix2 r p) := by
  refine (column_apply hc _ r).trans ?_
  refine (multiReduction_maximumf_eq_fold (F := Ideal) (φ := .f32) x 0xFF800000#32 hr (.inl rfl) rfl (ix1 r)).trans ?_
  refine (Shape.Reduces.fold_fiber_r2_a1 hr (ix1 r) _ _ _).trans ?_
  refine Eq.trans ?_ (fold_max_eq (fun q : Fin N => (x (ix2 r q) : EReal)) p hp)
  rw [← ofBits_low]
  rfl

variable (G : IVec (Mx n N) 32) (x : FVec Ideal (Mx n N) .f32) (hN : 0 < N) (r : Fin n) (g : Fin N → ℕ)
  (hG : ∀ j, G (ix2 r j) = BitVec.ofNat 32 (g j)) (hg : ∀ j, g j < 2 ^ 30)

theorem toInt_small (a : ℕ) (h : a < 2 ^ 30) : (BitVec.ofNat 32 a).toInt = a := by
  rw [BitVec.toInt_eq_toNat_of_lt (by rw [BitVec.toNat_ofNat, Nat.mod_eq_of_lt (by omega)]; omega), BitVec.toNat_ofNat, Nat.mod_eq_of_lt (by omega)]

include hG hg in
theorem pick_apply : pick hr hc hb G x (ix2 (n0 := n) (n1 := 1) r 0) = BitVec.ofNat 32 (g (first hN (fun j => x (ix2 r j)) g)) := by
  obtain ⟨p, hp⟩ : ∃ p, first hN (fun j => (x (ix2 r j) : EReal)) g = p := ⟨_, rfl⟩
  have h1 := le_first hN (fun j => (x (ix2 r j) : EReal)) g
  have h2 := first_le hN (fun j => (x (ix2 r j) : EReal)) g
  rw [hp] at h1 h2 ⊢
  have hv : ∀ j : Fin N, (select (cmpf .oeq x (broadcastTo (Mx n N) (top hr hc x) hb)) G (broadcast (Mx n N) 1073741824#32)) (ix2 r j)
      = if (x (ix2 r j) : EReal) = x (ix2 r p) then BitVec.ofNat 32 (g j) else 1073741824#32 := fun j => by
    show (if BitVec.ofBool (decide ((x (ix2 r j) : EReal) = broadcastTo (Mx n N) (top hr hc x) hb (ix2 r j))) = 1#1 then G (ix2 r j) else 1073741824#32) = _
    rw [spread_apply, top_apply hr hc x r p h1, hG]
    by_cases e : (x (ix2 r j) : EReal) = x (ix2 r p)
    · simp [e]
    · simp [e]
  refine (column_apply hc _ r).trans ?_
  refine (multiReductionI_eq_fold .minsi _ _ hr rfl (ix1 r)).trans ?_
  refine (Shape.Reduces.fold_fiber_r2_a1 hr (ix1 r) _ _ _).trans ?_
  refine (Finset.fold_congr (g := fun j : Fin N => if (x (ix2 r j) : EReal) = x (ix2 r p) then BitVec.ofNat 32 (g j) else 1073741824#32) fun j _ => hv j).trans ?_
  refine (fold_minsi_eq _ _ p (fun q => ?_) ?_).trans (if_pos rfl)
  · rw [if_pos rfl, toInt_small _ (hg p)]
    split
    · next e => rw [toInt_small _ (hg q)]; exact_mod_cast h2 q e
    · have := hg p
      show ((g p : ℕ) : ℤ) ≤ 1073741824
      omega
  · rw [if_pos rfl, toInt_small _ (hg p)]
    have := hg p
    show ((g p : ℕ) : ℤ) ≤ 2147483647
    omega

include hG hg in
theorem next_apply (j : Fin N) : next hr hc hb G x (ix2 r j)
    = if g j = g (first hN (fun j => x (ix2 r j)) g) then mask else x (ix2 r j) := by
  show (if BitVec.ofBool (G (ix2 r j) == broadcastTo (Mx n N) (pick hr hc hb G x) hb (ix2 r j)) = 1#1 then mask else x (ix2 r j)) = _
  rw [spread_apply, pick_apply hr hc hb G x hN r g hG hg, hG]
  have e : BitVec.ofNat 32 (g j) = BitVec.ofNat 32 (g (first hN (fun j => x (ix2 r j)) g)) ↔ g j = g (first hN (fun j => x (ix2 r j)) g) := by
    constructor
    · intro e
      have := congrArg BitVec.toInt e
      rw [toInt_small _ (hg _), toInt_small _ (hg _)] at this
      exact_mod_cast this
    · exact congrArg _
  by_cases h : g j = g (first hN (fun j => x (ix2 r j)) g)
  · rw [if_pos h, if_pos]
    rw [e.mpr h]; simp
  · rw [if_neg h, if_neg]
    rw [beq_eq_false_iff_ne.mpr (mt e.mp h)]
    decide

include hG hg in
/-- After `k` rounds each row is what the rounds make of it. -/
theorem data_apply (k : ℕ) (j : Fin N) : data hr hc hb G x k (ix2 r j) = rows hN mask (fun j => x (ix2 r j)) g k j := by
  induction k generalizing j with
  | zero => rfl
  | succ k ih =>
    refine (next_apply hr hc hb G (data hr hc hb G x k) hN r g hG hg j).trans ?_
    have e : (fun j => (data hr hc hb G x k (ix2 r j) : EReal)) = rows hN mask (fun j => x (ix2 r j)) g k := funext ih
    rw [ih j, e]
    rfl

include hG hg in
/-- Round `k`'s pick in a row is the number at the position that the round takes. -/
theorem pick_data (k : ℕ) : pick hr hc hb G (data hr hc hb G x k) (ix2 (n0 := n) (n1 := 1) r 0)
    = BitVec.ofNat 32 (g (sel hN mask (fun j => x (ix2 r j)) g k)) := by
  rw [pick_apply hr hc hb G _ hN r g hG hg, funext fun j => data_apply hr hc hb G x hN r g hG hg k j]
  rfl

include hG hg in
/-- Round `k`'s greatest value in a row is the value at the position that the round takes. -/
theorem top_data (hinj : Function.Injective g) (hC : ∀ j, mask < (x (ix2 r j) : EReal)) (k : ℕ) (hk : k < N) :
    top hr hc (data hr hc hb G x k) (ix2 (n0 := n) (n1 := 1) r 0) = x (ix2 r (sel hN mask (fun j => x (ix2 r j)) g k)) := by
  have e : ∀ j, data hr hc hb G x k (ix2 r j) = rows hN mask (fun j => x (ix2 r j)) g k j := data_apply hr hc hb G x hN r g hG hg k
  refine (top_apply hr hc _ r (sel hN mask (fun j => x (ix2 r j)) g k) fun q => ?_).trans ((e _).trans (rows_sel hN mask _ g hinj hC k hk))
  rw [e, e]
  exact le_first hN _ g q

end

end Cert.Proof.RoundVec
-- ==== Proof.SelectRounds.lean ====
/-
  The choice of the chunks, one block of rows: the body's thirty-two rounds are the rounds of RoundVec.lean, with the
  columns' own numbers, and its two outputs are what the rounds find.
-/
module

public import proofs.«01_k».proof.Proof.RoundVec
public import proofs.«01_k».proof.Proof.Gen.SelectIdeal.Frame

@[expose] public section

set_option maxRecDepth 16384

noncomputable section

namespace Cert.Proof.Select
open Cert.SelectIdeal Cert.SelectIdeal.Gen Cert.Proof.Rounds Cert.Proof.RoundVec

open Idealize.ShloMosaic hiding ix1 ix2 ix3
open Idealize.ShloMosaic.TcCoe
open Idealize.ShloMosaic.ValueIdx

/-! ## The body's values in rounds -/

/-- The columns' numbers. -/
abbrev col : IVec S512x784 32 := iota .tc S512x784 32 [1] iota_S512x784_d1_w32

/-- The block after `k` rounds. -/
abbrev D (x : FVec Ideal S512x784 .f32) (k : ℕ) : FVec Ideal S512x784 .f32 :=
  data reduces_S512x784_S512 shapeCasts_S512_S512x1 broadcasts_S512x1_S512x784 col x k

/-- What a round on `x` picks. -/
abbrev P (x : FVec Ideal S512x784 .f32) : IVec S512x1 32 :=
  pick reduces_S512x784_S512 shapeCasts_S512_S512x1 broadcasts_S512x1_S512x784 col x

/-- Where `x` has its row's greatest value. -/
def hit (x : FVec Ideal S512x784 .f32) : IVec S512x784 1 :=
  cmpf .oeq x (broadcastTo S512x784 (top reduces_S512x784_S512 shapeCasts_S512_S512x1 x) broadcasts_S512x1_S512x784)

/-- The column's number there, a large number elsewhere. -/
def cand (x : FVec Ideal S512x784 .f32) : IVec S512x784 32 := select (hit x) col (broadcast S512x784 1073741824#32)

/-- Where the round on `x` overwrites. -/
def mark (x : FVec Ideal S512x784 .f32) : IVec S512x784 1 := cmpi .eq col (broadcastTo S512x784 (P x) broadcasts_S512x1_S512x784)

section
variable (x : FVec Ideal S512x784 .f32)

theorem part1 (x : Vec Ideal S512x784 .f32) : k0_pay9 x = P (D x 0) ∧ k0_pay11 x = P (D x 1) ∧ k0_pay13 x = P (D x 2) ∧ k0_pay14 x = D x 3 ∧ k0_pay15 x = hit (D x 3) :=
  ⟨rfl, rfl, rfl, rfl, rfl⟩

theorem part2 : k0_pay16 col (hit x) = P (D x 0) ∧ k0_pay18 col x (hit x) = P (D x 1) ∧ k0_pay20 col x (hit x) = P (D x 2)
    ∧ k0_pay22 col x (hit x) = P (D x 3) ∧ k0_pay23 col x (hit x) = D x 4 := ⟨rfl, rfl, rfl, rfl, rfl⟩

theorem part3 : k0_pay24 col x = P (D x 0) ∧ k0_pay26 col x = P (D x 1) ∧ k0_pay28 col x = P (D x 2) ∧ k0_pay29 col x = D x 3
    ∧ k0_pay30 col x = P (D x 3) ∧ k0_pay31 col x = mark (D x 3) := ⟨rfl, rfl, rfl, rfl, rfl, rfl⟩

theorem part4 : k0_pay33 col x (mark x) = P (D x 1) ∧ k0_pay35 col x (mark x) = P (D x 2) ∧ k0_pay37 col x (mark x) = P (D x 3)
    ∧ k0_pay38 col x (mark x) = D x 4 ∧ k0_pay39 col x (mark x) = cand (D x 4) := ⟨rfl, rfl, rfl, rfl, rfl⟩

theorem part5 : k0_pay40 (cand x) = P (D x 0) ∧ k0_pay42 col x (cand x) = P (D x 1) ∧ k0_pay44 col x (cand x) = P (D x 2)
    ∧ k0_pay46 col x (cand x) = P (D x 3) ∧ k0_pay47 col x (cand x) = D x 4 ∧ k0_pay48 col x (cand x) = hit (D x 4) :=
  ⟨rfl, rfl, rfl, rfl, rfl, rfl⟩

theorem part6 : k0_pay49 col (hit x) = P (D x 0) ∧ k0_pay51 col x (hit x) = P (D x 1) ∧ k0_pay53 col x (hit x) = P (D x 2)
    ∧ k0_pay55 col x (hit x) = P (D x 3) ∧ k0_pay56 col x (hit x) = D x 4 := ⟨rfl, rfl, rfl, rfl, rfl⟩

theorem part7 : k0_pay57 col x = P (D x 0) ∧ k0_pay59 col x = P (D x 1) ∧ k0_pay61 col x = P (D x 2) ∧ k0_pay62 col x = D x 3
    ∧ k0_pay63 col x = P (D x 3) ∧ k0_pay64 col x = mark (D x 3) := ⟨rfl, rfl, rfl, rfl, rfl, rfl⟩

theorem part8 : k0_pay66 col x (mark x) = P (D x 1) ∧ k0_pay68 col x (mark x) = P (D x 2) ∧ k0_pay70 col x (mark x) = P (D x 3)
    ∧ k0_pay71 col x (mark x) = D x 4 ∧ k0_pay72 col x (mark x) = cand (D x 4) := ⟨rfl, rfl, rfl, rfl, rfl⟩

theorem part9 : k0_pay1 (cand x) = P x ∧ k0_pay2 col x (P x) = D x 1 ∧ k0_pay3 col x = cand x ∧ k0_pay4 (cand x) = P x
    ∧ k0_pay5 col x (P x) = D x 1 ∧ k0_pay6 col x = cand x := ⟨rfl, rfl, rfl, rfl, rfl, rfl⟩

end

/-- Rounds after rounds. -/
theorem D_D (x : FVec Ideal S512x784 .f32) (a b : ℕ) : D (D x a) b = D x (a + b) := by
  induction b with
  | zero => rfl
  | succ b ih => exact congrArg (next reduces_S512x784_S512 shapeCasts_S512_S512x1 broadcasts_S512x1_S512x784 col) ih

variable (i : grid0.Coords) (x : Vec Ideal S512x784 .f32)

/-- The whole-block rectangles send an index to itself. -/
theorem emb_in (y : S512x784.Idx) : r0_0.emb y = y := funext fun a => Fin.ext (by
  rw [Rect.emb_apply]
  match a with
  | ⟨0, _⟩ => show 0 + 1 * (y ⟨0, _⟩).val = _; omega
  | ⟨1, _⟩ => show 0 + 1 * (y ⟨1, _⟩).val = _; omega)

theorem emb_out (y : S512x32.Idx) : r0_1.emb y = y := funext fun a => Fin.ext (by
  rw [Rect.emb_apply]
  match a with
  | ⟨0, _⟩ => show 0 + 1 * (y ⟨0, _⟩).val = _; omega
  | ⟨1, _⟩ => show 0 + 1 * (y ⟨1, _⟩).val = _; omega)

theorem ld_eq : View.ld x r0_0 = x := funext fun y => congrArg x (emb_in y)

theorem pay73 : k0_pay73 (F := Ideal) i x = col := rfl
theorem pay74 : k0_pay74 i x = D x 3 := by rw [k0_pay74, ld_eq]; exact (part1 x).2.2.2.1
theorem pay75 : k0_pay75 i x = hit (D x 3) := by rw [k0_pay75, ld_eq]; exact (part1 x).2.2.2.2
theorem pay76 : k0_pay76 i x = D x 7 := by rw [k0_pay76, pay73, pay74, pay75, (part2 _).2.2.2.2, D_D]
theorem pay77 : k0_pay77 i x = D x 10 := by rw [k0_pay77, pay73, pay76, (part3 _).2.2.2.1, D_D]
theorem pay78 : k0_pay78 i x = mark (D x 10) := by rw [k0_pay78, pay73, pay76, (part3 _).2.2.2.2.2, D_D]
theorem pay79 : k0_pay79 i x = D x 14 := by rw [k0_pay79, pay73, pay77, pay78, (part4 _).2.2.2.1, D_D]
theorem pay80 : k0_pay80 i x = cand (D x 14) := by rw [k0_pay80, pay73, pay77, pay78, (part4 _).2.2.2.2, D_D]
theorem pay81 : k0_pay81 i x = D x 18 := by rw [k0_pay81, pay73, pay79, pay80, (part5 _).2.2.2.2.1, D_D]
theorem pay82 : k0_pay82 i x = hit (D x 18) := by rw [k0_pay82, pay73, pay79, pay80, (part5 _).2.2.2.2.2, D_D]
theorem pay83 : k0_pay83 i x = D x 22 := by rw [k0_pay83, pay73, pay81, pay82, (part6 _).2.2.2.2, D_D]
theorem pay84 : k0_pay84 i x = D x 25 := by rw [k0_pay84, pay73, pay83, (part7 _).2.2.2.1, D_D]
theorem pay85 : k0_pay85 i x = mark (D x 25) := by rw [k0_pay85, pay73, pay83, (part7 _).2.2.2.2.2, D_D]
theorem pay86 : k0_pay86 i x = P (D x 29) := by rw [k0_pay86, pay73, pay84, pay85, (part8 _).2.2.2.2, (part9 _).1, D_D]
theorem pay87 : k0_pay87 i x = D x 30 := by rw [k0_pay87, pay73, pay84, pay85, pay86, (part8 _).2.2.2.1, D_D, (part9 _).2.1, D_D]
theorem pay88 : k0_pay88 i x = P (D x 30) := by rw [k0_pay88, pay73, pay87, (part9 _).2.2.1, (part9 _).2.2.2.1]

/-- Thirty-two columns side by side make the block. -/
theorem concats {f : Fin 32 → IVec S512x1 32} :
    Shape.Concatenates ((List.ofFn fun k : Fin 32 => (⟨S512x1, f k⟩ : (s : Shape) × (s.Idx → BitVec 32))).map (·.1)) S512x32 1 := by
  have e : ((List.ofFn fun k : Fin 32 => (⟨S512x1, f k⟩ : (s : Shape) × (s.Idx → BitVec 32))).map (·.1)) = List.replicate 32 S512x1 := by
    rw [List.map_ofFn]; exact List.ofFn_const 32 S512x1
  rw [e]
  decide

/-- The picks side by side. -/
def picks (x : FVec Ideal S512x784 .f32) : IVec S512x32 32 :=
  concatenate S512x32 1 (List.ofFn fun k : Fin 32 => (⟨S512x1, P (D x k.val)⟩ : (s : Shape) × (s.Idx → BitVec 32))) concats

theorem picks_eq : k0_pay89 i x = picks x := by
  rw [k0_pay89, ld_eq, pay73, pay74, pay75, pay76, pay77, pay78, pay79, pay80, pay81, pay82, pay83, pay84, pay85, pay86, pay87, pay88]
  simp only [(part1 x).1, (part1 x).2.1, (part1 x).2.2.1, (part2 _).1, (part2 _).2.1, (part2 _).2.2.1, (part2 _).2.2.2.1,
    (part3 _).1, (part3 _).2.1, (part3 _).2.2.1, (part3 _).2.2.2.2.1, (part4 _).1, (part4 _).2.1, (part4 _).2.2.1,
    (part5 _).1, (part5 _).2.1, (part5 _).2.2.1, (part5 _).2.2.2.1, (part6 _).1, (part6 _).2.1, (part6 _).2.2.1, (part6 _).2.2.2.1,
    (part7 _).1, (part7 _).2.1, (part7 _).2.2.1, (part7 _).2.2.2.2.1, (part8 _).1, (part8 _).2.1, (part8 _).2.2.1,
    (part9 _).2.2.2.2.1, (part9 _).2.2.2.2.2, D_D]
  rfl

/-! ## What they are -/

/-- The columns chosen, round by round, for each row of `x`. -/
def chosen {n : ℕ} (x : FVec Ideal (Mx n 784) .f32) : IVec (Mx n 32) 32 := fun y =>
  BitVec.ofNat 32 (sel (N := 784) (by decide) mask (fun j => x (ix2 (y 0) j)) Fin.val (y 1).val).val

/-- The same, numbered through all rows, `b` rows standing before. -/
def numbered {n : ℕ} (b : ℕ) (x : FVec Ideal (Mx n 784) .f32) : IVec (Mx n 32) 32 := fun y =>
  BitVec.ofNat 32 (b + (y 0).val) * 784#32 + chosen x y

/-- Two matrices that agree along a row have its choice in common. -/
theorem chosen_congr {n n' : ℕ} (x : FVec Ideal (Mx n 784) .f32) (x' : FVec Ideal (Mx n' 784) .f32) (r : Fin n) (r' : Fin n')
    (h : ∀ k : Fin 784, x (ix2 r k) = x' (ix2 r' k)) (k : Fin 32) : chosen x (ix2 r k) = chosen x' (ix2 r' k) := by
  have e : (fun j => (x (ix2 r j) : EReal)) = fun j => x' (ix2 r' j) := funext h
  show BitVec.ofNat 32 (sel (N := 784) _ mask (fun j => (x (ix2 r j) : EReal)) Fin.val k.val).val = BitVec.ofNat 32 (sel (N := 784) _ mask (fun j => (x' (ix2 r' j) : EReal)) Fin.val k.val).val
  rw [e]

theorem picks_chosen (x : FVec Ideal S512x784 .f32) : picks x = chosen (n := 512) x := by
  funext y
  obtain ⟨r, k, rfl⟩ : ∃ (r : Fin 512) (k : Fin 32), y = ix2 r k := ⟨y 0, y 1, ValueIdx.eq_ix2 y⟩
  refine (concatenate_ofFn_unit_apply (t := S512x32) (s₁ := S512x1) 1 (fun k : Fin 32 => P (D x k.val)) _ rfl rfl (ix2 r k) k rfl
    (ix2 (n0 := 512) (n1 := 1) r 0) ?_).trans ?_
  · intro b hb
    match b with
    | ⟨0, _⟩ => rfl
    | ⟨1, _⟩ => exact absurd rfl hb
  · refine pick_data reduces_S512x784_S512 shapeCasts_S512_S512x1 broadcasts_S512x1_S512x784 col x (by decide) r Fin.val (fun j => ?_) (fun j => ?_) k.val
    · exact iota_single_apply .tc S512x784 32 1 iota_S512x784_d1_w32 (ix2 r j)
    · have := j.isLt; omega

theorem block2 : out0_2 i x = chosen (n := 512) x := by
  unfold out0_2
  rw [picks_eq, picks_chosen]
  funext y
  have h := View.canon_cons_emb (Val := Elt Ideal) (e := .i32) r0_1 (chosen (n := 512) x) [] y
  rw [emb_out y] at h
  exact h

theorem block1 : out0_1 i x = numbered (n := 512) (512 * (i 0).val) x := by
  unfold out0_1
  rw [picks_eq, picks_chosen]
  funext y
  have h := View.canon_cons_emb (Val := Elt Ideal) (e := .i32) r0_1
    (k0_pay8 (Scalar.muli (BitVec.ofNat 32 (i 0).val) 512#32) (chosen (n := 512) x)) [] y
  rw [emb_out y] at h
  refine h.trans ?_
  unfold numbered
  show (BitVec.ofNat 32 (i 0).val * 512#32 + iota .tc S512x32 32 [0] iota_S512x32_d0_w32 y) * 784#32 + chosen (n := 512) x y
    = BitVec.ofNat 32 (512 * (i 0).val + (y 0).val) * 784#32 + chosen (n := 512) x y
  rw [iota_single_apply, BitVec.ofNat_add, BitVec.ofNat_mul, BitVec.mul_comm (BitVec.ofNat 32 (i 0).val)]

end Cert.Proof.Select
-- ==== Proof.SelectValue.lean ====
/-
  The choice of the chunks: the two arrays the kernel leaves are the chosen chunks of all rows and their numbers through
  all rows, and, the maxima being greater than the constant that overwrites them, the reference's sort begins with the
  same chunks.
-/
module

public import proofs.«01_k».proof.Proof.SelectRounds
public import proofs.«01_k».proof.Proof.Gen.SelectReferenceIdeal.Run
public import proofs.«01_k».proof.Proof.Gen.Pre_maxima_above_mask
public import Idealize.ShloMosaic.Lib.ReduceAll

@[expose] public section

set_option maxRecDepth 16384

noncomputable section

namespace Cert.Proof.Select
open Cert.SelectIdeal Cert.SelectIdeal.Gen Cert.Proof.Rounds Cert.Proof.RoundVec

open Idealize.ShloMosaic hiding ix1 ix2 ix3
open Idealize.ShloMosaic.TcCoe
open Idealize.ShloMosaic.ValueIdx
open Idealize.SL.Sem

/-! ## The kernel's arrays -/

/-- Every grid point's blocks are its 512 rows, and the outputs' are written back. -/
theorem points : ∀ t : Fin cfg0.N, ((cfg0.win 1).flush t = true ∧ (cfg0.win 2).flush t = true) ∧ (grid0.coords t 0).val = t.val
    ∧ (win0_0.index t (0 : Fin 2) = t.val ∧ win0_0.index t (1 : Fin 2) = 0)
    ∧ (win0_1.index t (0 : Fin 2) = t.val ∧ win0_1.index t (1 : Fin 2) = 0)
    ∧ win0_2.index t (0 : Fin 2) = t.val ∧ win0_2.index t (1 : Fin 2) = 0 :=
  (by decide +kernel : ∀ t : Fin grid0.N, (win0_1.flush t = true ∧ win0_2.flush t = true) ∧ (grid0.coords t 0).val = t.val
    ∧ (win0_0.index t (0 : Fin 2) = t.val ∧ win0_0.index t (1 : Fin 2) = 0)
    ∧ (win0_1.index t (0 : Fin 2) = t.val ∧ win0_1.index t (1 : Fin 2) = 0)
    ∧ win0_2.index t (0 : Fin 2) = t.val ∧ win0_2.index t (1 : Fin 2) = 0)

variable (m : (ℓ : Loc nD τ sig) → Buf (Elt Ideal) ℓ)

/-- The chosen chunks, numbered through all rows. -/
def result0 (c : Dev nD) : Buf (Elt Ideal) ((c : Thread nD τ).loc main_v0_0) := numbered (n := 4096) 0 (m ((c : Thread nD τ).loc main_arg0))

/-- The chosen chunks. -/
def result1 (c : Dev nD) : Buf (Elt Ideal) ((c : Thread nD τ).loc main_v0_1) := chosen (n := 4096) (m ((c : Thread nD τ).loc main_arg0))

/-- Row `r` of the block at point `t` is row `512 t + r` of the argument. -/
theorem block_row (c : Dev nD) (t : Fin cfg0.N) (r : Fin 512) (h : 512 * t.val + r.val < 4096) (k : Fin 784) :
    (iblk m c 0 t) (ix2 (n0 := 512) (n1 := 784) r k)
      = (m ((c : Thread nD τ).loc main_arg0)) (ix2 (n0 := 4096) (n1 := 784) ⟨512 * t.val + r.val, h⟩ k) := by
  obtain ⟨-, -, ⟨a0, a1⟩, -, -⟩ := points t
  show V m c main_arg0 (((cfg0.win 0).blk t).view.emb (ix2 (n0 := 512) (n1 := 784) r k)) = _
  rw [V_main_arg0]
  refine congrArg (m ((c : Thread nD τ).loc main_arg0)) (funext fun a => Fin.ext ?_)
  match a with
  | ⟨0, _⟩ => show win0_0.index t (0 : Fin 2) * 512 + 1 * r.val = 512 * t.val + r.val; omega
  | ⟨1, _⟩ => show win0_0.index t (1 : Fin 2) * 784 + 1 * k.val = k.val; omega

theorem flushed2_eq (c : Dev nD) (t : Fin cfg0.N) : (dats m 0 c).flushed 2 t = ((cfg0.win 2).blk t).view.read (Elt Ideal) (result1 m c) := by
  show (cfg0.win 2).cut (grid0.coords t) ((dats m 0 c).after 2 t) = _
  rw [after0_2, block2]
  obtain ⟨-, -, -, -, b0, b1⟩ := points t
  funext y
  have hy0 : (y 0).val < 512 := (y 0).isLt
  have ht : t.val < 8 := lt_of_lt_of_eq t.isLt N_0
  show chosen (n := 512) (iblk m c 0 t) ((cfg0.win 2).xinj (grid0.coords t) y) = chosen (n := 4096) (m ((c : Thread nD τ).loc main_arg0)) (((cfg0.win 2).blk t).view.emb y)
  have e1 : (cfg0.win 2).xinj (grid0.coords t) y = ix2 (n0 := 512) (n1 := 32) (y 0) (y 1) := by
    funext a; apply Fin.ext
    match a with
    | ⟨0, _⟩ => rfl
    | ⟨1, _⟩ => rfl
  have e2 : ((cfg0.win 2).blk t).view.emb y = ix2 (n0 := 4096) (n1 := 32) ⟨512 * t.val + (y 0).val, by omega⟩ (y 1) := by
    funext a; apply Fin.ext
    match a with
    | ⟨0, _⟩ => show win0_2.index t (0 : Fin 2) * 512 + 1 * (y 0).val = 512 * t.val + (y 0).val; omega
    | ⟨1, _⟩ => show win0_2.index t (1 : Fin 2) * 32 + 1 * (y 1).val = (y 1).val; omega
  rw [e1, e2]
  exact chosen_congr _ _ _ _ (block_row m c t (y 0) (by omega)) _

theorem flushed1_eq (c : Dev nD) (t : Fin cfg0.N) : (dats m 0 c).flushed 1 t = ((cfg0.win 1).blk t).view.read (Elt Ideal) (result0 m c) := by
  show (cfg0.win 1).cut (grid0.coords t) ((dats m 0 c).after 1 t) = _
  rw [after0_1, block1]
  obtain ⟨-, g0, -, ⟨b0, b1⟩, -⟩ := points t
  funext y
  have hy0 : (y 0).val < 512 := (y 0).isLt
  have ht : t.val < 8 := lt_of_lt_of_eq t.isLt N_0
  show numbered (n := 512) (512 * (grid0.coords t 0).val) (iblk m c 0 t) ((cfg0.win 1).xinj (grid0.coords t) y)
    = numbered (n := 4096) 0 (m ((c : Thread nD τ).loc main_arg0)) (((cfg0.win 1).blk t).view.emb y)
  have e1 : (cfg0.win 1).xinj (grid0.coords t) y = ix2 (n0 := 512) (n1 := 32) (y 0) (y 1) := by
    funext a; apply Fin.ext
    match a with
    | ⟨0, _⟩ => rfl
    | ⟨1, _⟩ => rfl
  have e2 : ((cfg0.win 1).blk t).view.emb y = ix2 (n0 := 4096) (n1 := 32) ⟨512 * t.val + (y 0).val, by omega⟩ (y 1) := by
    funext a; apply Fin.ext
    match a with
    | ⟨0, _⟩ => show win0_1.index t (0 : Fin 2) * 512 + 1 * (y 0).val = 512 * t.val + (y 0).val; omega
    | ⟨1, _⟩ => show win0_1.index t (1 : Fin 2) * 32 + 1 * (y 1).val = (y 1).val; omega
  rw [e1, e2, g0]
  refine congrArg₂ (fun a b : BitVec 32 => a * 784#32 + b) ?_ (chosen_congr _ _ _ _ (block_row m c t (y 0) (by omega)) _)
  show BitVec.ofNat 32 (512 * t.val + (y 0).val) = BitVec.ofNat 32 (0 + (512 * t.val + (y 0).val))
  rw [Nat.zero_add]

/-- The point whose blocks hold row `i`. -/
def pt (i : S4096x32.Idx) : Fin cfg0.N := ⟨(i 0).val / 512, lt_of_lt_of_eq (by have h : (i 0).val < 4096 := (i 0).isLt; omega) N_0.symm⟩

theorem covered1 (i : S4096x32.Idx) : ∃ t : Fin cfg0.N, (cfg0.win 1).flush t = true ∧ i ∈ ((cfg0.win 1).blk t).view.set := by
  have h0 : (i 0).val < 4096 := (i 0).isLt
  have h1 : (i 1).val < 32 := (i 1).isLt
  obtain ⟨⟨hf, -⟩, -, -, ⟨b0, b1⟩, -⟩ := points (pt i)
  refine ⟨pt i, hf, ?_⟩
  show i ∈ ((View.whole main_v0_0).slice (win0_1.rect (pt i))).set
  rw [View.set_slice_whole, Rect.mem_set_unit]
  intro a
  have b0' : win0_1.index (pt i) (0 : Fin 2) = (i 0).val / 512 := b0
  match a with
  | ⟨0, _⟩ => show win0_1.index (pt i) (0 : Fin 2) * 512 ≤ (i 0).val ∧ (i 0).val < win0_1.index (pt i) (0 : Fin 2) * 512 + 512; omega
  | ⟨1, _⟩ => show win0_1.index (pt i) (1 : Fin 2) * 32 ≤ (i 1).val ∧ (i 1).val < win0_1.index (pt i) (1 : Fin 2) * 32 + 32; omega

theorem covered2 (i : S4096x32.Idx) : ∃ t : Fin cfg0.N, (cfg0.win 2).flush t = true ∧ i ∈ ((cfg0.win 2).blk t).view.set := by
  have h0 : (i 0).val < 4096 := (i 0).isLt
  have h1 : (i 1).val < 32 := (i 1).isLt
  obtain ⟨⟨-, hf⟩, -, -, -, b0, b1⟩ := points (pt i)
  refine ⟨pt i, hf, ?_⟩
  show i ∈ ((View.whole main_v0_1).slice (win0_2.rect (pt i))).set
  rw [View.set_slice_whole, Rect.mem_set_unit]
  intro a
  have b0' : win0_2.index (pt i) (0 : Fin 2) = (i 0).val / 512 := b0
  match a with
  | ⟨0, _⟩ => show win0_2.index (pt i) (0 : Fin 2) * 512 ≤ (i 0).val ∧ (i 0).val < win0_2.index (pt i) (0 : Fin 2) * 512 + 512; omega
  | ⟨1, _⟩ => show win0_2.index (pt i) (1 : Fin 2) * 32 ≤ (i 1).val ∧ (i 1).val < win0_2.index (pt i) (1 : Fin 2) * 32 + 32; omega

/-- The kernel's run: its result arrays hold the choice, its argument is as launched. -/
theorem run_value (ρ : Dev nD → PrngReg) : θ_run defs (onTc (τ := τ) (main (F := Ideal))) ⟨m, fun _ => 0, ρ⟩ fun r => ∀ c : Dev nD,
      r.2.mem ((c : Thread nD τ).loc main_v0_0) = result0 m c
      ∧ r.2.mem ((c : Thread nD τ).loc main_v0_1) = result1 m c
      ∧ r.2.mem ((c : Thread nD τ).loc main_arg0) = m ((c : Thread nD τ).loc main_arg0) :=
  (θ_run defs _ _).mono (fun r h c => ⟨((h c).1 1).trans ((dats m 0 c).arrAt_eq_of_cover 1 _ (fun t _ => flushed1_eq m c t) covered1),
      ((h c).1 2).trans ((dats m 0 c).arrAt_eq_of_cover 2 _ (fun t _ => flushed2_eq m c t) covered2),
      ((h c).1 0).trans (((dats m 0 c).arrAt_in 0 rfl _).trans ((A_eq m c 0).trans (V_main_arg0 m c)))⟩)
    (run_main m ρ)

/-! ## The precondition and the reference -/

/-- The precondition says that every value is greater than the constant. -/
theorem above_of_pre (x : FVec Ideal (Mx 4096 784) .f32) (h : Cert.Pre_maxima_above_mask.fn (F := Ideal) x = fun _ => 1#1)
    (q : (Mx 4096 784).Idx) : mask < x q := by
  have e := congrFun h (fun a => a.elim0)
  dsimp only [Cert.Pre_maxima_above_mask.fn] at e
  haveI : Subsingleton Cert.Pre_maxima_above_mask.S_.Idx := ⟨fun a b => funext fun z => z.elim0⟩
  have e' := Host.reduce_andi_all _ _ _ _ _ e q
  have e'' : BitVec.ofBool (decide (mask < x q)) = 1#1 := e'
  by_contra hn
  rw [decide_eq_false hn] at e''
  exact absurd e'' (by decide)

/-- A row's positions, sorted by descending value, begin with those chosen. -/
theorem row_chosen {n : ℕ} (x : FVec Ideal (Mx n 784) .f32) (r : Fin n) (k : Fin 32) (hk : 32 ≤ 784) (hC : ∀ q, mask < (x q : EReal)) :
    sortedFrom (fun a b : Fin 784 => decide ((x (ix2 r b) : EReal) < x (ix2 r a))) (k.castLE hk)
      = sel (N := 784) (by decide) mask (fun j => x (ix2 r j)) Fin.val k.val :=
  (sortedFrom_value (fun a : Fin 784 => (x (ix2 r a) : EReal)) (k.castLE hk)).trans
    (sortedFrom_before (N := 784) (by decide) mask (fun a : Fin 784 => (x (ix2 r a) : EReal)) Fin.val Fin.val_injective (fun j => hC _) hk k)

/-- The host's comparison of two entries of a row. -/
theorem host_cmp {n : ℕ} (x : FVec Ideal (Mx n 784) .f32) (r : Fin n) (p : Fin 784) :
    (fun a b : Fin 784 => FloatOps.cmpfTotal (F := Ideal) (φ := .f32) .gt
      (x ((ix2 (n0 := n) (n1 := 784) r p).along 1 a)) (x ((ix2 (n0 := n) (n1 := 784) r p).along 1 b)) == 1#1)
      = fun a b => decide ((x (ix2 r b) : EReal) < x (ix2 r a)) := by
  have hal : ∀ a : Fin 784, (ix2 (n0 := n) (n1 := 784) r p).along 1 a = ix2 r a := fun a => by
    funext b
    match b with
    | ⟨0, _⟩ => rfl
    | ⟨1, _⟩ => rfl
  funext a b
  rw [hal, hal]
  show (BitVec.ofBool (decide ((x (ix2 r b) : EReal) < x (ix2 r a))) == 1#1) = _
  cases decide ((x (ix2 r b) : EReal) < x (ix2 r a)) <;> rfl

/-- The host's sorted positions, read. -/
theorem host_sorted {n N : ℕ} {α : Type} (cmp : α × BitVec 32 → α × BitVec 32 → BitVec 1) (x : (Mx n N).Idx → α) (r : Fin n) (p : Fin N) :
    (Host.sort2 (Mx n N) 1 cmp x (iotaInDim (Mx n N) 32 1)).2 (ix2 r p)
      = BitVec.ofNat 32 (sortedFrom (n := N) (fun a b =>
        cmp (x ((ix2 (n0 := n) (n1 := N) r p).along 1 a), iotaInDim (Mx n N) 32 1 ((ix2 (n0 := n) (n1 := N) r p).along 1 a))
          (x ((ix2 (n0 := n) (n1 := N) r p).along 1 b), iotaInDim (Mx n N) 32 1 ((ix2 (n0 := n) (n1 := N) r p).along 1 b)) == 1#1) p).val := by
  rw [Host.sort2, dif_pos (show 1 < (Mx n N).rank from Nat.lt_succ_self 1)]
  rfl

/-- The positions that the host's sort puts first are those chosen. -/
theorem host_chosen {n : ℕ} (x : FVec Ideal (Mx n 784) .f32) (h : (Mx n 784).Slices (fun _ => 0) (Mx n 32)) (hC : ∀ q, mask < (x q : EReal)) :
    (Host.topK (Mx n 32) 1 (FloatOps.cmpfTotal .gt) x h).2 = chosen x := by
  funext y
  obtain ⟨r, k, rfl⟩ : ∃ (r : Fin n) (k : Fin 32), y = ix2 r k := ⟨y 0, y 1, ValueIdx.eq_ix2 y⟩
  have hk : (32 : ℕ) ≤ 784 := by decide
  show extractStridedSlice (Mx n 32) (fun _ => 0) (Host.sort2 (Mx n 784) 1 (fun a b : Ideal .f32 × BitVec 32 =>
    FloatOps.cmpfTotal (F := Ideal) (φ := .f32) .gt a.1 b.1) x (iotaInDim (Mx n 784) 32 1)).2 h (ix2 r k) = _
  refine (extractStridedSlice_apply _ _ h (ix2 r k) (ix2 (n0 := n) (n1 := 784) r (k.castLE hk)) ?_).trans ?_
  · intro a
    match a with
    | ⟨0, _⟩ => exact (Nat.zero_add _).symm
    | ⟨1, _⟩ => exact (Nat.zero_add _).symm
  refine (host_sorted _ x r (k.castLE hk)).trans ?_
  rw [host_cmp, row_chosen x r k hk hC]
  rfl

/-- The reference numbers the chunks through all rows alike. -/
theorem host_numbered (x : FVec Ideal (Mx 4096 784) .f32) (v : IVec (Mx 4096 32) 32) (hv : v = chosen x)
    (h1 : (Mx 4096 1).BroadcastsInDim (Mx 4096 32) ![0, 1]) (h2 : (Vx 4096).BroadcastsInDim (Mx 4096 1) ![0])
    {u : Shape} (d : Fin u.rank → Fin 2) (h3 : u.BroadcastsInDim (Mx 4096 1) d) :
    addi (broadcastInDim (Mx 4096 32) ![0, 1] h1 (muli (broadcastInDim (Mx 4096 1) ![0] h2 (iotaInDim (Vx 4096) 32 0))
      (broadcastInDim (Mx 4096 1) d h3 (constantI u 32 784#32)))) v = numbered (n := 4096) 0 x := by
  subst hv
  funext y
  obtain ⟨r, k, rfl⟩ : ∃ (r : Fin 4096) (k : Fin 32), y = ix2 r k := ⟨y 0, y 1, ValueIdx.eq_ix2 y⟩
  refine congrArg (fun a : BitVec 32 => a + chosen (n := 4096) x (ix2 r k)) ?_
  refine (broadcastInDim_apply _ h1 _ (ix2 r k) (ix2 (n0 := 4096) (n1 := 1) r 0) ?_).trans ?_
  · intro a
    match a with
    | ⟨0, _⟩ => rfl
    | ⟨1, _⟩ => rfl
  refine congrArg (fun a : BitVec 32 => a * 784#32) ?_
  refine (broadcastInDim_apply _ h2 _ (ix2 (n0 := 4096) (n1 := 1) r 0) (ix1 r) ?_).trans ?_
  · intro a
    match a with
    | ⟨0, _⟩ => rfl
  show BitVec.ofNat 32 r.val = BitVec.ofNat 32 (0 + r.val)
  rw [Nat.zero_add]

end Cert.Proof.Select

end
-- ==== Proof.CandRounds.lean ====
/-
  The choice of the candidates, one block of rows: the body's thirty-two rounds are the rounds of RoundVec.lean, with the
  candidates' keys for numbers, and its two outputs are the keys that the rounds pick and the softmax of the values they find.
-/
module

public import proofs.«01_k».proof.Proof.RoundVec
public import proofs.«01_k».proof.Proof.Gen.CandidatesIdeal.Frame

@[expose] public section

set_option maxRecDepth 16384

noncomputable section

namespace Cert.Proof.Cand
open Cert.CandidatesIdeal Cert.CandidatesIdeal.Gen Cert.Proof.Rounds Cert.Proof.RoundVec

open Idealize.ShloMosaic hiding ix1 ix2 ix3
open Idealize.ShloMosaic.TcCoe
open Idealize.ShloMosaic.ValueIdx

/-! ## The body's values in rounds -/

/-- The block after `k` rounds. -/
abbrev D (G : IVec S128x4096 32) (x : FVec Ideal S128x4096 .f32) (k : ℕ) : FVec Ideal S128x4096 .f32 :=
  data reduces_S128x4096_S128 shapeCasts_S128_S128x1 broadcasts_S128x1_S128x4096 G x k

/-- The greatest values of `x`'s rows. -/
abbrev T (x : FVec Ideal S128x4096 .f32) : FVec Ideal S128x1 .f32 := top reduces_S128x4096_S128 shapeCasts_S128_S128x1 x

/-- What a round on `x` picks. -/
abbrev P (G : IVec S128x4096 32) (x : FVec Ideal S128x4096 .f32) : IVec S128x1 32 :=
  pick reduces_S128x4096_S128 shapeCasts_S128_S128x1 broadcasts_S128x1_S128x4096 G x

/-- Where `x` has its row's greatest value. -/
def hit (x : FVec Ideal S128x4096 .f32) : IVec S128x4096 1 := cmpf .oeq x (broadcastTo S128x4096 (T x) broadcasts_S128x1_S128x4096)

/-- The key there, a large number elsewhere. -/
def cand (G : IVec S128x4096 32) (x : FVec Ideal S128x4096 .f32) : IVec S128x4096 32 := select (hit x) G (broadcast S128x4096 1073741824#32)

/-- Where the round on `x` overwrites. -/
def mark (G : IVec S128x4096 32) (x : FVec Ideal S128x4096 .f32) : IVec S128x4096 1 :=
  cmpi .eq G (broadcastTo S128x4096 (P G x) broadcasts_S128x1_S128x4096)

section
variable (G : IVec S128x4096 32) (x : FVec Ideal S128x4096 .f32) (v : Vec Ideal S128x32 .i32)

theorem tops1 (x : Vec Ideal S128x4096 .f32) : k0_pay2 x = T (D (k0_pay1 (F := Ideal) v) x 0) ∧ k0_pay5 x v = T (D (k0_pay1 (F := Ideal) v) x 1)
    ∧ k0_pay8 x v = T (D (k0_pay1 (F := Ideal) v) x 2) := ⟨rfl, rfl, rfl⟩

theorem keys1 (x : Vec Ideal S128x4096 .f32) : k0_pay3 x v = P (k0_pay1 (F := Ideal) v) (D (k0_pay1 (F := Ideal) v) x 0)
    ∧ k0_pay6 x v = P (k0_pay1 (F := Ideal) v) (D (k0_pay1 (F := Ideal) v) x 1) ∧ k0_pay9 x v = P (k0_pay1 (F := Ideal) v) (D (k0_pay1 (F := Ideal) v) x 2) :=
  ⟨rfl, rfl, rfl⟩

theorem left1 (x : Vec Ideal S128x4096 .f32) : k0_pay7 x v = D (k0_pay1 (F := Ideal) v) x 2
    ∧ k0_pay10 x v = mark (k0_pay1 (F := Ideal) v) (D (k0_pay1 (F := Ideal) v) x 2) := ⟨rfl, rfl⟩

theorem tops2 : k0_pay12 x (mark G x) = T (D G x 1) ∧ k0_pay15 G x (mark G x) = T (D G x 2) ∧ k0_pay18 G x (mark G x) = T (D G x 3)
    ∧ k0_pay21 G x (mark G x) = T (D G x 4) := ⟨rfl, rfl, rfl, rfl⟩

theorem keys2 : k0_pay13 G x (mark G x) = P G (D G x 1) ∧ k0_pay16 G x (mark G x) = P G (D G x 2) ∧ k0_pay19 G x (mark G x) = P G (D G x 3) :=
  ⟨rfl, rfl, rfl⟩

theorem left2 : k0_pay20 G x (mark G x) = D G x 4 ∧ k0_pay22 G x (mark G x) = cand G (D G x 4) := ⟨rfl, rfl⟩

theorem tops3 : k0_pay25 G x (cand G x) = T (D G x 1) ∧ k0_pay28 G x (cand G x) = T (D G x 2) ∧ k0_pay31 G x (cand G x) = T (D G x 3)
    ∧ k0_pay34 G x (cand G x) = T (D G x 4) := ⟨rfl, rfl, rfl, rfl⟩

theorem keys3 : k0_pay23 (cand G x) = P G (D G x 0) ∧ k0_pay26 G x (cand G x) = P G (D G x 1) ∧ k0_pay29 G x (cand G x) = P G (D G x 2)
    ∧ k0_pay32 G x (cand G x) = P G (D G x 3) := ⟨rfl, rfl, rfl, rfl⟩

theorem left3 : k0_pay33 G x (cand G x) = D G x 4 ∧ k0_pay35 G x (cand G x) = hit (D G x 4) := ⟨rfl, rfl⟩

theorem tops4 : k0_pay38 G x (hit x) = T (D G x 1) ∧ k0_pay41 G x (hit x) = T (D G x 2) ∧ k0_pay44 G x (hit x) = T (D G x 3) := ⟨rfl, rfl, rfl⟩

theorem keys4 : k0_pay36 G (hit x) = P G (D G x 0) ∧ k0_pay39 G x (hit x) = P G (D G x 1) ∧ k0_pay42 G x (hit x) = P G (D G x 2)
    ∧ k0_pay45 G x (hit x) = P G (D G x 3) := ⟨rfl, rfl, rfl, rfl⟩

theorem left4 : k0_pay46 G x (hit x) = D G x 4 := rfl

theorem tops5 : k0_pay47 x = T (D G x 0) ∧ k0_pay50 G x = T (D G x 1) ∧ k0_pay53 G x = T (D G x 2) ∧ k0_pay56 G x = T (D G x 3) := ⟨rfl, rfl, rfl, rfl⟩

theorem keys5 : k0_pay48 G x = P G (D G x 0) ∧ k0_pay51 G x = P G (D G x 1) ∧ k0_pay54 G x = P G (D G x 2) ∧ k0_pay57 G x = P G (D G x 3) :=
  ⟨rfl, rfl, rfl, rfl⟩

theorem left5 : k0_pay55 G x = D G x 3 ∧ k0_pay58 G x = mark G (D G x 3) := ⟨rfl, rfl⟩

theorem tops6 : k0_pay60 x (mark G x) = T (D G x 1) ∧ k0_pay63 G x (mark G x) = T (D G x 2) ∧ k0_pay66 G x (mark G x) = T (D G x 3)
    ∧ k0_pay69 G x (mark G x) = T (D G x 4) := ⟨rfl, rfl, rfl, rfl⟩

theorem keys6 : k0_pay61 G x (mark G x) = P G (D G x 1) ∧ k0_pay64 G x (mark G x) = P G (D G x 2) ∧ k0_pay67 G x (mark G x) = P G (D G x 3) :=
  ⟨rfl, rfl, rfl⟩

theorem left6 : k0_pay68 G x (mark G x) = D G x 4 ∧ k0_pay70 G x (mark G x) = cand G (D G x 4) := ⟨rfl, rfl⟩

theorem tops7 : k0_pay73 G x (cand G x) = T (D G x 1) ∧ k0_pay76 G x (cand G x) = T (D G x 2) ∧ k0_pay79 G x (cand G x) = T (D G x 3)
    ∧ k0_pay82 G x (cand G x) = T (D G x 4) := ⟨rfl, rfl, rfl, rfl⟩

theorem keys7 : k0_pay71 (cand G x) = P G (D G x 0) ∧ k0_pay74 G x (cand G x) = P G (D G x 1) ∧ k0_pay77 G x (cand G x) = P G (D G x 2)
    ∧ k0_pay80 G x (cand G x) = P G (D G x 3) := ⟨rfl, rfl, rfl, rfl⟩

theorem left7 : k0_pay81 G x (cand G x) = D G x 4 ∧ k0_pay83 G x (cand G x) = hit (D G x 4) := ⟨rfl, rfl⟩

theorem tops8 : k0_pay86 G x (hit x) = T (D G x 1) ∧ k0_pay89 G x (hit x) = T (D G x 2) ∧ k0_pay92 G x (hit x) = T (D G x 3) := ⟨rfl, rfl, rfl⟩

theorem keys8 : k0_pay84 G (hit x) = P G (D G x 0) ∧ k0_pay87 G x (hit x) = P G (D G x 1) ∧ k0_pay90 G x (hit x) = P G (D G x 2)
    ∧ k0_pay93 G x (hit x) = P G (D G x 3) := ⟨rfl, rfl, rfl, rfl⟩

theorem left8 : k0_pay94 G x (hit x) = D G x 4 := rfl

end

/-- Rounds after rounds. -/
theorem D_D (G : IVec S128x4096 32) (x : FVec Ideal S128x4096 .f32) (a b : ℕ) : D G (D G x a) b = D G x (a + b) := by
  induction b with
  | zero => rfl
  | succ b ih => exact congrArg (next reduces_S128x4096_S128 shapeCasts_S128_S128x1 broadcasts_S128x1_S128x4096 G) ih

/-- The whole-block rectangles send an index to itself. -/
theorem emb_in (y : S128x4096.Idx) : r0_0.emb y = y := funext fun a => Fin.ext (by
  rw [Rect.emb_apply]
  match a with
  | ⟨0, _⟩ => show 0 + 1 * (y ⟨0, _⟩).val = _; omega
  | ⟨1, _⟩ => show 0 + 1 * (y ⟨1, _⟩).val = _; omega)

theorem emb_out (y : S128x32.Idx) : r0_1.emb y = y := funext fun a => Fin.ext (by
  rw [Rect.emb_apply]
  match a with
  | ⟨0, _⟩ => show 0 + 1 * (y ⟨0, _⟩).val = _; omega
  | ⟨1, _⟩ => show 0 + 1 * (y ⟨1, _⟩).val = _; omega)

section
variable (x : Vec Ideal S128x4096 .f32) (v : Vec Ideal S128x32 .i32)

theorem ld_eq : View.ld x r0_0 = x := funext fun y => congrArg x (emb_in y)
theorem ld_eq' : View.ld v r0_1 = v := funext fun y => congrArg v (emb_out y)

/-- The keys of the block's candidates. -/
abbrev K : IVec S128x4096 32 := k0_pay1 (F := Ideal) v

theorem pay104 : k0_pay104 x v = K v := by rw [k0_pay104, ld_eq']
theorem pay105 : k0_pay105 x v = D (K v) x 2 := by rw [k0_pay105, ld_eq, ld_eq']; exact (left1 v x).1
theorem pay106 : k0_pay106 x v = mark (K v) (D (K v) x 2) := by rw [k0_pay106, ld_eq, ld_eq']; exact (left1 v x).2
theorem pay107 : k0_pay107 x v = D (K v) x 6 := by rw [k0_pay107, pay104, pay105, pay106, (left2 _ _).1, D_D]
theorem pay108 : k0_pay108 x v = cand (K v) (D (K v) x 6) := by rw [k0_pay108, pay104, pay105, pay106, (left2 _ _).2, D_D]
theorem pay109 : k0_pay109 x v = D (K v) x 10 := by rw [k0_pay109, pay104, pay107, pay108, (left3 _ _).1, D_D]
theorem pay110 : k0_pay110 x v = hit (D (K v) x 10) := by rw [k0_pay110, pay104, pay107, pay108, (left3 _ _).2, D_D]
theorem pay111 : k0_pay111 x v = D (K v) x 14 := by rw [k0_pay111, pay104, pay109, pay110, left4, D_D]
theorem pay112 : k0_pay112 x v = D (K v) x 17 := by rw [k0_pay112, pay104, pay111, (left5 _ _).1, D_D]
theorem pay113 : k0_pay113 x v = mark (K v) (D (K v) x 17) := by rw [k0_pay113, pay104, pay111, (left5 _ _).2, D_D]
theorem pay114 : k0_pay114 x v = D (K v) x 21 := by rw [k0_pay114, pay104, pay112, pay113, (left6 _ _).1, D_D]
theorem pay115 : k0_pay115 x v = cand (K v) (D (K v) x 21) := by rw [k0_pay115, pay104, pay112, pay113, (left6 _ _).2, D_D]
theorem pay116 : k0_pay116 x v = D (K v) x 25 := by rw [k0_pay116, pay104, pay114, pay115, (left7 _ _).1, D_D]
theorem pay117 : k0_pay117 x v = hit (D (K v) x 25) := by rw [k0_pay117, pay104, pay114, pay115, (left7 _ _).2, D_D]
theorem pay118 : k0_pay118 x v = D (K v) x 29 := by rw [k0_pay118, pay104, pay116, pay117, left8, D_D]

end

/-- Thirty-two columns side by side make the block. -/
theorem concats {α : Type} {f : Fin 32 → S128x1.Idx → α} :
    Shape.Concatenates ((List.ofFn fun k : Fin 32 => (⟨S128x1, f k⟩ : (s : Shape) × (s.Idx → α))).map (·.1)) S128x32 1 := by
  have e : ((List.ofFn fun k : Fin 32 => (⟨S128x1, f k⟩ : (s : Shape) × (s.Idx → α))).map (·.1)) = List.replicate 32 S128x1 := by
    rw [List.map_ofFn]; exact List.ofFn_const 32 S128x1
  rw [e]
  decide

/-- Thirty-two columns side by side. -/
def beside {α : Type} (f : Fin 32 → S128x1.Idx → α) : S128x32.Idx → α :=
  concatenate S128x32 1 (List.ofFn fun k : Fin 32 => (⟨S128x1, f k⟩ : (s : Shape) × (s.Idx → α))) concats

theorem beside_apply {α : Type} (f : Fin 32 → S128x1.Idx → α) (r : Fin 128) (k : Fin 32) :
    beside f (ix2 r k) = f k (ix2 (n0 := 128) (n1 := 1) r 0) :=
  concatenate_ofFn_unit_apply (t := S128x32) (s₁ := S128x1) 1 f _ rfl rfl (ix2 r k) k rfl (ix2 (n0 := 128) (n1 := 1) r 0) fun b hb =>
    match b, hb with
    | ⟨0, _⟩, _ => rfl
    | ⟨1, _⟩, hb => absurd rfl hb

/-- The weights of the values found: their exponentials, less the first value, each divided by their sum. -/
def soft (s : FVec Ideal S128x32 .f32) : FVec Ideal S128x32 .f32 :=
  divf (exp (subf s (broadcastTo S128x32 (extractStridedSlice S128x1 ![0, 0] s slices_S128x32_o0_0_S128x1) broadcasts_S128x1_S128x32)))
    (broadcastTo S128x32 (shapeCast S128x1 (multiReduction .add [1] S128
      (exp (subf s (broadcastTo S128x32 (extractStridedSlice S128x1 ![0, 0] s slices_S128x32_o0_0_S128x1) broadcasts_S128x1_S128x32)))
      0x00000000#32 reduces_S128x32_S128 (.inl rfl) rfl) shapeCasts_S128_S128x1) broadcasts_S128x1_S128x32)

section
variable (G : IVec S128x4096 32) (x : FVec Ideal S128x4096 .f32)

theorem keys_all : k0_pay103 G (P G (D G x 0)) (P G (D G x 1)) (P G (D G x 2)) (P G (D G x 3)) (P G (D G x 4)) (P G (D G x 5)) (P G (D G x 6))
    (P G (D G x 7)) (P G (D G x 8)) (P G (D G x 9)) (P G (D G x 10)) (P G (D G x 11)) (P G (D G x 12)) (P G (D G x 13)) (P G (D G x 14))
    (P G (D G x 15)) (P G (D G x 16)) (P G (D G x 17)) (P G (D G x 18)) (P G (D G x 19)) (P G (D G x 20)) (P G (D G x 21)) (P G (D G x 22))
    (P G (D G x 23)) (P G (D G x 24)) (P G (D G x 25)) (P G (D G x 26)) (P G (D G x 27)) (P G (D G x 28)) (D G x 29)
    = beside fun k => P G (D G x k.val) := rfl

theorem tops_all : k0_pay102 G (T (D G x 0)) (T (D G x 1)) (T (D G x 2)) (T (D G x 3)) (T (D G x 4)) (T (D G x 5)) (T (D G x 6))
    (T (D G x 7)) (T (D G x 8)) (T (D G x 9)) (T (D G x 10)) (T (D G x 11)) (T (D G x 12)) (T (D G x 13)) (T (D G x 14))
    (T (D G x 15)) (T (D G x 16)) (T (D G x 17)) (T (D G x 18)) (T (D G x 19)) (T (D G x 20)) (T (D G x 21)) (T (D G x 22))
    (T (D G x 23)) (T (D G x 24)) (T (D G x 25)) (T (D G x 26)) (T (D G x 27)) (T (D G x 28)) (D G x 29)
    = soft (beside fun k => T (D G x k.val)) := rfl

end

section
variable (x : Vec Ideal S128x4096 .f32) (v : Vec Ideal S128x32 .i32)

theorem block3 : out0_3 x v = beside fun k => P (K v) (D (K v) x k.val) := by
  unfold out0_3
  rw [ld_eq, ld_eq', pay104, pay105, pay106, pay107, pay108, pay109, pay110, pay111, pay112, pay113, pay114, pay115, pay116, pay117, pay118]
  simp only [(keys1 v x).1, (keys1 v x).2.1, (keys1 v x).2.2, (keys2 _ _).1, (keys2 _ _).2.1, (keys2 _ _).2.2,
    (keys3 _ _).1, (keys3 _ _).2.1, (keys3 _ _).2.2.1, (keys3 _ _).2.2.2, (keys4 _ _).1, (keys4 _ _).2.1, (keys4 _ _).2.2.1, (keys4 _ _).2.2.2,
    (keys5 _ _).1, (keys5 _ _).2.1, (keys5 _ _).2.2.1, (keys5 _ _).2.2.2, (keys6 _ _).1, (keys6 _ _).2.1, (keys6 _ _).2.2,
    (keys7 _ _).1, (keys7 _ _).2.1, (keys7 _ _).2.2.1, (keys7 _ _).2.2.2, (keys8 _ _).1, (keys8 _ _).2.1, (keys8 _ _).2.2.1, (keys8 _ _).2.2.2,
    D_D, Nat.reduceAdd]
  rw [keys_all]
  funext y
  have h := View.canon_cons_emb (Val := Elt Ideal) (e := .i32) r0_1 (beside fun k => P (K v) (D (K v) x k.val)) [] y
  rw [emb_out y] at h
  exact h

theorem block2 : out0_2 x v = soft (beside fun k => T (D (K v) x k.val)) := by
  unfold out0_2
  rw [ld_eq, ld_eq', pay104, pay105, pay106, pay107, pay108, pay109, pay110, pay111, pay112, pay113, pay114, pay115, pay116, pay117, pay118]
  simp only [(tops1 v x).1, (tops1 v x).2.1, (tops1 v x).2.2, (tops2 _ _).1, (tops2 _ _).2.1, (tops2 _ _).2.2.1, (tops2 _ _).2.2.2,
    (tops3 _ _).1, (tops3 _ _).2.1, (tops3 _ _).2.2.1, (tops3 _ _).2.2.2, (tops4 _ _).1, (tops4 _ _).2.1, (tops4 _ _).2.2,
    (tops5 (K v) _).1, (tops5 _ _).2.1, (tops5 _ _).2.2.1, (tops5 _ _).2.2.2, (tops6 _ _).1, (tops6 _ _).2.1, (tops6 _ _).2.2.1, (tops6 _ _).2.2.2,
    (tops7 _ _).1, (tops7 _ _).2.1, (tops7 _ _).2.2.1, (tops7 _ _).2.2.2, (tops8 _ _).1, (tops8 _ _).2.1, (tops8 _ _).2.2,
    D_D, Nat.reduceAdd]
  rw [tops_all]
  funext y
  have h := View.canon_cons_emb (Val := Elt Ideal) (e := .f32) r0_1 (soft (beside fun k => T (D (K v) x k.val))) [] y
  rw [emb_out y] at h
  exact h

end

end Cert.Proof.Cand
-- ==== Proof.CandSpec.lean ====
/-
  The choice of the candidates: what the rounds of one block leave, read entry by entry. A row has 4096 values in 32 groups
  of 128, each group with a number of its own; a value's key is its group's number times 128 plus its place in the group.
  The rounds take the values in falling order, of equal values the one with the lesser key first.
-/
module

public import proofs.«01_k».proof.Proof.CandRounds

@[expose] public section

set_option maxRecDepth 16384

noncomputable section

namespace Cert.Proof.Cand
open Cert.CandidatesIdeal Cert.CandidatesIdeal.Gen Cert.Proof.Rounds Cert.Proof.RoundVec

open Idealize.ShloMosaic hiding ix1 ix2 ix3
open Idealize.ShloMosaic.TcCoe
open Idealize.ShloMosaic.ValueIdx

/-! ## The choice -/

/-- The group of a place in a row. -/
abbrev group (j : Fin 4096) : Fin 32 := ⟨j.val / 128, by have := j.isLt; omega⟩

/-- The key of a place in a row. -/
def num {n : ℕ} (v : IVec (Mx n 32) 32) (r : Fin n) (j : Fin 4096) : ℕ := (v (ix2 r (group j))).toNat * 128 + j.val % 128

/-- The place that round `k` takes in a row. -/
def pos {n : ℕ} (x : FVec Ideal (Mx n 4096) .f32) (v : IVec (Mx n 32) 32) (r : Fin n) (k : ℕ) : Fin 4096 :=
  sel (N := 4096) (by decide) mask (fun j => x (ix2 r j)) (num v r) k

/-- The keys of the places taken. -/
def keys {n : ℕ} (x : FVec Ideal (Mx n 4096) .f32) (v : IVec (Mx n 32) 32) : IVec (Mx n 32) 32 := fun y =>
  BitVec.ofNat 32 (num v (y 0) (pos x v (y 0) (y 1).val))

/-- The share of one of thirty-two values, by their exponentials less the first value. -/
def share (f : Fin 32 → EReal) (k : Fin 32) : EReal := Ideal.div (Ideal.exp (f k - f 0)) (∑ j, Ideal.exp (f j - f 0))

/-- The weights of the values taken. -/
def weights {n : ℕ} (x : FVec Ideal (Mx n 4096) .f32) (v : IVec (Mx n 32) 32) : FVec Ideal (Mx n 32) .f32 := fun y =>
  share (fun k => x (ix2 (y 0) (pos x v (y 0) k.val))) (y 1)

/-- What the rounds need of a row: its values greater than the constant that overwrites them, its groups' numbers small and
    different. -/
structure Apart {n : ℕ} (x : FVec Ideal (Mx n 4096) .f32) (v : IVec (Mx n 32) 32) (r : Fin n) : Prop where
  above : ∀ j, mask < (x (ix2 r j) : EReal)
  small : ∀ i, (v (ix2 r i)).toNat < 784
  apart : ∀ i i', v (ix2 r i) = v (ix2 r i') → i = i'

section
variable {n : ℕ} {x : FVec Ideal (Mx n 4096) .f32} {v : IVec (Mx n 32) 32} {r : Fin n}

theorem num_lt (h : Apart x v r) (j : Fin 4096) : num v r j < 2 ^ 30 := by
  have := h.small (group j)
  unfold num
  omega

theorem num_injective (h : Apart x v r) : Function.Injective (num v r) := fun j j' e => by
  unfold num at e
  have e1 : (v (ix2 r (group j))).toNat = (v (ix2 r (group j'))).toNat := by omega
  have e2 := congrArg Fin.val (h.apart _ _ (BitVec.eq_of_toNat_eq e1))
  have e3 : j.val / 128 = j'.val / 128 := e2
  exact Fin.ext (by omega)

/-- The key as a word. -/
theorem num_word (j : Fin 4096) : BitVec.ofNat 32 (num v r j) = v (ix2 r (group j)) * 128#32 + BitVec.ofNat 32 (j.val % 128) := by
  unfold num
  rw [BitVec.ofNat_add, BitVec.ofNat_mul, BitVec.ofNat_toNat, BitVec.setWidth_eq]

/-- Two matrices and numberings that agree along a row have its choice in common. -/
theorem pos_congr {n' : ℕ} {x' : FVec Ideal (Mx n' 4096) .f32} {v' : IVec (Mx n' 32) 32} {r' : Fin n'}
    (hx : ∀ j, x (ix2 r j) = x' (ix2 r' j)) (hv : ∀ i, v (ix2 r i) = v' (ix2 r' i)) (k : ℕ) : pos x v r k = pos x' v' r' k := by
  have e : (fun j => (x (ix2 r j) : EReal)) = fun j => x' (ix2 r' j) := funext hx
  have e' : num v r = num v' r' := funext fun j => by unfold num; rw [hv]
  unfold pos
  rw [e, e']

theorem keys_congr {n' : ℕ} {x' : FVec Ideal (Mx n' 4096) .f32} {v' : IVec (Mx n' 32) 32} {r' : Fin n'}
    (hx : ∀ j, x (ix2 r j) = x' (ix2 r' j)) (hv : ∀ i, v (ix2 r i) = v' (ix2 r' i)) (k : Fin 32) : keys x v (ix2 r k) = keys x' v' (ix2 r' k) := by
  show BitVec.ofNat 32 (num v r (pos x v r k.val)) = BitVec.ofNat 32 (num v' r' (pos x' v' r' k.val))
  rw [pos_congr hx hv]
  unfold num
  rw [hv]

theorem weights_congr {n' : ℕ} {x' : FVec Ideal (Mx n' 4096) .f32} {v' : IVec (Mx n' 32) 32} {r' : Fin n'}
    (hx : ∀ j, x (ix2 r j) = x' (ix2 r' j)) (hv : ∀ i, v (ix2 r i) = v' (ix2 r' i)) (k : Fin 32) : weights x v (ix2 r k) = weights x' v' (ix2 r' k) := by
  show share (fun k => x (ix2 r (pos x v r k.val))) k = share (fun k => x' (ix2 r' (pos x' v' r' k.val))) k
  refine congrArg (fun f => share f k) (funext fun k => ?_)
  rw [pos_congr hx hv, hx]

end

/-! ## The block's outputs -/

/-- The block's keys are the keys. -/
theorem K_apply (v : Vec Ideal S128x32 .i32) (r : Fin 128) (j : Fin 4096) : K v (ix2 r j) = BitVec.ofNat 32 (num (n := 128) v r j) := by
  have hj := j.isLt
  show shapeCast S128x4096 (addi (broadcastTo S128x32x128 (muli (shapeCast S128x32x1 v shapeCasts_S128x32_S128x32x1) (broadcast S128x32x1 128#32))
    broadcasts_S128x32x1_S128x32x128) (iota .tc S128x32x128 32 [2] iota_S128x32x128_d2_w32)) shapeCasts_S128x32x128_S128x4096 (ix2 r j) = _
  refine (shapeCast_apply _ shapeCasts_S128x32x128_S128x4096 (ix2 (n0 := 128) (n1 := 4096) r j)
    (ix3 (n0 := 128) (n1 := 32) (n2 := 128) r (group j) ⟨j.val % 128, Nat.mod_lt _ (by decide)⟩) ?_).trans ?_
  · rw [Shape.rowMajor_val_two, Shape.rowMajor_val_three]
    show (r.val * 32 + j.val / 128) * 128 + j.val % 128 = r.val * 4096 + j.val
    omega
  rw [num_word]
  refine congrArg₂ (fun a b : BitVec 32 => a + b) ?_ ?_
  · refine (broadcastTo_apply _ broadcasts_S128x32x1_S128x32x128 _ (ix3 (n0 := 128) (n1 := 32) (n2 := 1) r (group j) 0) ?_).trans ?_
    · intro a
      match a with
      | ⟨0, _⟩ => rfl
      | ⟨1, _⟩ => rfl
      | ⟨2, _⟩ => rfl
    · refine congrArg (fun a : BitVec 32 => a * 128#32) ?_
      refine shapeCast_apply _ shapeCasts_S128x32_S128x32x1 _ (ix2 (n0 := 128) (n1 := 32) r (group j)) ?_
      rw [Shape.rowMajor_val_two, Shape.rowMajor_val_three]
      show r.val * 32 + j.val / 128 = (r.val * 32 + j.val / 128) * 1 + 0
      omega
  · exact iota_single_apply .tc S128x32x128 32 2 iota_S128x32x128_d2_w32 _

/-- The weights of a matrix of values, read. -/
theorem soft_apply (s : FVec Ideal S128x32 .f32) (r : Fin 128) (k : Fin 32) : soft s (ix2 r k) = share (fun j => s (ix2 r j)) k := by
  have e : ∀ k : Fin 32, exp (subf s (broadcastTo S128x32 (extractStridedSlice S128x1 ![0, 0] s slices_S128x32_o0_0_S128x1) broadcasts_S128x1_S128x32)) (ix2 r k)
      = Ideal.exp (s (ix2 r k) - s (ix2 r 0)) := fun k => by
    refine congrArg (fun a : EReal => Ideal.exp (s (ix2 r k) - a)) ?_
    refine (spread_apply (n := 128) (N := 32) broadcasts_S128x1_S128x32 _ r k).trans ?_
    refine extractStridedSlice_apply _ _ slices_S128x32_o0_0_S128x1 _ (ix2 (n0 := 128) (n1 := 32) r 0) fun a => ?_
    match a with
    | ⟨0, _⟩ => exact (Nat.zero_add _).symm
    | ⟨1, _⟩ => rfl
  refine congrArg₂ Ideal.div (e k) ?_
  refine (spread_apply (n := 128) (N := 32) broadcasts_S128x1_S128x32 _ r k).trans ?_
  refine (column_apply (n := 128) shapeCasts_S128_S128x1 _ r).trans ?_
  refine (Ideal.reduceAdd_r2_a1 reduces_S128x32_S128 _ (ix1 r)).trans ?_
  exact Finset.sum_congr rfl fun j _ => e j

section
variable (x : Vec Ideal S128x4096 .f32) (v : Vec Ideal S128x32 .i32) (r : Fin 128) (k : Fin 32) (h : Apart (n := 128) x v r)
include h

theorem block3_apply : out0_3 x v (ix2 r k) = keys (n := 128) x v (ix2 r k) := by
  rw [block3, beside_apply]
  exact pick_data reduces_S128x4096_S128 shapeCasts_S128_S128x1 broadcasts_S128x1_S128x4096 (K v) x (by decide) r (num (n := 128) v r)
    (fun j => K_apply v r j) (num_lt h) k.val

theorem block2_apply : out0_2 x v (ix2 r k) = weights (n := 128) x v (ix2 r k) := by
  rw [block2, soft_apply]
  refine congrArg (fun f => share f k) (funext fun j => ?_)
  rw [beside_apply]
  exact top_data reduces_S128x4096_S128 shapeCasts_S128_S128x1 broadcasts_S128x1_S128x4096 (K v) x (by decide) r (num (n := 128) v r)
    (fun j => K_apply v r j) (num_lt h) (num_injective h) h.above j.val (by have := j.isLt; omega)

end

end Cert.Proof.Cand

end
-- ==== Proof.CandHost.lean ====
/-
  The choice of the candidates, the reference: its sort puts the places of a row in the order in which the rounds take
  them, so it begins with the same places, and its softmax of the values there is their shares.
-/
module

public import proofs.«01_k».proof.Proof.CandSpec
public import proofs.«01_k».proof.Proof.Gen.CandidatesReferenceIdeal.Run
public import proofs.«01_k».proof.Proof.Gen.Pre_candidates_apart
public import Idealize.ShloMosaic.Lib.ReduceAll
public import Idealize.ShloMosaic.Lib.KernelVsHost

@[expose] public section

set_option maxRecDepth 16384

noncomputable section

namespace Cert.Proof.Cand
open Cert.Proof.Rounds Cert.Proof.RoundVec

open Idealize.ShloMosaic hiding ix1 ix2 ix3
open Idealize.ShloMosaic.ValueIdx

/-! ## The order -/

/-- The host's sort of a row, read: the entries at the sorted places. -/
theorem sort_row {n N : ℕ} {α β : Type} (cmp : α × β → α × β → BitVec 1) (x : (Mx n N).Idx → α) (y : (Mx n N).Idx → β) (r : Fin n) (p : Fin N)
    (before' : Fin N → Fin N → Bool) (h : ∀ a b, (cmp (x (ix2 r a), y (ix2 r a)) (x (ix2 r b), y (ix2 r b)) == 1#1) = before' a b) :
    (Host.sort2 (Mx n N) 1 cmp x y).1 (ix2 r p) = x (ix2 r (sortedFrom before' p))
      ∧ (Host.sort2 (Mx n N) 1 cmp x y).2 (ix2 r p) = y (ix2 r (sortedFrom before' p)) := by
  have hal : ∀ a : Fin N, (ix2 (n0 := n) (n1 := N) r p).along 1 a = ix2 r a := fun a => by
    funext b
    match b with
    | ⟨0, _⟩ => rfl
    | ⟨1, _⟩ => rfl
  have e : (fun a b : Fin N => cmp (x ((ix2 (n0 := n) (n1 := N) r p).along 1 a), y ((ix2 (n0 := n) (n1 := N) r p).along 1 a))
      (x ((ix2 (n0 := n) (n1 := N) r p).along 1 b), y ((ix2 (n0 := n) (n1 := N) r p).along 1 b)) == 1#1) = before' := by
    funext a b
    rw [hal, hal]
    exact h a b
  rw [Host.sort2, dif_pos (show 1 < (Mx n N).rank from Nat.lt_succ_self 1), ← e]
  exact ⟨congrArg x (hal _), congrArg y (hal _)⟩

/-- The comparison's own form of a value is the value. -/
theorem plain (a : EReal) : (Scalar.select (FloatOps.cmpf (F := Ideal) (φ := .f32) .une a a) (FloatOps.ofBits (F := Ideal) .f32 0x7FC00000#32)
    (Scalar.select (FloatOps.cmpf (F := Ideal) (φ := .f32) .oeq a (FloatOps.ofBits (F := Ideal) .f32 0x00000000#32))
      (FloatOps.ofBits (F := Ideal) .f32 0x00000000#32) a) : EReal) = a := by
  show (if BitVec.ofBool (decide (a ≠ a)) = 1#1 then Ideal.ofBits .f32 0x7FC00000#32
    else if BitVec.ofBool (decide (a = Ideal.ofBits .f32 0x00000000#32)) = 1#1 then Ideal.ofBits .f32 0x00000000#32 else a) = a
  rw [if_neg (by simp)]
  split
  · next h =>
    by_contra hn
    rw [decide_eq_false (fun e => hn e.symm)] at h
    exact absurd h (by decide)
  · rfl

/-- The reference's comparison of two negated values with small keys. -/
theorem compare_eq (a b : EReal) (p q : ℕ) (hp : p < 2 ^ 30) (hq : q < 2 ^ 30) :
    (Cert.CandidatesReferenceIdeal.comparator_f32_i32_d1 (F := Ideal) (-a, BitVec.ofNat 32 p) (-b, BitVec.ofNat 32 q) == 1#1)
      = (decide (b < a) || (decide (a = b) && decide (p < q))) := by
  have hs : (BitVec.ofNat 32 p).slt (BitVec.ofNat 32 q) = decide (p < q) := by
    rw [BitVec.slt_eq_decide, toInt_small p hp, toInt_small q hq]
    exact decide_eq_decide.mpr (by omega)
  have h1 : decide (-a < -b) = decide (b < a) := decide_eq_decide.mpr EReal.neg_lt_neg_iff
  have h2 : decide (-a = -b) = decide (a = b) := decide_eq_decide.mpr neg_inj
  unfold Cert.CandidatesReferenceIdeal.comparator_f32_i32_d1
  simp only [plain]
  show (BitVec.ofBool (decide (-a < -b)) ||| (BitVec.ofBool (decide (-a = -b)) &&& BitVec.ofBool ((BitVec.ofNat 32 p).slt (BitVec.ofNat 32 q))) == 1#1) = _
  rw [hs, h1, h2]
  cases decide (b < a) <;> cases decide (a = b) <;> cases decide (p < q) <;> rfl

section
variable {n : ℕ} {x : FVec Ideal (Mx n 4096) .f32} {v : IVec (Mx n 32) 32} {r : Fin n}

/-- A row's places in the reference's order begin with those taken by the rounds. -/
theorem sorted_pos (h : Apart x v r) (k : Fin 32) (hk : 32 ≤ 4096) :
    sortedFrom (before (fun j => (x (ix2 r j) : EReal)) (num v r)) (k.castLE hk) = pos x v r k.val :=
  sortedFrom_before (N := 4096) (by decide) mask (fun j => (x (ix2 r j) : EReal)) (num v r) (num_injective h) h.above hk k

/-- The first value taken is the greatest. -/
theorem first_greatest (k : ℕ) : (x (ix2 r (pos x v r k)) : EReal) ≤ x (ix2 r (pos x v r 0)) :=
  le_first (N := 4096) (by decide) (fun j => (x (ix2 r j) : EReal)) (num v r) _

/-- The first thirty-two entries of the reference's sorted row. -/
theorem sorted_row (h : Apart x v r) (K : IVec (Mx n 4096) 32) (hK : ∀ j, K (ix2 r j) = BitVec.ofNat 32 (num v r j))
    (hs : (Mx n 4096).Slices ![0, 0] (Mx n 32)) (k : Fin 32) :
    extractStridedSlice (Mx n 32) ![0, 0] (Host.sort2 (Mx n 4096) 1 (Cert.CandidatesReferenceIdeal.comparator_f32_i32_d1 (F := Ideal)) (Host.negf x) K).1 hs (ix2 r k)
        = -(x (ix2 r (pos x v r k.val)) : EReal)
      ∧ extractStridedSlice (Mx n 32) ![0, 0] (Host.sort2 (Mx n 4096) 1 (Cert.CandidatesReferenceIdeal.comparator_f32_i32_d1 (F := Ideal)) (Host.negf x) K).2 hs (ix2 r k)
        = BitVec.ofNat 32 (num v r (pos x v r k.val)) := by
  have hk : (32 : ℕ) ≤ 4096 := by decide
  have e := sort_row (Cert.CandidatesReferenceIdeal.comparator_f32_i32_d1 (F := Ideal)) (Host.negf x) K r (k.castLE hk)
    (before (fun j => (x (ix2 r j) : EReal)) (num v r)) fun a b => by
      rw [hK, hK]
      exact compare_eq (x (ix2 r a)) (x (ix2 r b)) _ _ (num_lt h a) (num_lt h b)
  rw [sorted_pos h k hk] at e
  have ei : ∀ a : Fin 2, ((ix2 (n0 := n) (n1 := 4096) r (k.castLE hk)) a).val = (![0, 0] : Fin 2 → ℕ) a + ((ix2 (n0 := n) (n1 := 32) r k) a).val := fun a => by
    match a with
    | ⟨0, _⟩ => exact (Nat.zero_add _).symm
    | ⟨1, _⟩ => exact (Nat.zero_add _).symm
  exact ⟨(extractStridedSlice_apply _ _ hs (ix2 r k) (ix2 (n0 := n) (n1 := 4096) r (k.castLE hk)) ei).trans e.1,
    (extractStridedSlice_apply _ _ hs (ix2 r k) (ix2 (n0 := n) (n1 := 4096) r (k.castLE hk)) ei).trans (e.2.trans (hK _))⟩

end

/-! ## The weights -/

/-- The reference's softmax of rows that begin with their greatest value. -/
theorem host_soft {n : ℕ} {u : Shape} (s : FVec Ideal (Mx n 32) .f32) (hs : ∀ (r : Fin n) (k : Fin 32), (s (ix2 r k) : EReal) ≤ s (ix2 r 0))
    (h1 : (Mx n 1).BroadcastsInDim (Mx n 32) ![0, 1]) (h2 : (Vx n).BroadcastsInDim (Mx n 1) ![0]) (d : Fin u.rank → Fin (Vx n).rank)
    (h3 : u.BroadcastsInDim (Vx n) d) (h4 : (Mx n 32).ReducesTo [1] (Vx n)) (h5 : 0 < u.numel) (h4' : (Mx n 32).Reduces [1] (Vx n)) :
    Host.divf (Host.exp (subf s (broadcastInDim (Mx n 32) ![0, 1] h1 (broadcastInDim (Mx n 1) ![0] h2
        (maximumf (broadcastInDim (Vx n) d h3 (constant u .f32 0xFF800000#32)) (Host.reduce FloatOps.maximumf s (constant u .f32 0xFF800000#32) h4 h5))))))
      (broadcastInDim (Mx n 32) ![0, 1] h1 (broadcastInDim (Mx n 1) ![0] h2
        (Host.reduceAdd (Host.exp (subf s (broadcastInDim (Mx n 32) ![0, 1] h1 (broadcastInDim (Mx n 1) ![0] h2
          (maximumf (broadcastInDim (Vx n) d h3 (constant u .f32 0xFF800000#32)) (Host.reduce FloatOps.maximumf s (constant u .f32 0xFF800000#32) h4 h5))))))
          (constant u .f32 0x00000000#32) h4 h5)))
      = fun y => share (fun k => s (ix2 (y 0) k)) (y 1) := by
  have spread : ∀ (w : FVec Ideal (Vx n) .f32) (r : Fin n) (k : Fin 32),
      broadcastInDim (Mx n 32) ![0, 1] h1 (broadcastInDim (Mx n 1) ![0] h2 w) (ix2 r k) = w (ix1 r) := fun w r k => by
    refine (broadcastInDim_apply _ h1 _ (ix2 r k) (ix2 (n0 := n) (n1 := 1) r 0) fun a => ?_).trans ?_
    · match a with
      | ⟨0, _⟩ => show r.val = if n = 1 then 0 else r.val; have := r.isLt; split <;> omega
      | ⟨1, _⟩ => rfl
    · refine broadcastInDim_apply _ h2 _ (ix2 (n0 := n) (n1 := 1) r 0) (ix1 r) fun a => ?_
      match a with
      | ⟨0, _⟩ => show r.val = if n = 1 then 0 else r.val; have := r.isLt; split <;> omega
  have greatest : ∀ r : Fin n, maximumf (broadcastInDim (Vx n) d h3 (constant u .f32 0xFF800000#32))
      (Host.reduce FloatOps.maximumf s (constant u .f32 0xFF800000#32) h4 h5) (ix1 r) = s (ix2 r 0) := fun r => by
    have e : Host.reduce FloatOps.maximumf s (constant u .f32 0xFF800000#32) h4 h5 (ix1 r) = s (ix2 r 0) := by
      refine (congrFun (hostReduce_maximumf_eq_multiReduction (F := Ideal) (φ := .f32) s 0xFF800000#32 h4 h5 h4' (.inl rfl) rfl) (ix1 r)).trans ?_
      refine (multiReduction_maximumf_eq_fold (F := Ideal) (φ := .f32) s 0xFF800000#32 h4' (.inl rfl) rfl (ix1 r)).trans ?_
      refine (Shape.Reduces.fold_fiber_r2_a1 h4' (ix1 r) _ _ _).trans ?_
      refine Eq.trans ?_ (fold_max_eq (fun q : Fin 32 => (s (ix2 r q) : EReal)) 0 (hs r))
      rw [← ofBits_low]
      rfl
    exact (congrArg₂ (fun a b : EReal => max a b) ofBits_low e).trans (max_eq_right bot_le)
  have e : ∀ (r : Fin n) (k : Fin 32), Host.exp (subf s (broadcastInDim (Mx n 32) ![0, 1] h1 (broadcastInDim (Mx n 1) ![0] h2
        (maximumf (broadcastInDim (Vx n) d h3 (constant u .f32 0xFF800000#32)) (Host.reduce FloatOps.maximumf s (constant u .f32 0xFF800000#32) h4 h5))))) (ix2 r k)
      = Ideal.exp (s (ix2 r k) - s (ix2 r 0)) := fun r k =>
    congrArg (fun a : EReal => Ideal.exp (s (ix2 r k) - a)) ((spread _ r k).trans (greatest r))
  funext y
  obtain ⟨r, k, rfl⟩ : ∃ (r : Fin n) (k : Fin 32), y = ix2 r k := ⟨y 0, y 1, ValueIdx.eq_ix2 y⟩
  refine congrArg₂ Ideal.div (e r k) ?_
  refine (spread _ r k).trans ?_
  rw [Host.reduceAdd_apply, Ideal.hostReduceAdd_def]
  refine (Ideal.hostReduceAdd_r2_a1 _ _ _ (ix1 r)).trans ?_
  exact (congrArg₂ (· + ·) Ideal.ofBits_zero_f32 (Finset.sum_congr rfl fun j _ => e r j)).trans (zero_add _)

end Cert.Proof.Cand

end
-- ==== Proof.CandValue.lean ====
/-
  The choice of the candidates: when every row is as the rounds need it, the two arrays the kernel leaves are the weights
  and the keys of all rows, and the reference's results are the same two.
-/
module

public import proofs.«01_k».proof.Proof.CandHost

@[expose] public section

set_option maxRecDepth 16384

noncomputable section

namespace Cert.Proof.Cand
open Cert.CandidatesIdeal Cert.CandidatesIdeal.Gen Cert.Proof.Rounds Cert.Proof.RoundVec

open Idealize.ShloMosaic hiding ix1 ix2 ix3
open Idealize.ShloMosaic.TcCoe
open Idealize.ShloMosaic.ValueIdx
open Idealize.SL.Sem

/-! ## The kernel's arrays -/

/-- Every grid point's blocks are its 128 rows, and the outputs' are written back. -/
theorem points : ∀ t : Fin cfg0.N, ((cfg0.win 2).flush t = true ∧ (cfg0.win 3).flush t = true)
    ∧ (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ win0_3.index t (0 : Fin 2) = t.val ∧ win0_3.index t (1 : Fin 2) = 0 :=
  (by decide +kernel : ∀ t : Fin grid0.N, (win0_2.flush t = true ∧ win0_3.flush t = true)
    ∧ (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ win0_3.index t (0 : Fin 2) = t.val ∧ win0_3.index t (1 : Fin 2) = 0)

variable (m : (ℓ : Loc nD τ sig) → Buf (Elt Ideal) ℓ)

/-- The weights. -/
def result0 (c : Dev nD) : Buf (Elt Ideal) ((c : Thread nD τ).loc main_v0_0) :=
  weights (n := 4096) (m ((c : Thread nD τ).loc main_arg0)) (m ((c : Thread nD τ).loc main_arg1))

/-- The keys. -/
def result1 (c : Dev nD) : Buf (Elt Ideal) ((c : Thread nD τ).loc main_v0_1) :=
  keys (n := 4096) (m ((c : Thread nD τ).loc main_arg0)) (m ((c : Thread nD τ).loc main_arg1))

/-- Row `r` of the values' block at point `t` is row `128 t + r` of the values. -/
theorem value_row (c : Dev nD) (t : Fin cfg0.N) (r : Fin 128) (h : 128 * t.val + r.val < 4096) (k : Fin 4096) :
    (iblk m c 0 t) (ix2 (n0 := 128) (n1 := 4096) r k)
      = (m ((c : Thread nD τ).loc main_arg0)) (ix2 (n0 := 4096) (n1 := 4096) ⟨128 * t.val + r.val, h⟩ k) := by
  obtain ⟨-, ⟨a0, a1⟩, -, -, -⟩ := points t
  show V m c main_arg0 (((cfg0.win 0).blk t).view.emb (ix2 (n0 := 128) (n1 := 4096) r k)) = _
  rw [V_main_arg0]
  refine congrArg (m ((c : Thread nD τ).loc main_arg0)) (funext fun a => Fin.ext ?_)
  match a with
  | ⟨0, _⟩ => show win0_0.index t (0 : Fin 2) * 128 + 1 * r.val = 128 * t.val + r.val; omega
  | ⟨1, _⟩ => show win0_0.index t (1 : Fin 2) * 4096 + 1 * k.val = k.val; omega

/-- Row `r` of the numbers' block at point `t` is row `128 t + r` of the numbers. -/
theorem number_row (c : Dev nD) (t : Fin cfg0.N) (r : Fin 128) (h : 128 * t.val + r.val < 4096) (k : Fin 32) :
    (iblk m c 1 t) (ix2 (n0 := 128) (n1 := 32) r k)
      = (m ((c : Thread nD τ).loc main_arg1)) (ix2 (n0 := 4096) (n1 := 32) ⟨128 * t.val + r.val, h⟩ k) := by
  obtain ⟨-, -, ⟨a0, a1⟩, -, -⟩ := points t
  show V m c main_arg1 (((cfg0.win 1).blk t).view.emb (ix2 (n0 := 128) (n1 := 32) r k)) = _
  rw [V_main_arg1]
  refine congrArg (m ((c : Thread nD τ).loc main_arg1)) (funext fun a => Fin.ext ?_)
  match a with
  | ⟨0, _⟩ => show win0_1.index t (0 : Fin 2) * 128 + 1 * r.val = 128 * t.val + r.val; omega
  | ⟨1, _⟩ => show win0_1.index t (1 : Fin 2) * 32 + 1 * k.val = k.val; omega

section
variable (hA : ∀ (c : Dev nD) (r : Fin 4096), Apart (n := 4096) (m ((c : Thread nD τ).loc main_arg0)) (m ((c : Thread nD τ).loc main_arg1)) r)
include hA

/-- A row of the blocks is as the rounds need it. -/
theorem block_apart (c : Dev nD) (t : Fin cfg0.N) (r : Fin 128) (h : 128 * t.val + r.val < 4096) :
    Apart (n := 128) (iblk m c 0 t) (iblk m c 1 t) r where
  above j := by rw [value_row m c t r h j]; exact (hA c _).above j
  small i := by rw [number_row m c t r h i]; exact (hA c _).small i
  apart i i' e := (hA c ⟨128 * t.val + r.val, h⟩).apart i i' (by rwa [number_row m c t r h i, number_row m c t r h i'] at e)

theorem flushed2_eq (c : Dev nD) (t : Fin cfg0.N) : (dats m 0 c).flushed 2 t = ((cfg0.win 2).blk t).view.read (Elt Ideal) (result0 m c) := by
  show (cfg0.win 2).cut (grid0.coords t) ((dats m 0 c).after 2 t) = _
  rw [after0_2]
  obtain ⟨-, -, -, ⟨b0, b1⟩, -⟩ := points t
  funext y
  have hy0 : (y 0).val < 128 := (y 0).isLt
  have ht : t.val < 32 := lt_of_lt_of_eq t.isLt N_0
  have hr : 128 * t.val + (y 0).val < 4096 := by omega
  show out0_2 (iblk m c 0 t) (iblk m c 1 t) ((cfg0.win 2).xinj (grid0.coords t) y)
    = weights (n := 4096) (m ((c : Thread nD τ).loc main_arg0)) (m ((c : Thread nD τ).loc main_arg1)) (((cfg0.win 2).blk t).view.emb y)
  have e1 : (cfg0.win 2).xinj (grid0.coords t) y = ix2 (n0 := 128) (n1 := 32) (y 0) (y 1) := by
    funext a; apply Fin.ext
    match a with
    | ⟨0, _⟩ => rfl
    | ⟨1, _⟩ => rfl
  have e2 : ((cfg0.win 2).blk t).view.emb y = ix2 (n0 := 4096) (n1 := 32) ⟨128 * t.val + (y 0).val, hr⟩ (y 1) := by
    funext a; apply Fin.ext
    match a with
    | ⟨0, _⟩ => show win0_2.index t (0 : Fin 2) * 128 + 1 * (y 0).val = 128 * t.val + (y 0).val; omega
    | ⟨1, _⟩ => show win0_2.index t (1 : Fin 2) * 32 + 1 * (y 1).val = (y 1).val; omega
  rw [e1, e2]
  refine (block2_apply _ _ _ _ (block_apart m hA c t (y 0) hr)).trans ?_
  exact weights_congr (value_row m c t (y 0) hr) (number_row m c t (y 0) hr) _

theorem flushed3_eq (c : Dev nD) (t : Fin cfg0.N) : (dats m 0 c).flushed 3 t = ((cfg0.win 3).blk t).view.read (Elt Ideal) (result1 m c) := by
  show (cfg0.win 3).cut (grid0.coords t) ((dats m 0 c).after 3 t) = _
  rw [after0_3]
  obtain ⟨-, -, -, -, b0, b1⟩ := points t
  funext y
  have hy0 : (y 0).val < 128 := (y 0).isLt
  have ht : t.val < 32 := lt_of_lt_of_eq t.isLt N_0
  have hr : 128 * t.val + (y 0).val < 4096 := by omega
  show out0_3 (iblk m c 0 t) (iblk m c 1 t) ((cfg0.win 3).xinj (grid0.coords t) y)
    = keys (n := 4096) (m ((c : Thread nD τ).loc main_arg0)) (m ((c : Thread nD τ).loc main_arg1)) (((cfg0.win 3).blk t).view.emb y)
  have e1 : (cfg0.win 3).xinj (grid0.coords t) y = ix2 (n0 := 128) (n1 := 32) (y 0) (y 1) := by
    funext a; apply Fin.ext
    match a with
    | ⟨0, _⟩ => rfl
    | ⟨1, _⟩ => rfl
  have e2 : ((cfg0.win 3).blk t).view.emb y = ix2 (n0 := 4096) (n1 := 32) ⟨128 * t.val + (y 0).val, hr⟩ (y 1) := by
    funext a; apply Fin.ext
    match a with
    | ⟨0, _⟩ => show win0_3.index t (0 : Fin 2) * 128 + 1 * (y 0).val = 128 * t.val + (y 0).val; omega
    | ⟨1, _⟩ => show win0_3.index t (1 : Fin 2) * 32 + 1 * (y 1).val = (y 1).val; omega
  rw [e1, e2]
  refine (block3_apply _ _ _ _ (block_apart m hA c t (y 0) hr)).trans ?_
  exact keys_congr (value_row m c t (y 0) hr) (number_row m c t (y 0) hr) _

end

/-- The point whose blocks hold row `i`. -/
def pt (i : S4096x32.Idx) : Fin cfg0.N := ⟨(i 0).val / 128, lt_of_lt_of_eq (by have h : (i 0).val < 4096 := (i 0).isLt; omega) N_0.symm⟩

theorem covered2 (i : S4096x32.Idx) : ∃ t : Fin cfg0.N, (cfg0.win 2).flush t = true ∧ i ∈ ((cfg0.win 2).blk t).view.set := by
  have h0 : (i 0).val < 4096 := (i 0).isLt
  have h1 : (i 1).val < 32 := (i 1).isLt
  obtain ⟨⟨hf, -⟩, -, -, ⟨b0, b1⟩, -⟩ := points (pt i)
  refine ⟨pt i, hf, ?_⟩
  show i ∈ ((View.whole main_v0_0).slice (win0_2.rect (pt i))).set
  rw [View.set_slice_whole, Rect.mem_set_unit]
  intro a
  have b0' : win0_2.index (pt i) (0 : Fin 2) = (i 0).val / 128 := b0
  match a with
  | ⟨0, _⟩ => show win0_2.index (pt i) (0 : Fin 2) * 128 ≤ (i 0).val ∧ (i 0).val < win0_2.index (pt i) (0 : Fin 2) * 128 + 128; omega
  | ⟨1, _⟩ => show win0_2.index (pt i) (1 : Fin 2) * 32 ≤ (i 1).val ∧ (i 1).val < win0_2.index (pt i) (1 : Fin 2) * 32 + 32; omega

theorem covered3 (i : S4096x32.Idx) : ∃ t : Fin cfg0.N, (cfg0.win 3).flush t = true ∧ i ∈ ((cfg0.win 3).blk t).view.set := by
  have h0 : (i 0).val < 4096 := (i 0).isLt
  have h1 : (i 1).val < 32 := (i 1).isLt
  obtain ⟨⟨-, hf⟩, -, -, -, b0, b1⟩ := points (pt i)
  refine ⟨pt i, hf, ?_⟩
  show i ∈ ((View.whole main_v0_1).slice (win0_3.rect (pt i))).set
  rw [View.set_slice_whole, Rect.mem_set_unit]
  intro a
  have b0' : win0_3.index (pt i) (0 : Fin 2) = (i 0).val / 128 := b0
  match a with
  | ⟨0, _⟩ => show win0_3.index (pt i) (0 : Fin 2) * 128 ≤ (i 0).val ∧ (i 0).val < win0_3.index (pt i) (0 : Fin 2) * 128 + 128; omega
  | ⟨1, _⟩ => show win0_3.index (pt i) (1 : Fin 2) * 32 ≤ (i 1).val ∧ (i 1).val < win0_3.index (pt i) (1 : Fin 2) * 32 + 32; omega

/-- The kernel's run: its result arrays hold the weights and the keys, its arguments are as launched. -/
theorem run_value (hA : ∀ (c : Dev nD) (r : Fin 4096), Apart (n := 4096) (m ((c : Thread nD τ).loc main_arg0)) (m ((c : Thread nD τ).loc main_arg1)) r)
    (ρ : Dev nD → PrngReg) : θ_run defs (onTc (τ := τ) (main (F := Ideal))) ⟨m, fun _ => 0, ρ⟩ fun r => ∀ c : Dev nD,
      r.2.mem ((c : Thread nD τ).loc main_v0_0) = result0 m c
      ∧ r.2.mem ((c : Thread nD τ).loc main_v0_1) = result1 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans ((dats m 0 c).arrAt_eq_of_cover 2 _ (fun t _ => flushed2_eq m hA c t) covered2),
      ((h c).1 3).trans ((dats m 0 c).arrAt_eq_of_cover 3 _ (fun t _ => flushed3_eq m hA c t) covered3),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

/-! ## The precondition -/

theorem both_of_andi (a b : BitVec 1) (h : IntOp.andi a b = 1#1) : a = 1#1 ∧ b = 1#1 := by
  revert a b; decide

theorem small_of_words (v : BitVec 32) (h : IntOp.andi (IntOp.cmpi .sge v 0#32) (IntOp.cmpi .slt v 784#32) = 1#1) : v.toNat < 784 := by
  obtain ⟨h1, h2⟩ := both_of_andi _ _ h
  rw [IntOp.cmpi_sge] at h1
  rw [IntOp.cmpi_slt] at h2
  rw [BitVec.toInt_eq_toNat_cond] at h1 h2
  simp only [BitVec.toInt_eq_toNat_cond, BitVec.toNat_ofNat, Nat.reducePow, Nat.reduceMod] at h1 h2
  omega

/-- Of two words in the order's comparisons, one holds: they differ, or their places are one. -/
theorem same_place (a b : BitVec 32) (i i' : Fin 32)
    (h : IntOp.ori (IntOp.cmpi .ne a b) (IntOp.cmpi .eq (BitVec.ofNat 32 i.val) (BitVec.ofNat 32 i'.val)) = 1#1) (e : a = b) : i = i' := by
  subst e
  by_contra hn
  have hw : BitVec.ofNat 32 i.val ≠ BitVec.ofNat 32 i'.val := fun e => by
    have := congrArg BitVec.toNat e
    rw [BitVec.toNat_ofNat, BitVec.toNat_ofNat] at this
    exact hn (Fin.ext (by omega))
  have h' : BitVec.ofBool (a != a) ||| BitVec.ofBool (BitVec.ofNat 32 i.val == BitVec.ofNat 32 i'.val) = 1#1 := h
  rw [bne_self_eq_false, beq_eq_false_iff_ne.mpr hw] at h'
  exact absurd h' (by decide)

/-- The precondition says that every row is as the rounds need it. -/
theorem apart_of_pre (x : FVec Ideal (Mx 4096 4096) .f32) (v : IVec (Mx 4096 32) 32)
    (h : Cert.Pre_candidates_apart.fn (F := Ideal) x v = fun _ => 1#1) (r : Fin 4096) : Apart (n := 4096) x v r := by
  have e := congrFun h (fun a => a.elim0)
  dsimp only [Cert.Pre_candidates_apart.fn, Cert.Pre_candidates_apart.fn_part1] at e
  haveI : Subsingleton Cert.Pre_candidates_apart.S_.Idx := ⟨fun a b => funext fun z => z.elim0⟩
  obtain ⟨e12, e3⟩ := both_of_andi _ _ e
  obtain ⟨e1, e2⟩ := both_of_andi _ _ e12
  refine ⟨fun j => ?_, fun i => ?_, fun i i' => ?_⟩
  · have e' : BitVec.ofBool (decide (mask < (x (ix2 r j) : EReal))) = 1#1 := Host.reduce_andi_all _ _ _ _ _ e1 (ix2 (n0 := 4096) (n1 := 4096) r j)
    by_contra hn
    rw [decide_eq_false hn] at e'
    exact absurd e' (by decide)
  · exact small_of_words _ (Host.reduce_andi_all _ _ _ _ _ e2 (ix2 (n0 := 4096) (n1 := 32) r i))
  · have e' := Host.reduce_andi_all _ _ _ _ _ e3 (ix3 (n0 := 4096) (n1 := 32) (n2 := 32) r i i')
    refine same_place _ _ i i' (Eq.trans ?_ e')
    refine congrArg₂ IntOp.ori (congrArg₂ (IntOp.cmpi .ne) (Eq.symm ?_) (Eq.symm ?_)) (Eq.symm ?_)
    · refine (broadcastInDim_apply _ _ _ _ (ix3 (n0 := 4096) (n1 := 32) (n2 := 1) r i 0) fun a => ?_).trans
        (broadcastInDim_apply _ _ _ _ (ix2 (n0 := 4096) (n1 := 32) r i) fun a => ?_)
      · match a with
        | ⟨0, _⟩ => rfl
        | ⟨1, _⟩ => rfl
        | ⟨2, _⟩ => rfl
      · match a with
        | ⟨0, _⟩ => rfl
        | ⟨1, _⟩ => rfl
    · refine (broadcastInDim_apply _ _ _ _ (ix3 (n0 := 4096) (n1 := 1) (n2 := 32) r 0 i') fun a => ?_).trans
        (broadcastInDim_apply _ _ _ _ (ix2 (n0 := 4096) (n1 := 32) r i') fun a => ?_)
      · match a with
        | ⟨0, _⟩ => rfl
        | ⟨1, _⟩ => rfl
        | ⟨2, _⟩ => rfl
      · match a with
        | ⟨0, _⟩ => rfl
        | ⟨1, _⟩ => rfl
    · refine (broadcastInDim_apply _ _ _ _ (ix3 (n0 := 1) (n1 := 32) (n2 := 32) 0 i i') fun a => ?_).trans
        ((broadcastInDim_apply _ _ _ _ (ix2 (n0 := 32) (n1 := 32) i i') fun a => ?_).trans ?_)
      · match a with
        | ⟨0, _⟩ => rfl
        | ⟨1, _⟩ => rfl
        | ⟨2, _⟩ => rfl
      · match a with
        | ⟨0, _⟩ => rfl
        | ⟨1, _⟩ => rfl
      · refine congrArg₂ (IntOp.cmpi .eq) ?_ ?_
        · refine (broadcastInDim_apply _ _ _ _ (ix2 (n0 := 32) (n1 := 1) i 0) fun a => ?_).trans
            (broadcastInDim_apply _ _ _ _ (ix1 i) fun a => ?_)
          · match a with
            | ⟨0, _⟩ => rfl
            | ⟨1, _⟩ => rfl
          · match a with
            | ⟨0, _⟩ => rfl
        · refine (broadcastInDim_apply _ _ _ _ (ix2 (n0 := 1) (n1 := 32) 0 i') fun a => ?_).trans
            (broadcastInDim_apply _ _ _ _ (ix1 i') fun a => ?_)
          · match a with
            | ⟨0, _⟩ => rfl
            | ⟨1, _⟩ => rfl
          · match a with
            | ⟨0, _⟩ => rfl

/-! ## The reference -/

section
open Cert.CandidatesReferenceIdeal.Facts₀

/-- The reference's keys. -/
theorem host_keys (v : IVec (Mx 4096 32) 32) (r : Fin 4096) (j : Fin 4096) :
    shapeCast (Mx 4096 4096) (addi (broadcastInDim Cert.CandidatesReferenceIdeal.S4096x32x128 ![0, 1, 2] bcast_S4096x32x1_S4096x32x128_0_1_2
      (muli (broadcastInDim Cert.CandidatesReferenceIdeal.S4096x32x1 ![0, 1] bcast_S4096x32_S4096x32x1_0_1 v)
        (broadcastInDim Cert.CandidatesReferenceIdeal.S4096x32x1 ![] bcast_S_S4096x32x1 (constantI Cert.CandidatesReferenceIdeal.S_ 32 128#32))))
      (broadcastInDim Cert.CandidatesReferenceIdeal.S4096x32x128 ![0, 1, 2] bcast_S1x1x128_S4096x32x128_0_1_2
        (broadcastInDim Cert.CandidatesReferenceIdeal.S1x1x128 ![2] bcast_S128_S1x1x128_2 (iotaInDim Cert.CandidatesReferenceIdeal.S128 32 0))))
      shapeCasts_S4096x32x128_S4096x4096 (ix2 r j) = BitVec.ofNat 32 (num (n := 4096) v r j) := by
  have hj := j.isLt
  refine (shapeCast_apply _ shapeCasts_S4096x32x128_S4096x4096 (ix2 (n0 := 4096) (n1 := 4096) r j)
    (ix3 (n0 := 4096) (n1 := 32) (n2 := 128) r (group j) ⟨j.val % 128, Nat.mod_lt _ (by decide)⟩) ?_).trans ?_
  · rw [Shape.rowMajor_val_two, Shape.rowMajor_val_three]
    show (r.val * 32 + j.val / 128) * 128 + j.val % 128 = r.val * 4096 + j.val
    omega
  rw [num_word]
  refine congrArg₂ (fun a b : BitVec 32 => a + b) ?_ ?_
  · refine (broadcastInDim_apply _ bcast_S4096x32x1_S4096x32x128_0_1_2 _ _ (ix3 (n0 := 4096) (n1 := 32) (n2 := 1) r (group j) 0) fun a => ?_).trans ?_
    · match a with
      | ⟨0, _⟩ => rfl
      | ⟨1, _⟩ => rfl
      | ⟨2, _⟩ => rfl
    · refine congrArg (fun a : BitVec 32 => a * 128#32) ?_
      refine broadcastInDim_apply _ bcast_S4096x32_S4096x32x1_0_1 _ _ (ix2 (n0 := 4096) (n1 := 32) r (group j)) fun a => ?_
      match a with
      | ⟨0, _⟩ => rfl
      | ⟨1, _⟩ => rfl
  · refine (broadcastInDim_apply _ bcast_S1x1x128_S4096x32x128_0_1_2 _ _ (ix3 (n0 := 1) (n1 := 1) (n2 := 128) 0 0 ⟨j.val % 128, Nat.mod_lt _ (by decide)⟩) fun a => ?_).trans ?_
    · match a with
      | ⟨0, _⟩ => rfl
      | ⟨1, _⟩ => rfl
      | ⟨2, _⟩ => rfl
    · refine broadcastInDim_apply _ bcast_S128_S1x1x128_2 _ _ (ix1 (n := 128) ⟨j.val % 128, Nat.mod_lt _ (by decide)⟩) fun a => ?_
      match a with
      | ⟨0, _⟩ => rfl

end

section
variable {n : ℕ} (x : FVec Ideal (Mx n 4096) .f32) (v : IVec (Mx n 32) 32) (K : IVec (Mx n 4096) 32)
  (hA : ∀ r, Apart x v r) (hK : ∀ r j, K (ix2 r j) = BitVec.ofNat 32 (num v r j)) (hs : (Mx n 4096).Slices ![0, 0] (Mx n 32))
include hA hK

/-- The keys with which the reference's sorted rows begin are those of the rounds. -/
theorem sorted_keys : extractStridedSlice (Mx n 32) ![0, 0]
    (Host.sort2 (Mx n 4096) 1 (Cert.CandidatesReferenceIdeal.comparator_f32_i32_d1 (F := Ideal)) (Host.negf x) K).2 hs = keys x v := by
  funext y
  obtain ⟨r, k, rfl⟩ : ∃ (r : Fin n) (k : Fin 32), y = ix2 r k := ⟨y 0, y 1, ValueIdx.eq_ix2 y⟩
  exact (sorted_row (hA r) K (hK r) hs k).2

/-- The values with which they begin are those of the rounds. -/
theorem sorted_values : (Host.negf (extractStridedSlice (Mx n 32) ![0, 0]
    (Host.sort2 (Mx n 4096) 1 (Cert.CandidatesReferenceIdeal.comparator_f32_i32_d1 (F := Ideal)) (Host.negf x) K).1 hs) : FVec Ideal (Mx n 32) .f32)
      = fun y => x (ix2 (y 0) (pos x v (y 0) (y 1).val)) := by
  funext y
  obtain ⟨r, k, rfl⟩ : ∃ (r : Fin n) (k : Fin 32), y = ix2 r k := ⟨y 0, y 1, ValueIdx.eq_ix2 y⟩
  exact (congrArg (fun a : EReal => -a) (sorted_row (hA r) K (hK r) hs k).1).trans (neg_neg _)

end

end Cert.Proof.Cand

end
-- ==== Proof.lean ====
/-
  The proof of `Cert.Claim`: for each program the frames of the program, of the program at exact numbers and of the
  reference, and that the latter two compute the same arrays.
-/
module

public import proofs.«01_k».proof.Defs
public import proofs.«01_k».proof.Proof.Gen.Retrieve
public import proofs.«01_k».proof.Proof.Gen.RetrieveIdeal
public import proofs.«01_k».proof.Proof.Gen.RetrieveIdeal.Skeleton
public import proofs.«01_k».proof.Proof.Gen.RetrieveIdeal.Launch
public import proofs.«01_k».proof.Proof.Gen.RetrieveIdeal.Points
public import proofs.«01_k».proof.Proof.Gen.RetrieveReferenceIdeal
public import proofs.«01_k».proof.Proof.Gen.RetrieveReferenceIdeal.Run
public import proofs.«01_k».proof.Proof.Gen.Pre_rows_in_range
public import proofs.«01_k».proof.Proof.Gen.Chunks
public import proofs.«01_k».proof.Proof.Gen.ChunksIdeal
public import proofs.«01_k».proof.Proof.Gen.ChunksIdeal.Skeleton
public import proofs.«01_k».proof.Proof.Gen.ChunksReferenceIdeal
public import proofs.«01_k».proof.Proof.Gen.ChunksReferenceIdeal.Run
public import proofs.«01_k».proof.Proof.Gen.Pre_chunks_in_range
public import proofs.«01_k».proof.Proof.Gen.Normalize.Frame
public import proofs.«01_k».proof.Proof.Gen.NormalizeIdeal.Value
public import proofs.«01_k».proof.Proof.Gen.NormalizeReferenceIdeal.Run
public import proofs.«01_k».proof.Proof.Gen.Similarity.Frame
public import proofs.«01_k».proof.Proof.Gen.SimilarityIdeal.Value
public import proofs.«01_k».proof.Proof.Gen.SimilarityReferenceIdeal.Run
public import proofs.«01_k».proof.Proof.Gen.Select.Frame
public import proofs.«01_k».proof.Proof.Gen.SelectIdeal.Frame
public import proofs.«01_k».proof.Proof.Gen.SelectReferenceIdeal.Run
public import proofs.«01_k».proof.Proof.Gen.Pre_maxima_above_mask
public import proofs.«01_k».proof.Proof.Gen.Candidates.Frame
public import proofs.«01_k».proof.Proof.Gen.CandidatesIdeal.Frame
public import proofs.«01_k».proof.Proof.Gen.CandidatesReferenceIdeal.Run
public import proofs.«01_k».proof.Proof.Gen.Pre_candidates_apart
public import proofs.«01_k».proof.Proof.Value
public import proofs.«01_k».proof.Proof.ChunkValue
public import proofs.«01_k».proof.Proof.NormValue
public import proofs.«01_k».proof.Proof.SimValue
public import proofs.«01_k».proof.Proof.SelectValue
public import proofs.«01_k».proof.Proof.CandValue
public import Idealize.ShloMosaic.Lib.Quiescent

@[expose] public section

noncomputable section

namespace Cert.Proof

open Idealize.ShloMosaic Idealize.SL.Sem

namespace Tail

/-- The two programs have one text, so one table of kernel bodies, label by label. -/
theorem bodies_eq : Cert.Retrieve.defs₀ (F := Bits) = Cert.RetrieveIdeal.defs₀ (F := Bits) := by
  funext p ℓ a
  match p, ℓ, a with
  | .scVector _ _, 0, _ => rfl
  | .tc, 1, (_, _) => rfl
  | .tc, 0, _ => rfl
  | .scScalar _, _, _ => rfl
  | .scVector _ _, 1, _ => rfl

/-- And one table of definitions. -/
theorem defs_eq : Cert.Retrieve.defs (F := Bits) = Cert.RetrieveIdeal.defs (F := Bits) :=
  congrArg (fun D => (Cert.RetrieveIdeal.sc (F := Bits)).defs (Pipeline.defs Cert.RetrieveIdeal.pcfgs D)) bodies_eq

/-- The program runs at floats: the run at any floats, read at these. -/
theorem frame : Cert.quiescent_Retrieve := fun m ρ hpre => by
  have h : θ_run (Cert.RetrieveIdeal.defs (F := Bits)) Cert.RetrieveIdeal.threads ⟨m, fun _ => 0, ρ⟩ fun r =>
      (∀ c : Dev Cert.RetrieveIdeal.nD, r.2.mem ((SparseCore.T c).loc Cert.RetrieveIdeal.main_arg0) = m ((SparseCore.T c).loc Cert.RetrieveIdeal.main_arg0)
        ∧ r.2.mem ((SparseCore.T c).loc Cert.RetrieveIdeal.main_arg1) = m ((SparseCore.T c).loc Cert.RetrieveIdeal.main_arg1)
        ∧ r.2.mem ((SparseCore.T c).loc Cert.RetrieveIdeal.main_arg2) = m ((SparseCore.T c).loc Cert.RetrieveIdeal.main_arg2)) ∧ r.2.sem = fun _ => 0 :=
    (θ_run Cert.RetrieveIdeal.defs _ _).mono (fun _ h => ⟨fun c => (h.1 c).2, h.2⟩)
      (run_main (F := Bits) m ρ (ix_in_range m fun d => in_range_of_pre _ _ _ (hpre d)))
  rw [← defs_eq] at h
  exact h

/-- The program runs at exact numbers. -/
theorem frame_ideal : Cert.quiescent_RetrieveIdeal := fun m ρ hpre =>
  (θ_run Cert.RetrieveIdeal.defs _ _).mono (fun _ h => ⟨fun c => (h.1 c).2, h.2⟩)
    (run_main (F := Ideal) m ρ (ix_in_range m fun d => in_range_of_pre _ _ _ (hpre d)))

/-- The reference runs. -/
theorem frame_reference : Cert.quiescent_RetrieveReferenceIdeal := fun m ρ _ =>
  (θ_run Cert.RetrieveReferenceIdeal.defs _ _).mono (fun r h => ⟨fun c => (h c).2, sem_eq_zero_of_no_sems (by decide) r.2⟩)
    (Cert.RetrieveReferenceIdeal.Value.run (F := Ideal) m ρ)

/-- Program and reference compute the retrieval of the arguments. -/
theorem values : Cert.algebraic_RetrieveIdeal_RetrieveReferenceIdeal := fun m ρ m' ρ' hpre hargs => by
  have hin : ∀ d q, (idx m d q).toNat < 100000 := fun d => in_range_of_pre _ _ _ (hpre d)
  refine ⟨fun c => result m c, ?_, ?_⟩
  · exact (θ_run Cert.RetrieveIdeal.defs _ _).mono (fun _ h c => h.1 c) (run_main (F := Ideal) m ρ (ix_in_range m hin))
  · refine (θ_run Cert.RetrieveReferenceIdeal.defs _ _).mono (fun _ h c => ⟨(h c).1.trans ?_, (h c).2⟩)
      (Cert.RetrieveReferenceIdeal.Value.run (F := Ideal) m' ρ')
    obtain ⟨h0, h1, h2⟩ := hargs c
    show refResult (m' ((SparseCore.T c).loc Cert.RetrieveReferenceIdeal.main_arg0)) (m' ((SparseCore.T c).loc Cert.RetrieveReferenceIdeal.main_arg1))
      (m' ((SparseCore.T c).loc Cert.RetrieveReferenceIdeal.main_arg2)) = result m c
    refine Eq.trans ?_ ((refResult_eq (idx m c) (hin c) (vals m c) (wts m c)).trans (result_eq m c).symm)
    exact congr (congrArg₂ refResult h0 h1) h2

end Tail

namespace Chunks

/-- The two programs have one text, so one table of kernel bodies, label by label. -/
theorem bodies_eq : Cert.Chunks.defs₀ (F := Bits) = Cert.ChunksIdeal.defs₀ (F := Bits) := by
  funext p ℓ a
  match p, ℓ, a with
  | .scVector _ _, 0, _ => rfl
  | .tc, 0, _ => rfl
  | .scScalar _, 0, _ => rfl

/-- And one table of definitions. -/
theorem defs_eq : Cert.Chunks.defs (F := Bits) = Cert.ChunksIdeal.defs (F := Bits) :=
  congrArg (fun D => (Cert.ChunksIdeal.sc (F := Bits)).defs (Pipeline.defs Cert.ChunksIdeal.pcfgs D)) bodies_eq

/-- The program runs at floats: the run at any floats, read at these. -/
theorem frame : Cert.quiescent_Chunks := fun m ρ hpre => by
  have h : θ_run (Cert.ChunksIdeal.defs (F := Bits)) Cert.ChunksIdeal.threads ⟨m, fun _ => 0, ρ⟩ fun r =>
      (∀ c : Dev Cert.ChunksIdeal.nD, r.2.mem ((SparseCore.T c).loc Cert.ChunksIdeal.main_arg0) = m ((SparseCore.T c).loc Cert.ChunksIdeal.main_arg0)
        ∧ r.2.mem ((SparseCore.T c).loc Cert.ChunksIdeal.main_arg1) = m ((SparseCore.T c).loc Cert.ChunksIdeal.main_arg1)) ∧ r.2.sem = fun _ => 0 :=
    (θ_run Cert.ChunksIdeal.defs _ _).mono (fun _ h => ⟨fun c => (h.1 c).2, h.2⟩)
      (run_main (F := Bits) m ρ (ix_in_range m fun d => in_range_of_pre _ _ (hpre d)))
  rw [← defs_eq] at h
  exact h

/-- The program runs at exact numbers. -/
theorem frame_ideal : Cert.quiescent_ChunksIdeal := fun m ρ hpre =>
  (θ_run Cert.ChunksIdeal.defs _ _).mono (fun _ h => ⟨fun c => (h.1 c).2, h.2⟩)
    (run_main (F := Ideal) m ρ (ix_in_range m fun d => in_range_of_pre _ _ (hpre d)))

/-- The reference runs. -/
theorem frame_reference : Cert.quiescent_ChunksReferenceIdeal := fun m ρ _ =>
  (θ_run Cert.ChunksReferenceIdeal.defs _ _).mono (fun r h => ⟨fun c => (h c).2, sem_eq_zero_of_no_sems (by decide) r.2⟩)
    (Cert.ChunksReferenceIdeal.Value.run (F := Ideal) m ρ)

/-- Program and reference gather the same chunks. -/
theorem values : Cert.algebraic_ChunksIdeal_ChunksReferenceIdeal := fun m ρ m' ρ' hpre hargs => by
  have hin := ix_in_range m fun d => in_range_of_pre _ _ (hpre d)
  refine ⟨fun c => result m c, ?_, ?_⟩
  · exact (θ_run Cert.ChunksIdeal.defs _ _).mono (fun _ h c => h.1 c) (run_main (F := Ideal) m ρ hin)
  · refine (θ_run Cert.ChunksReferenceIdeal.defs _ _).mono (fun _ h c => ⟨(h c).1.trans ?_, (h c).2⟩)
      (Cert.ChunksReferenceIdeal.Value.run (F := Ideal) m' ρ')
    obtain ⟨h0, h1⟩ := hargs c
    show refResult (m' ((SparseCore.T c).loc Cert.ChunksReferenceIdeal.main_arg0)) (m' ((SparseCore.T c).loc Cert.ChunksReferenceIdeal.main_arg1)) = result m c
    refine Eq.trans ?_ (refResult_eq m hin c)
    exact congrArg₂ refResult h0 h1

end Chunks

namespace Norm

theorem frame : Cert.quiescent_Normalize := fun m ρ _ => Cert.Normalize.Gen.frame m ρ

theorem frame_ideal : Cert.quiescent_NormalizeIdeal := fun m ρ _ => Cert.NormalizeIdeal.Gen.frame m ρ

/-- The reference runs. -/
theorem frame_reference : Cert.quiescent_NormalizeReferenceIdeal := fun m ρ _ =>
  (θ_run Cert.NormalizeReferenceIdeal.defs _ _).mono (fun r h => ⟨fun c => (h c).2, sem_eq_zero_of_no_sems (by decide) r.2⟩)
    (Cert.NormalizeReferenceIdeal.Value.run (F := Ideal) m ρ)

/-- Program and reference scale the same rows to unit length. -/
theorem values : Cert.algebraic_NormalizeIdeal_NormalizeReferenceIdeal := fun m ρ m' ρ' _ hargs => by
  refine ⟨fun c => result m c, run_value m ρ, ?_⟩
  refine (θ_run Cert.NormalizeReferenceIdeal.defs _ _).mono (fun _ h c => ⟨(h c).1.trans ?_, (h c).2⟩)
    (Cert.NormalizeReferenceIdeal.Value.run (F := Ideal) m' ρ')
  refine (Rows.host_eq (n := 4096) _ _ _ _ _ _ _).trans ?_
  exact congrArg (Rows.unitRows (n := 4096)) (hargs c)

end Norm

namespace Sim

theorem frame : Cert.quiescent_Similarity := fun m ρ _ => Cert.Similarity.Gen.frame m ρ

theorem frame_ideal : Cert.quiescent_SimilarityIdeal := fun m ρ _ => Cert.SimilarityIdeal.Gen.frame m ρ

/-- The reference runs. -/
theorem frame_reference : Cert.quiescent_SimilarityReferenceIdeal := fun m ρ _ =>
  (θ_run Cert.SimilarityReferenceIdeal.defs _ _).mono (fun r h => ⟨fun c => (h c).2.2, sem_eq_zero_of_no_sems (by decide) r.2⟩)
    (Cert.SimilarityReferenceIdeal.Value.run (F := Ideal) m ρ)

/-- Program and reference compute the same similarities, and the same maxima of their chunks. -/
theorem values : Cert.algebraic_SimilarityIdeal_SimilarityReferenceIdeal := fun m ρ m' ρ' _ hargs => by
  refine ⟨fun c => result0 m c, fun c => result1 m c, run_value m ρ, ?_⟩
  refine (θ_run Cert.SimilarityReferenceIdeal.defs _ _).mono (fun _ h c => ⟨(h c).1.trans ?_, (h c).2.1.trans ?_, (h c).2.2⟩)
    (Cert.SimilarityReferenceIdeal.Value.run (F := Ideal) m' ρ')
  · rw [Rows.host_eq (n := 100000)]
    refine (host_sims _ _).trans ?_
    exact congrArg₂ sims (hargs c).1 (hargs c).2
  · rw [Rows.host_eq (n := 100000), host_sims]
    refine (host_maxes _).trans ?_
    exact congrArg maxes (congrArg₂ sims (hargs c).1 (hargs c).2)

end Sim

namespace Select

theorem frame : Cert.quiescent_Select := fun m ρ _ => Cert.Select.Gen.frame m ρ

theorem frame_ideal : Cert.quiescent_SelectIdeal := fun m ρ _ => Cert.SelectIdeal.Gen.frame m ρ

/-- The reference runs. -/
theorem frame_reference : Cert.quiescent_SelectReferenceIdeal := fun m ρ _ =>
  (θ_run Cert.SelectReferenceIdeal.defs _ _).mono (fun r h => ⟨fun c => (h c).2.2, sem_eq_zero_of_no_sems (by decide) r.2⟩)
    (Cert.SelectReferenceIdeal.Value.run (F := Ideal) m ρ)

/-- Program and reference choose the same chunks, where all maxima are greater than the constant that overwrites them. -/
theorem values : Cert.algebraic_SelectIdeal_SelectReferenceIdeal_pre_maxima_above_mask := fun m ρ m' ρ' hpre hargs => by
  refine ⟨fun c => result0 m c, fun c => result1 m c, run_value m ρ, ?_⟩
  refine (θ_run Cert.SelectReferenceIdeal.defs _ _).mono (fun _ h c => ⟨(h c).1.trans ?_, (h c).2.1.trans ?_, (h c).2.2⟩)
    (Cert.SelectReferenceIdeal.Value.run (F := Ideal) m' ρ')
  · rw [hargs c]
    exact host_numbered _ _ (host_chosen (n := 4096) _ _ (above_of_pre _ (hpre c))) _ _ _ _
  · rw [hargs c]
    exact host_chosen (n := 4096) _ _ (above_of_pre _ (hpre c))

end Select

namespace Cand

theorem frame : Cert.quiescent_Candidates := fun m ρ _ => Cert.Candidates.Gen.frame m ρ

theorem frame_ideal : Cert.quiescent_CandidatesIdeal := fun m ρ _ => Cert.CandidatesIdeal.Gen.frame m ρ

/-- The reference runs. -/
theorem frame_reference : Cert.quiescent_CandidatesReferenceIdeal := fun m ρ _ =>
  (θ_run Cert.CandidatesReferenceIdeal.defs _ _).mono (fun r h => ⟨fun c => (h c).2.2, sem_eq_zero_of_no_sems (by decide) r.2⟩)
    (Cert.CandidatesReferenceIdeal.Value.run (F := Ideal) m ρ)

/-- Program and reference choose the same candidates with the same weights, where all values are greater than the constant
    that overwrites them and the chunks of a row are different chunks of the database. -/
theorem values : Cert.algebraic_CandidatesIdeal_CandidatesReferenceIdeal_pre_candidates_apart := fun m ρ m' ρ' hpre hargs => by
  have hA := fun c r => apart_of_pre _ _ (hpre c) r
  refine ⟨fun c => result0 m c, fun c => result1 m c, run_value m hA ρ, ?_⟩
  refine (θ_run Cert.CandidatesReferenceIdeal.defs _ _).mono (fun _ h c => ⟨(h c).1.trans ?_, (h c).2.1.trans ?_, (h c).2.2⟩)
    (Cert.CandidatesReferenceIdeal.Value.run (F := Ideal) m' ρ')
  · rw [(hargs c).1, (hargs c).2]
    have hS := sorted_values (n := 4096) _ _ _ (hA c) (host_keys _) Cert.CandidatesReferenceIdeal.Facts₀.slices_S4096x4096_S4096x32_0_0
    refine (host_soft (n := 4096) _ (fun r k => ?_) _ _ _ _ _ _ (by decide)).trans ?_
    · exact ((congrFun hS (ix2 r k)).trans_le (first_greatest k.val)).trans_eq (congrFun hS (ix2 r 0)).symm
    · funext y
      exact congrArg (fun f => share f (y 1)) (funext fun k => congrFun hS (ix2 (y 0) k))
  · rw [(hargs c).1, (hargs c).2]
    exact sorted_keys (n := 4096) _ _ _ (hA c) (host_keys _) _

end Cand

theorem claim : Cert.Claim :=
  ⟨Cert.Retrieve.Gen.facts, Cert.RetrieveIdeal.Gen.facts, Cert.RetrieveReferenceIdeal.Gen.facts,
    Cert.Chunks.Gen.facts, Cert.ChunksIdeal.Gen.facts, Cert.ChunksReferenceIdeal.Gen.facts,
    Cert.Normalize.Gen.facts, Cert.NormalizeIdeal.Gen.facts, Cert.NormalizeReferenceIdeal.Gen.facts,
    Cert.Similarity.Gen.facts, Cert.SimilarityIdeal.Gen.facts, Cert.SimilarityReferenceIdeal.Gen.facts,
    Cert.Select.Gen.facts, Cert.SelectIdeal.Gen.facts, Cert.SelectReferenceIdeal.Gen.facts,
    Cert.Candidates.Gen.facts, Cert.CandidatesIdeal.Gen.facts, Cert.CandidatesReferenceIdeal.Gen.facts,
    Cert.Pre_rows_in_range.Gen.facts, Cert.Pre_chunks_in_range.Gen.facts, Cert.Pre_maxima_above_mask.Gen.facts,
    Cert.Pre_candidates_apart.Gen.facts,
    Tail.frame, Tail.frame_ideal, Tail.frame_reference, fun m ρ _ => Tail.frame_reference m ρ trivial,
    Chunks.frame, Chunks.frame_ideal, Chunks.frame_reference, fun m ρ _ => Chunks.frame_reference m ρ trivial,
    Norm.frame, Norm.frame_ideal, Norm.frame_reference,
    Sim.frame, Sim.frame_ideal, Sim.frame_reference,
    Select.frame, Select.frame_ideal, fun m ρ _ => Select.frame_ideal m ρ trivial, Select.frame_reference, fun m ρ _ => Select.frame_reference m ρ trivial,
    Cand.frame, Cand.frame_ideal, fun m ρ _ => Cand.frame_ideal m ρ trivial, Cand.frame_reference, fun m ρ _ => Cand.frame_reference m ρ trivial,
    trivial, Tail.values, trivial, Chunks.values, trivial, Norm.values, trivial, Sim.values, trivial, Select.values, trivial, Cand.values⟩

end Cert.Proof

end
